-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S10000x3 : Shape := ⟨2, ![10000, 3]⟩
abbrev S10000 : Shape := ⟨1, ![10000]⟩
abbrev S3x128 : Shape := ⟨2, ![3, 128]⟩
abbrev S128 : Shape := ⟨1, ![128]⟩
abbrev S3x256x128 : Shape := ⟨3, ![3, 256, 128]⟩
abbrev S3x128x128 : Shape := ⟨3, ![3, 128, 128]⟩
abbrev S3 : Shape := ⟨1, ![3]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x512 : Shape := ⟨2, ![32, 512]⟩
abbrev S512 : Shape := ⟨1, ![512]⟩
abbrev S_ : Shape := ⟨0, ![]⟩
abbrev S9999 : Shape := ⟨1, ![9999]⟩

class Facts : Prop where
  bcast_S_S3 : S_.BroadcastsInDim S3 (![] : Fin 0 → Fin S3.rank)
  reducesTo_S3_S_d0 : S3.ReducesTo [0] S_
  h_S_ : 0 < S_.numel
  slices_S10000_S9999_0 : S10000.Slices ![0] S9999
  slices_S10000_S9999_1 : S10000.Slices ![1] S9999
  reducesTo_S9999_S_d0 : S9999.ReducesTo [0] S_
  bcast_S_S10000 : S_.BroadcastsInDim S10000 (![] : Fin 0 → Fin S10000.rank)
  reducesTo_S10000_S_d0 : S10000.ReducesTo [0] S_
  bcast_S_S10000x3 : S_.BroadcastsInDim S10000x3 (![] : Fin 0 → Fin S10000x3.rank)
  reducesTo_S10000x3_S_d0_1 : S10000x3.ReducesTo [0, 1] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg2 : FVec F S3x128 .f32) (main_arg15 : FVec F S128x128 .f32) (main_v14 : IVec S_ 1) (main_v15 : FVec F S10000x3 .f32) (main_v16 : FVec F S10000x3 .f32) : IVec S_ 1 :=
  let main_v17 : IVec S10000x3 1 := cmpf .olt main_v15 main_v16
  let main_c_5 : IVec S_ 1 := constantI S_ 1 1#1
  let main_v18 : IVec S_ 1 := (fun x v => Host.reduce IntOp.andi x v reducesTo_S10000x3_S_d0_1 h_S_) main_v17 main_c_5
  let main_v19 : IVec S_ 1 := andi main_v14 main_v18
  let main_v20 : FVec F S3x128 .f32 := Host.absf main_arg2
  let main_cst_6 : FVec F S_ .f32 := constant S_ .f32 0x7F800000#32
  let main_v21 : FVec F S3x128 .f32 := broadcastInDim S3x128 ![] bcast_S_S3x128 main_cst_6
  let main_v22 : IVec S3x128 1 := cmpf .olt main_v20 main_v21
  let main_c_7 : IVec S_ 1 := constantI S_ 1 1#1
  let main_v23 : IVec S_ 1 := (fun x v => Host.reduce IntOp.andi x v reducesTo_S3x128_S_d0_1 h_S_) main_v22 main_c_7
  let main_v24 : IVec S_ 1 := andi main_v19 main_v23
  let main_v25 : FVec F S128x128 .f32 := Host.absf main_arg15
  let main_cst_8 : FVec F S_ .f32 := constant S_ .f32 0x7F800000#32
  let main_v26 : FVec F S128x128 .f32 := broadcastInDim S128x128 ![] bcast_S_S128x128 main_cst_8
  let main_v27 : IVec S128x128 1 := cmpf .olt main_v25 main_v26
  let main_c_9 : IVec S_ 1 := constantI S_ 1 1#1
  let main_v28 : IVec S_ 1 := (fun x v => Host.reduce IntOp.andi x v reducesTo_S128x128_S_d0_1 h_S_) main_v27 main_c_9
  let main_v29 : IVec S_ 1 := andi main_v24 main_v28
  main_v29

def fn {F : FTy → Type} [FloatOps F] (main_arg0 : FVec F S10000x3 .f32) (main_arg1 : IVec S10000 32) (main_arg2 : FVec F S3x128 .f32) (main_arg3 : FVec F S128 .f32) (main_arg4 : FVec F S3x256x128 .f32) (main_arg5 : FVec F S3x128 .f32) (main_arg6 : FVec F S3x128x128 .f32) (main_arg7 : FVec F S3x128 .f32) (main_arg8 : FVec F S3x128x128 .f32) (main_arg9 : FVec F S3x128 .f32) (main_arg10 : FVec F S3x128 .f32) (main_arg11 : FVec F S3x128 .f32) (main_arg12 : FVec F S3x128x128 .f32) (main_arg13 : FVec F S3x128 .f32) (main_arg14 : FVec F S3 .f32) (main_arg15 : FVec F S128x128 .f32) (main_arg16 : FVec F S128 .f32) (main_arg17 : FVec F S128x64 .f32) (main_arg18 : FVec F S64 .f32) (main_arg19 : FVec F S64x32 .f32) (main_arg20 : FVec F S32 .f32) (main_arg21 : FVec F S32x512 .f32) (main_arg22 : FVec F S512 .f32) : IVec S_ 1 :=
  let main_cst : FVec F S_ .f32 := constant S_ .f32 0x00000000#32
  let main_v0 : FVec F S3 .f32 := broadcastInDim S3 ![] bcast_S_S3 main_cst
  let main_v1 : IVec S3 1 := cmpf .oeq main_arg14 main_v0
  let main_c : IVec S_ 1 := constantI S_ 1 1#1
  let main_v2 : IVec S_ 1 := (fun x v => Host.reduce IntOp.andi x v reducesTo_S3_S_d0 h_S_) main_v1 main_c
  let main_v3 : IVec S9999 32 := (extractStridedSlice S9999 ![0] · slices_S10000_S9999_0) main_arg1
  let main_v4 : IVec S9999 32 := (extractStridedSlice S9999 ![1] · slices_S10000_S9999_1) main_arg1
  let main_v5 : IVec S9999 1 := cmpi .sle main_v3 main_v4
  let main_c_0 : IVec S_ 1 := constantI S_ 1 1#1
  let main_v6 : IVec S_ 1 := (fun x v => Host.reduce IntOp.andi x v reducesTo_S9999_S_d0 h_S_) main_v5 main_c_0
  let main_v7 : IVec S_ 1 := andi main_v2 main_v6
  let main_c_1 : IVec S_ 32 := constantI S_ 32 0#32
  let main_v8 : IVec S10000 32 := broadcastInDim S10000 ![] bcast_S_S10000 main_c_1
  let main_v9 : IVec S10000 1 := cmpi .sge main_arg1 main_v8
  let main_c_2 : IVec S_ 32 := constantI S_ 32 8#32
  let main_v10 : IVec S10000 32 := broadcastInDim S10000 ![] bcast_S_S10000 main_c_2
  let main_v11 : IVec S10000 1 := cmpi .slt main_arg1 main_v10
  let main_v12 : IVec S10000 1 := andi main_v9 main_v11
  let main_c_3 : IVec S_ 1 := constantI S_ 1 1#1
  let main_v13 : IVec S_ 1 := (fun x v => Host.reduce IntOp.andi x v reducesTo_S10000_S_d0 h_S_) main_v12 main_c_3
  let main_v14 : IVec S_ 1 := andi main_v7 main_v13
  let main_v15 : FVec F S10000x3 .f32 := Host.absf main_arg0
  let main_cst_4 : FVec F S_ .f32 := constant S_ .f32 0x7F800000#32
  let main_v16 : FVec F S10000x3 .f32 := broadcastInDim S10000x3 ![] bcast_S_S10000x3 main_cst_4
  fn_part1 (F := F) main_arg2 main_arg15 main_v14 main_v15 main_v16
-- ==== Kernel.lean ====
abbrev S10000x3 : Shape := ⟨2, ![10000, 3]⟩
abbrev S10000 : Shape := ⟨1, ![10000]⟩
abbrev S3x128 : Shape := ⟨2, ![3, 128]⟩
abbrev S128 : Shape := ⟨1, ![128]⟩
abbrev S3x256x128 : Shape := ⟨3, ![3, 256, 128]⟩
abbrev S3x128x128 : Shape := ⟨3, ![3, 128, 128]⟩
abbrev S3 : Shape := ⟨1, ![3]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x512 : Shape := ⟨2, ![32, 512]⟩
abbrev S512 : Shape := ⟨1, ![512]⟩
abbrev S3x10000 : Shape := ⟨2, ![3, 10000]⟩
abbrev S8x512 : Shape := ⟨2, ![8, 512]⟩
abbrev S10128x128 : Shape := ⟨2, ![10128, 128]⟩
abbrev S1x128 : Shape := ⟨2, ![1, 128]⟩
abbrev S10000x128 : Shape := ⟨2, ![10000, 128]⟩
abbrev S1x10000 : Shape := ⟨2, ![1, 10000]⟩
abbrev S1 : Shape := ⟨1, ![1]⟩
abbrev S1x1 : Shape := ⟨2, ![1, 1]⟩
abbrev S64x128 : Shape := ⟨2, ![64, 128]⟩
abbrev S8x128 : Shape := ⟨2, ![8, 128]⟩
abbrev S8x64 : Shape := ⟨2, ![8, 64]⟩
abbrev S1x64 : Shape := ⟨2, ![1, 64]⟩
abbrev S8x32 : Shape := ⟨2, ![8, 32]⟩
abbrev S1x32 : Shape := ⟨2, ![1, 32]⟩
abbrev S1x512 : Shape := ⟨2, ![1, 512]⟩

abbrev nBuf : Space → Nat
  | .hbm => 25
  | .vmem => 14
  | .smem => 0
  | _ => 0

abbrev bufTy : (tb : Table) → Fin (tcTables nBuf tb) → BufTy
  | .hbm, ⟨0, _⟩ => ⟨S10000x3, .f32⟩
  | .hbm, ⟨1, _⟩ => ⟨S10000, .i32⟩
  | .hbm, ⟨2, _⟩ => ⟨S3x128, .f32⟩
  | .hbm, ⟨3, _⟩ => ⟨S128, .f32⟩
  | .hbm, ⟨4, _⟩ => ⟨S3x256x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x128x128, .f32⟩
  | .hbm, ⟨9, _⟩ => ⟨S3x128, .f32⟩
  | .hbm, ⟨10, _⟩ => ⟨S3x128, .f32⟩
  | .hbm, ⟨11, _⟩ => ⟨S3x128, .f32⟩
  | .hbm, ⟨12, _⟩ => ⟨S3x128x128, .f32⟩
  | .hbm, ⟨13, _⟩ => ⟨S3x128, .f32⟩
  | .hbm, ⟨14, _⟩ => ⟨S3, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64x32, .f32⟩
  | .hbm, ⟨20, _⟩ => ⟨S32, .f32⟩
  | .hbm, ⟨21, _⟩ => ⟨S32x512, .f32⟩
  | .hbm, ⟨22, _⟩ => ⟨S512, .f32⟩
  | .hbm, ⟨23, _⟩ => ⟨S3x10000, .f32⟩
  | .hbm, ⟨24, _⟩ => ⟨S8x512, .f32⟩
  | .local _ .vmem, ⟨0, _⟩ => ⟨S3x10000, .f32⟩
  | .local _ .vmem, ⟨1, _⟩ => ⟨S10000, .i32⟩
  | .local _ .vmem, ⟨2, _⟩ => ⟨S3x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x32, .f32⟩
  | .local _ .vmem, ⟨9, _⟩ => ⟨S32, .f32⟩
  | .local _ .vmem, ⟨10, _⟩ => ⟨S32x512, .f32⟩
  | .local _ .vmem, ⟨11, _⟩ => ⟨S512, .f32⟩
  | .local _ .vmem, ⟨12, _⟩ => ⟨S8x512, .f32⟩
  | .local _ .vmem, ⟨13, _⟩ => ⟨S10128x128, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop (v25 : BitVec 32) : Scf.Loop 32 :=
  let c0_i32 : BitVec 32 := 0#32
  let c0_i32_21 : BitVec 32 := 0#32
  let v69 : BitVec 1 := Scalar.cmpi .sgt c0_i32 c0_i32_21
  let v70 : BitVec 32 := Scalar.extui v69
  let c0_i32_22 : BitVec 32 := 0#32
  let v71 : BitVec 1 := Scalar.cmpi .slt c0_i32 c0_i32_22
  let v72 : BitVec 32 := Scalar.extui v71
  let v73 : BitVec 32 := Scalar.subi v70 v72
  let c64_i32 : BitVec 32 := 64#32
  let c0_i32_23 : BitVec 32 := 0#32
  let v74 : BitVec 1 := Scalar.cmpi .sgt c64_i32 c0_i32_23
  let v75 : BitVec 32 := Scalar.extui v74
  let c0_i32_24 : BitVec 32 := 0#32
  let v76 : BitVec 1 := Scalar.cmpi .slt c64_i32 c0_i32_24
  let v77 : BitVec 32 := Scalar.extui v76
  let v78 : BitVec 32 := Scalar.subi v75 v77
  let v79 : BitVec 1 := Scalar.cmpi .ne v73 v78
  let v80 : BitVec 32 := Scalar.remsi c0_i32 c64_i32
  let c0_i32_25 : BitVec 32 := 0#32
  let v81 : BitVec 1 := Scalar.cmpi .ne v80 c0_i32_25
  let v82 : BitVec 1 := Scalar.andi v79 v81
  let v68 : BitVec 32 := Scalar.divsi c0_i32 c64_i32
  let c1_i32_26 : BitVec 32 := 1#32
  let v83 : BitVec 32 := Scalar.subi v68 c1_i32_26
  let v84 : BitVec 32 := Scalar.select v82 v83 v68
  let c1_i32_36 : BitVec 32 := 1#32
  let v104 : BitVec 32 := Scalar.addi v84 c1_i32_36
  let c64_i32_27 : BitVec 32 := 64#32
  let v85 : BitVec 32 := Scalar.addi v25 c64_i32_27
  let c1_i32_28 : BitVec 32 := 1#32
  let v86 : BitVec 32 := Scalar.subi v85 c1_i32_28
  let c0_i32_30 : BitVec 32 := 0#32
  let v88 : BitVec 1 := Scalar.cmpi .sgt v86 c0_i32_30
  let v89 : BitVec 32 := Scalar.extui v88
  let c0_i32_31 : BitVec 32 := 0#32
  let v90 : BitVec 1 := Scalar.cmpi .slt v86 c0_i32_31
  let v91 : BitVec 32 := Scalar.extui v90
  let v92 : BitVec 32 := Scalar.subi v89 v91
  let c64_i32_29 : BitVec 32 := 64#32
  let c0_i32_32 : BitVec 32 := 0#32
  let v93 : BitVec 1 := Scalar.cmpi .sgt c64_i32_29 c0_i32_32
  let v94 : BitVec 32 := Scalar.extui v93
  let c0_i32_33 : BitVec 32 := 0#32
  let v95 : BitVec 1 := Scalar.cmpi .slt c64_i32_29 c0_i32_33
  let v96 : BitVec 32 := Scalar.extui v95
  let v97 : BitVec 32 := Scalar.subi v94 v96
  let v98 : BitVec 1 := Scalar.cmpi .ne v92 v97
  let v99 : BitVec 32 := Scalar.remsi v86 c64_i32_29
  let c0_i32_34 : BitVec 32 := 0#32
  let v100 : BitVec 1 := Scalar.cmpi .ne v99 c0_i32_34
  let v101 : BitVec 1 := Scalar.andi v98 v100
  let v87 : BitVec 32 := Scalar.divsi v86 c64_i32_29
  let c1_i32_35 : BitVec 32 := 1#32
  let v102 : BitVec 32 := Scalar.subi v87 c1_i32_35
  let v103 : BitVec 32 := Scalar.select v101 v102 v87
  let c1_i32_37 : BitVec 32 := 1#32
  let v105 : BitVec 32 := Scalar.subi v103 c1_i32_37
  let v107 : BitVec 32 := Scalar.subi v105 v104
  let c1_i32_39 : BitVec 32 := 1#32
  let v109 : BitVec 32 := Scalar.divsi v107 c1_i32_39
  let v110 : BitVec 32 := Scalar.muli v109 c1_i32_39
  let v111 : BitVec 32 := Scalar.addi v104 v110
  let c1_i32_40 : BitVec 32 := 1#32
  ⟨v104, v111, c1_i32_40⟩

def k0_off1 (v25 : BitVec 32) (k0_t1 : Fin (k0_t1_loop v25).trips) : Fin 2 → Nat :=
  let c0_i32 : BitVec 32 := 0#32
  let c0_i32_21 : BitVec 32 := 0#32
  let v69 : BitVec 1 := Scalar.cmpi .sgt c0_i32 c0_i32_21
  let v70 : BitVec 32 := Scalar.extui v69
  let c0_i32_22 : BitVec 32 := 0#32
  let v71 : BitVec 1 := Scalar.cmpi .slt c0_i32 c0_i32_22
  let v72 : BitVec 32 := Scalar.extui v71
  let v73 : BitVec 32 := Scalar.subi v70 v72
  let c64_i32 : BitVec 32 := 64#32
  let c0_i32_23 : BitVec 32 := 0#32
  let v74 : BitVec 1 := Scalar.cmpi .sgt c64_i32 c0_i32_23
  let v75 : BitVec 32 := Scalar.extui v74
  let c0_i32_24 : BitVec 32 := 0#32
  let v76 : BitVec 1 := Scalar.cmpi .slt c64_i32 c0_i32_24
  let v77 : BitVec 32 := Scalar.extui v76
  let v78 : BitVec 32 := Scalar.subi v75 v77
  let v79 : BitVec 1 := Scalar.cmpi .ne v73 v78
  let v80 : BitVec 32 := Scalar.remsi c0_i32 c64_i32
  let c0_i32_25 : BitVec 32 := 0#32
  let v81 : BitVec 1 := Scalar.cmpi .ne v80 c0_i32_25
  let v82 : BitVec 1 := Scalar.andi v79 v81
  let v68 : BitVec 32 := Scalar.divsi c0_i32 c64_i32
  let c1_i32_26 : BitVec 32 := 1#32
  let v83 : BitVec 32 := Scalar.subi v68 c1_i32_26
  let v84 : BitVec 32 := Scalar.select v82 v83 v68
  let c1_i32_36 : BitVec 32 := 1#32
  let v104 : BitVec 32 := Scalar.addi v84 c1_i32_36
  let c1_i32_40 : BitVec 32 := 1#32
  let arg14 : BitVec 32 := Scf.iv v104 c1_i32_40 k0_t1
  let c64_i32_292 : BitVec 32 := 64#32
  let v728 : BitVec 32 := Scalar.muli arg14 c64_i32_292
  let v729 : Index := Scalar.indexCast v728
  let c0_293 : Index := 0#32
  ![v729.toNat, 0]
@[reducible] def k0_t2_loop (v25 : BitVec 32) : Scf.Loop 32 :=
  let c0_i32 : BitVec 32 := 0#32
  let c0_i32_21 : BitVec 32 := 0#32
  let v69 : BitVec 1 := Scalar.cmpi .sgt c0_i32 c0_i32_21
  let v70 : BitVec 32 := Scalar.extui v69
  let c0_i32_22 : BitVec 32 := 0#32
  let v71 : BitVec 1 := Scalar.cmpi .slt c0_i32 c0_i32_22
  let v72 : BitVec 32 := Scalar.extui v71
  let v73 : BitVec 32 := Scalar.subi v70 v72
  let c64_i32 : BitVec 32 := 64#32
  let c0_i32_23 : BitVec 32 := 0#32
  let v74 : BitVec 1 := Scalar.cmpi .sgt c64_i32 c0_i32_23
  let v75 : BitVec 32 := Scalar.extui v74
  let c0_i32_24 : BitVec 32 := 0#32
  let v76 : BitVec 1 := Scalar.cmpi .slt c64_i32 c0_i32_24
  let v77 : BitVec 32 := Scalar.extui v76
  let v78 : BitVec 32 := Scalar.subi v75 v77
  let v79 : BitVec 1 := Scalar.cmpi .ne v73 v78
  let v80 : BitVec 32 := Scalar.remsi c0_i32 c64_i32
  let c0_i32_25 : BitVec 32 := 0#32
  let v81 : BitVec 1 := Scalar.cmpi .ne v80 c0_i32_25
  let v82 : BitVec 1 := Scalar.andi v79 v81
  let v68 : BitVec 32 := Scalar.divsi c0_i32 c64_i32
  let c1_i32_26 : BitVec 32 := 1#32
  let v83 : BitVec 32 := Scalar.subi v68 c1_i32_26
  let v84 : BitVec 32 := Scalar.select v82 v83 v68
  let c1_i32_36 : BitVec 32 := 1#32
  let v104 : BitVec 32 := Scalar.addi v84 c1_i32_36
  let c64_i32_27 : BitVec 32 := 64#32
  let v85 : BitVec 32 := Scalar.addi v25 c64_i32_27
  let c1_i32_28 : BitVec 32 := 1#32
  let v86 : BitVec 32 := Scalar.subi v85 c1_i32_28
  let c0_i32_30 : BitVec 32 := 0#32
  let v88 : BitVec 1 := Scalar.cmpi .sgt v86 c0_i32_30
  let v89 : BitVec 32 := Scalar.extui v88
  let c0_i32_31 : BitVec 32 := 0#32
  let v90 : BitVec 1 := Scalar.cmpi .slt v86 c0_i32_31
  let v91 : BitVec 32 := Scalar.extui v90
  let v92 : BitVec 32 := Scalar.subi v89 v91
  let c64_i32_29 : BitVec 32 := 64#32
  let c0_i32_32 : BitVec 32 := 0#32
  let v93 : BitVec 1 := Scalar.cmpi .sgt c64_i32_29 c0_i32_32
  let v94 : BitVec 32 := Scalar.extui v93
  let c0_i32_33 : BitVec 32 := 0#32
  let v95 : BitVec 1 := Scalar.cmpi .slt c64_i32_29 c0_i32_33
  let v96 : BitVec 32 := Scalar.extui v95
  let v97 : BitVec 32 := Scalar.subi v94 v96
  let v98 : BitVec 1 := Scalar.cmpi .ne v92 v97
  let v99 : BitVec 32 := Scalar.remsi v86 c64_i32_29
  let c0_i32_34 : BitVec 32 := 0#32
  let v100 : BitVec 1 := Scalar.cmpi .ne v99 c0_i32_34
  let v101 : BitVec 1 := Scalar.andi v98 v100
  let v87 : BitVec 32 := Scalar.divsi v86 c64_i32_29
  let c1_i32_35 : BitVec 32 := 1#32
  let v102 : BitVec 32 := Scalar.subi v87 c1_i32_35
  let v103 : BitVec 32 := Scalar.select v101 v102 v87
  let c1_i32_37 : BitVec 32 := 1#32
  let v105 : BitVec 32 := Scalar.subi v103 c1_i32_37
  let v107 : BitVec 32 := Scalar.subi v105 v104
  let c1_i32_39 : BitVec 32 := 1#32
  let v109 : BitVec 32 := Scalar.divsi v107 c1_i32_39
  let v110 : BitVec 32 := Scalar.muli v109 c1_i32_39
  let v111 : BitVec 32 := Scalar.addi v104 v110
  let v108 : BitVec 32 := Scalar.addi v104 v107
  let c1_i32_41 : BitVec 32 := 1#32
  ⟨v111, v108, c1_i32_41⟩
def k0_off2 (v25 : BitVec 32) (k0_t2 : Fin (k0_t2_loop v25).trips) : Fin 2 → Nat :=
  let c0_i32 : BitVec 32 := 0#32
  let c0_i32_21 : BitVec 32 := 0#32
  let v69 : BitVec 1 := Scalar.cmpi .sgt c0_i32 c0_i32_21
  let v70 : BitVec 32 := Scalar.extui v69
  let c0_i32_22 : BitVec 32 := 0#32
  let v71 : BitVec 1 := Scalar.cmpi .slt c0_i32 c0_i32_22
  let v72 : BitVec 32 := Scalar.extui v71
  let v73 : BitVec 32 := Scalar.subi v70 v72
  let c64_i32 : BitVec 32 := 64#32
  let c0_i32_23 : BitVec 32 := 0#32
  let v74 : BitVec 1 := Scalar.cmpi .sgt c64_i32 c0_i32_23
  let v75 : BitVec 32 := Scalar.extui v74
  let c0_i32_24 : BitVec 32 := 0#32
  let v76 : BitVec 1 := Scalar.cmpi .slt c64_i32 c0_i32_24
  let v77 : BitVec 32 := Scalar.extui v76
  let v78 : BitVec 32 := Scalar.subi v75 v77
  let v79 : BitVec 1 := Scalar.cmpi .ne v73 v78
  let v80 : BitVec 32 := Scalar.remsi c0_i32 c64_i32
  let c0_i32_25 : BitVec 32 := 0#32
  let v81 : BitVec 1 := Scalar.cmpi .ne v80 c0_i32_25
  let v82 : BitVec 1 := Scalar.andi v79 v81
  let v68 : BitVec 32 := Scalar.divsi c0_i32 c64_i32
  let c1_i32_26 : BitVec 32 := 1#32
  let v83 : BitVec 32 := Scalar.subi v68 c1_i32_26
  let v84 : BitVec 32 := Scalar.select v82 v83 v68
  let c1_i32_36 : BitVec 32 := 1#32
  let v104 : BitVec 32 := Scalar.addi v84 c1_i32_36
  let c64_i32_27 : BitVec 32 := 64#32
  let v85 : BitVec 32 := Scalar.addi v25 c64_i32_27
  let c1_i32_28 : BitVec 32 := 1#32
  let v86 : BitVec 32 := Scalar.subi v85 c1_i32_28
  let c0_i32_30 : BitVec 32 := 0#32
  let v88 : BitVec 1 := Scalar.cmpi .sgt v86 c0_i32_30
  let v89 : BitVec 32 := Scalar.extui v88
  let c0_i32_31 : BitVec 32 := 0#32
  let v90 : BitVec 1 := Scalar.cmpi .slt v86 c0_i32_31
  let v91 : BitVec 32 := Scalar.extui v90
  let v92 : BitVec 32 := Scalar.subi v89 v91
  let c64_i32_29 : BitVec 32 := 64#32
  let c0_i32_32 : BitVec 32 := 0#32
  let v93 : BitVec 1 := Scalar.cmpi .sgt c64_i32_29 c0_i32_32
  let v94 : BitVec 32 := Scalar.extui v93
  let c0_i32_33 : BitVec 32 := 0#32
  let v95 : BitVec 1 := Scalar.cmpi .slt c64_i32_29 c0_i32_33
  let v96 : BitVec 32 := Scalar.extui v95
  let v97 : BitVec 32 := Scalar.subi v94 v96
  let v98 : BitVec 1 := Scalar.cmpi .ne v92 v97
  let v99 : BitVec 32 := Scalar.remsi v86 c64_i32_29
  let c0_i32_34 : BitVec 32 := 0#32
  let v100 : BitVec 1 := Scalar.cmpi .ne v99 c0_i32_34
  let v101 : BitVec 1 := Scalar.andi v98 v100
  let v87 : BitVec 32 := Scalar.divsi v86 c64_i32_29
  let c1_i32_35 : BitVec 32 := 1#32
  let v102 : BitVec 32 := Scalar.subi v87 c1_i32_35
  let v103 : BitVec 32 := Scalar.select v101 v102 v87
  let c1_i32_37 : BitVec 32 := 1#32
  let v105 : BitVec 32 := Scalar.subi v103 c1_i32_37
  let v107 : BitVec 32 := Scalar.subi v105 v104
  let c1_i32_39 : BitVec 32 := 1#32
  let v109 : BitVec 32 := Scalar.divsi v107 c1_i32_39
  let v110 : BitVec 32 := Scalar.muli v109 c1_i32_39
  let v111 : BitVec 32 := Scalar.addi v104 v110
  let c1_i32_41 : BitVec 32 := 1#32
  let arg14 : BitVec 32 := Scf.iv v111 c1_i32_41 k0_t2
  let c64_i32_292 : BitVec 32 := 64#32
  let v728 : BitVec 32 := Scalar.muli arg14 c64_i32_292
  let v729 : Index := Scalar.indexCast v728
  let c0_293 : Index := 0#32
  ![v729.toNat, 0]
def k0_off3 : Fin 2 → Nat :=
  let c0_i32 : BitVec 32 := 0#32
  let c0_i32_21 : BitVec 32 := 0#32
  let v69 : BitVec 1 := Scalar.cmpi .sgt c0_i32 c0_i32_21
  let v70 : BitVec 32 := Scalar.extui v69
  let c0_i32_22 : BitVec 32 := 0#32
  let v71 : BitVec 1 := Scalar.cmpi .slt c0_i32 c0_i32_22
  let v72 : BitVec 32 := Scalar.extui v71
  let v73 : BitVec 32 := Scalar.subi v70 v72
  let c64_i32 : BitVec 32 := 64#32
  let c0_i32_23 : BitVec 32 := 0#32
  let v74 : BitVec 1 := Scalar.cmpi .sgt c64_i32 c0_i32_23
  let v75 : BitVec 32 := Scalar.extui v74
  let c0_i32_24 : BitVec 32 := 0#32
  let v76 : BitVec 1 := Scalar.cmpi .slt c64_i32 c0_i32_24
  let v77 : BitVec 32 := Scalar.extui v76
  let v78 : BitVec 32 := Scalar.subi v75 v77
  let v79 : BitVec 1 := Scalar.cmpi .ne v73 v78
  let v80 : BitVec 32 := Scalar.remsi c0_i32 c64_i32
  let c0_i32_25 : BitVec 32 := 0#32
  let v81 : BitVec 1 := Scalar.cmpi .ne v80 c0_i32_25
  let v82 : BitVec 1 := Scalar.andi v79 v81
  let v68 : BitVec 32 := Scalar.divsi c0_i32 c64_i32
  let c1_i32_26 : BitVec 32 := 1#32
  let v83 : BitVec 32 := Scalar.subi v68 c1_i32_26
  let v84 : BitVec 32 := Scalar.select v82 v83 v68
  let c64_i32_44 : BitVec 32 := 64#32
  let v116 : BitVec 32 := Scalar.muli v84 c64_i32_44
  let v125 : Index := Scalar.indexCast v116
  let c0_46 : Index := 0#32
  ![v125.toNat, 0]
def k0_off4 (v25 : BitVec 32) : Fin 2 → Nat :=
  let c64_i32_27 : BitVec 32 := 64#32
  let v85 : BitVec 32 := Scalar.addi v25 c64_i32_27
  let c1_i32_28 : BitVec 32 := 1#32
  let v86 : BitVec 32 := Scalar.subi v85 c1_i32_28
  let c0_i32_30 : BitVec 32 := 0#32
  let v88 : BitVec 1 := Scalar.cmpi .sgt v86 c0_i32_30
  let v89 : BitVec 32 := Scalar.extui v88
  let c0_i32_31 : BitVec 32 := 0#32
  let v90 : BitVec 1 := Scalar.cmpi .slt v86 c0_i32_31
  let v91 : BitVec 32 := Scalar.extui v90
  let v92 : BitVec 32 := Scalar.subi v89 v91
  let c64_i32_29 : BitVec 32 := 64#32
  let c0_i32_32 : BitVec 32 := 0#32
  let v93 : BitVec 1 := Scalar.cmpi .sgt c64_i32_29 c0_i32_32
  let v94 : BitVec 32 := Scalar.extui v93
  let c0_i32_33 : BitVec 32 := 0#32
  let v95 : BitVec 1 := Scalar.cmpi .slt c64_i32_29 c0_i32_33
  let v96 : BitVec 32 := Scalar.extui v95
  let v97 : BitVec 32 := Scalar.subi v94 v96
  let v98 : BitVec 1 := Scalar.cmpi .ne v92 v97
  let v99 : BitVec 32 := Scalar.remsi v86 c64_i32_29
  let c0_i32_34 : BitVec 32 := 0#32
  let v100 : BitVec 1 := Scalar.cmpi .ne v99 c0_i32_34
  let v101 : BitVec 1 := Scalar.andi v98 v100
  let v87 : BitVec 32 := Scalar.divsi v86 c64_i32_29
  let c1_i32_35 : BitVec 32 := 1#32
  let v102 : BitVec 32 := Scalar.subi v87 c1_i32_35
  let v103 : BitVec 32 := Scalar.select v101 v102 v87
  let c1_i32_42 : BitVec 32 := 1#32
  let v114 : BitVec 32 := Scalar.subi v103 c1_i32_42
  let c0_i32_43 : BitVec 32 := 0#32
  let v115 : BitVec 32 := Scalar.maxsi v114 c0_i32_43
  let c64_i32_48 : BitVec 32 := 64#32
  let v130 : BitVec 32 := Scalar.muli v115 c64_i32_48
  let v139 : Index := Scalar.indexCast v130
  let c0_50 : Index := 0#32
  ![v139.toNat, 0]
@[reducible] def k0_t3_loop (v25 : BitVec 32) (v32 : BitVec 32) : Scf.Loop 32 :=
  let c0_i32_54 : BitVec 32 := 0#32
  let v147 : BitVec 1 := Scalar.cmpi .sgt v25 c0_i32_54
  let v148 : BitVec 32 := Scalar.extui v147
  let c0_i32_55 : BitVec 32 := 0#32
  let v149 : BitVec 1 := Scalar.cmpi .slt v25 c0_i32_55
  let v150 : BitVec 32 := Scalar.extui v149
  let v151 : BitVec 32 := Scalar.subi v148 v150
  let c64_i32_53 : BitVec 32 := 64#32
  let c0_i32_56 : BitVec 32 := 0#32
  let v152 : BitVec 1 := Scalar.cmpi .sgt c64_i32_53 c0_i32_56
  let v153 : BitVec 32 := Scalar.extui v152
  let c0_i32_57 : BitVec 32 := 0#32
  let v154 : BitVec 1 := Scalar.cmpi .slt c64_i32_53 c0_i32_57
  let v155 : BitVec 32 := Scalar.extui v154
  let v156 : BitVec 32 := Scalar.subi v153 v155
  let v157 : BitVec 1 := Scalar.cmpi .ne v151 v156
  let v158 : BitVec 32 := Scalar.remsi v25 c64_i32_53
  let c0_i32_58 : BitVec 32 := 0#32
  let v159 : BitVec 1 := Scalar.cmpi .ne v158 c0_i32_58
  let v160 : BitVec 1 := Scalar.andi v157 v159
  let v146 : BitVec 32 := Scalar.divsi v25 c64_i32_53
  let c1_i32_59 : BitVec 32 := 1#32
  let v161 : BitVec 32 := Scalar.subi v146 c1_i32_59
  let v162 : BitVec 32 := Scalar.select v160 v161 v146
  let c1_i32_69 : BitVec 32 := 1#32
  let v182 : BitVec 32 := Scalar.addi v162 c1_i32_69
  let c64_i32_60 : BitVec 32 := 64#32
  let v163 : BitVec 32 := Scalar.addi v32 c64_i32_60
  let c1_i32_61 : BitVec 32 := 1#32
  let v164 : BitVec 32 := Scalar.subi v163 c1_i32_61
  let c0_i32_63 : BitVec 32 := 0#32
  let v166 : BitVec 1 := Scalar.cmpi .sgt v164 c0_i32_63
  let v167 : BitVec 32 := Scalar.extui v166
  let c0_i32_64 : BitVec 32 := 0#32
  let v168 : BitVec 1 := Scalar.cmpi .slt v164 c0_i32_64
  let v169 : BitVec 32 := Scalar.extui v168
  let v170 : BitVec 32 := Scalar.subi v167 v169
  let c64_i32_62 : BitVec 32 := 64#32
  let c0_i32_65 : BitVec 32 := 0#32
  let v171 : BitVec 1 := Scalar.cmpi .sgt c64_i32_62 c0_i32_65
  let v172 : BitVec 32 := Scalar.extui v171
  let c0_i32_66 : BitVec 32 := 0#32
  let v173 : BitVec 1 := Scalar.cmpi .slt c64_i32_62 c0_i32_66
  let v174 : BitVec 32 := Scalar.extui v173
  let v175 : BitVec 32 := Scalar.subi v172 v174
  let v176 : BitVec 1 := Scalar.cmpi .ne v170 v175
  let v177 : BitVec 32 := Scalar.remsi v164 c64_i32_62
  let c0_i32_67 : BitVec 32 := 0#32
  let v178 : BitVec 1 := Scalar.cmpi .ne v177 c0_i32_67
  let v179 : BitVec 1 := Scalar.andi v176 v178
  let v165 : BitVec 32 := Scalar.divsi v164 c64_i32_62
  let c1_i32_68 : BitVec 32 := 1#32
  let v180 : BitVec 32 := Scalar.subi v165 c1_i32_68
  let v181 : BitVec 32 := Scalar.select v179 v180 v165
  let c1_i32_70 : BitVec 32 := 1#32
  let v183 : BitVec 32 := Scalar.subi v181 c1_i32_70
  let v185 : BitVec 32 := Scalar.subi v183 v182
  let c1_i32_72 : BitVec 32 := 1#32
  let v187 : BitVec 32 := Scalar.divsi v185 c1_i32_72
  let v188 : BitVec 32 := Scalar.muli v187 c1_i32_72
  let v189 : BitVec 32 := Scalar.addi v182 v188
  let c1_i32_73 : BitVec 32 := 1#32
  ⟨v182, v189, c1_i32_73⟩

def k0_off5 (v25 : BitVec 32) (v32 : BitVec 32) (k0_t3 : Fin (k0_t3_loop v25 v32).trips) : Fin 2 → Nat :=
  let c0_i32_54 : BitVec 32 := 0#32
  let v147 : BitVec 1 := Scalar.cmpi .sgt v25 c0_i32_54
  let v148 : BitVec 32 := Scalar.extui v147
  let c0_i32_55 : BitVec 32 := 0#32
  let v149 : BitVec 1 := Scalar.cmpi .slt v25 c0_i32_55
  let v150 : BitVec 32 := Scalar.extui v149
  let v151 : BitVec 32 := Scalar.subi v148 v150
  let c64_i32_53 : BitVec 32 := 64#32
  let c0_i32_56 : BitVec 32 := 0#32
  let v152 : BitVec 1 := Scalar.cmpi .sgt c64_i32_53 c0_i32_56
  let v153 : BitVec 32 := Scalar.extui v152
  let c0_i32_57 : BitVec 32 := 0#32
  let v154 : BitVec 1 := Scalar.cmpi .slt c64_i32_53 c0_i32_57
  let v155 : BitVec 32 := Scalar.extui v154
  let v156 : BitVec 32 := Scalar.subi v153 v155
  let v157 : BitVec 1 := Scalar.cmpi .ne v151 v156
  let v158 : BitVec 32 := Scalar.remsi v25 c64_i32_53
  let c0_i32_58 : BitVec 32 := 0#32
  let v159 : BitVec 1 := Scalar.cmpi .ne v158 c0_i32_58
  let v160 : BitVec 1 := Scalar.andi v157 v159
  let v146 : BitVec 32 := Scalar.divsi v25 c64_i32_53
  let c1_i32_59 : BitVec 32 := 1#32
  let v161 : BitVec 32 := Scalar.subi v146 c1_i32_59
  let v162 : BitVec 32 := Scalar.select v160 v161 v146
  let c1_i32_69 : BitVec 32 := 1#32
  let v182 : BitVec 32 := Scalar.addi v162 c1_i32_69
  let c1_i32_73 : BitVec 32 := 1#32
  let arg14 : BitVec 32 := Scf.iv v182 c1_i32_73 k0_t3
  let c64_i32_292 : BitVec 32 := 64#32
  let v728 : BitVec 32 := Scalar.muli arg14 c64_i32_292
  let v729 : Index := Scalar.indexCast v728
  let c0_293 : Index := 0#32
  ![v729.toNat, 0]
@[reducible] def k0_t4_loop (v25 : BitVec 32) (v32 : BitVec 32) : Scf.Loop 32 :=
  let c0_i32_54 : BitVec 32 := 0#32
  let v147 : BitVec 1 := Scalar.cmpi .sgt v25 c0_i32_54
  let v148 : BitVec 32 := Scalar.extui v147
  let c0_i32_55 : BitVec 32 := 0#32
  let v149 : BitVec 1 := Scalar.cmpi .slt v25 c0_i32_55
  let v150 : BitVec 32 := Scalar.extui v149
  let v151 : BitVec 32 := Scalar.subi v148 v150
  let c64_i32_53 : BitVec 32 := 64#32
  let c0_i32_56 : BitVec 32 := 0#32
  let v152 : BitVec 1 := Scalar.cmpi .sgt c64_i32_53 c0_i32_56
  let v153 : BitVec 32 := Scalar.extui v152
  let c0_i32_57 : BitVec 32 := 0#32
  let v154 : BitVec 1 := Scalar.cmpi .slt c64_i32_53 c0_i32_57
  let v155 : BitVec 32 := Scalar.extui v154
  let v156 : BitVec 32 := Scalar.subi v153 v155
  let v157 : BitVec 1 := Scalar.cmpi .ne v151 v156
  let v158 : BitVec 32 := Scalar.remsi v25 c64_i32_53
  let c0_i32_58 : BitVec 32 := 0#32
  let v159 : BitVec 1 := Scalar.cmpi .ne v158 c0_i32_58
  let v160 : BitVec 1 := Scalar.andi v157 v159
  let v146 : BitVec 32 := Scalar.divsi v25 c64_i32_53
  let c1_i32_59 : BitVec 32 := 1#32
  let v161 : BitVec 32 := Scalar.subi v146 c1_i32_59
  let v162 : BitVec 32 := Scalar.select v160 v161 v146
  let c1_i32_69 : BitVec 32 := 1#32
  let v182 : BitVec 32 := Scalar.addi v162 c1_i32_69
  let c64_i32_60 : BitVec 32 := 64#32
  let v163 : BitVec 32 := Scalar.addi v32 c64_i32_60
  let c1_i32_61 : BitVec 32 := 1#32
  let v164 : BitVec 32 := Scalar.subi v163 c1_i32_61
  let c0_i32_63 : BitVec 32 := 0#32
  let v166 : BitVec 1 := Scalar.cmpi .sgt v164 c0_i32_63
  let v167 : BitVec 32 := Scalar.extui v166
  let c0_i32_64 : BitVec 32 := 0#32
  let v168 : BitVec 1 := Scalar.cmpi .slt v164 c0_i32_64
  let v169 : BitVec 32 := Scalar.extui v168
  let v170 : BitVec 32 := Scalar.subi v167 v169
  let c64_i32_62 : BitVec 32 := 64#32
  let c0_i32_65 : BitVec 32 := 0#32
  let v171 : BitVec 1 := Scalar.cmpi .sgt c64_i32_62 c0_i32_65
  let v172 : BitVec 32 := Scalar.extui v171
  let c0_i32_66 : BitVec 32 := 0#32
  let v173 : BitVec 1 := Scalar.cmpi .slt c64_i32_62 c0_i32_66
  let v174 : BitVec 32 := Scalar.extui v173
  let v175 : BitVec 32 := Scalar.subi v172 v174
  let v176 : BitVec 1 := Scalar.cmpi .ne v170 v175
  let v177 : BitVec 32 := Scalar.remsi v164 c64_i32_62
  let c0_i32_67 : BitVec 32 := 0#32
  let v178 : BitVec 1 := Scalar.cmpi .ne v177 c0_i32_67
  let v179 : BitVec 1 := Scalar.andi v176 v178
  let v165 : BitVec 32 := Scalar.divsi v164 c64_i32_62
  let c1_i32_68 : BitVec 32 := 1#32
  let v180 : BitVec 32 := Scalar.subi v165 c1_i32_68
  let v181 : BitVec 32 := Scalar.select v179 v180 v165
  let c1_i32_70 : BitVec 32 := 1#32
  let v183 : BitVec 32 := Scalar.subi v181 c1_i32_70
  let v185 : BitVec 32 := Scalar.subi v183 v182
  let c1_i32_72 : BitVec 32 := 1#32
  let v187 : BitVec 32 := Scalar.divsi v185 c1_i32_72
  let v188 : BitVec 32 := Scalar.muli v187 c1_i32_72
  let v189 : BitVec 32 := Scalar.addi v182 v188
  let v186 : BitVec 32 := Scalar.addi v182 v185
  let c1_i32_74 : BitVec 32 := 1#32
  ⟨v189, v186, c1_i32_74⟩
def k0_off6 (v25 : BitVec 32) (v32 : BitVec 32) (k0_t4 : Fin (k0_t4_loop v25 v32).trips) : Fin 2 → Nat :=
  let c0_i32_54 : BitVec 32 := 0#32
  let v147 : BitVec 1 := Scalar.cmpi .sgt v25 c0_i32_54
  let v148 : BitVec 32 := Scalar.extui v147
  let c0_i32_55 : BitVec 32 := 0#32
  let v149 : BitVec 1 := Scalar.cmpi .slt v25 c0_i32_55
  let v150 : BitVec 32 := Scalar.extui v149
  let v151 : BitVec 32 := Scalar.subi v148 v150
  let c64_i32_53 : BitVec 32 := 64#32
  let c0_i32_56 : BitVec 32 := 0#32
  let v152 : BitVec 1 := Scalar.cmpi .sgt c64_i32_53 c0_i32_56
  let v153 : BitVec 32 := Scalar.extui v152
  let c0_i32_57 : BitVec 32 := 0#32
  let v154 : BitVec 1 := Scalar.cmpi .slt c64_i32_53 c0_i32_57
  let v155 : BitVec 32 := Scalar.extui v154
  let v156 : BitVec 32 := Scalar.subi v153 v155
  let v157 : BitVec 1 := Scalar.cmpi .ne v151 v156
  let v158 : BitVec 32 := Scalar.remsi v25 c64_i32_53
  let c0_i32_58 : BitVec 32 := 0#32
  let v159 : BitVec 1 := Scalar.cmpi .ne v158 c0_i32_58
  let v160 : BitVec 1 := Scalar.andi v157 v159
  let v146 : BitVec 32 := Scalar.divsi v25 c64_i32_53
  let c1_i32_59 : BitVec 32 := 1#32
  let v161 : BitVec 32 := Scalar.subi v146 c1_i32_59
  let v162 : BitVec 32 := Scalar.select v160 v161 v146
  let c1_i32_69 : BitVec 32 := 1#32
  let v182 : BitVec 32 := Scalar.addi v162 c1_i32_69
  let c64_i32_60 : BitVec 32 := 64#32
  let v163 : BitVec 32 := Scalar.addi v32 c64_i32_60
  let c1_i32_61 : BitVec 32 := 1#32
  let v164 : BitVec 32 := Scalar.subi v163 c1_i32_61
  let c0_i32_63 : BitVec 32 := 0#32
  let v166 : BitVec 1 := Scalar.cmpi .sgt v164 c0_i32_63
  let v167 : BitVec 32 := Scalar.extui v166
  let c0_i32_64 : BitVec 32 := 0#32
  let v168 : BitVec 1 := Scalar.cmpi .slt v164 c0_i32_64
  let v169 : BitVec 32 := Scalar.extui v168
  let v170 : BitVec 32 := Scalar.subi v167 v169
  let c64_i32_62 : BitVec 32 := 64#32
  let c0_i32_65 : BitVec 32 := 0#32
  let v171 : BitVec 1 := Scalar.cmpi .sgt c64_i32_62 c0_i32_65
  let v172 : BitVec 32 := Scalar.extui v171
  let c0_i32_66 : BitVec 32 := 0#32
  let v173 : BitVec 1 := Scalar.cmpi .slt c64_i32_62 c0_i32_66
  let v174 : BitVec 32 := Scalar.extui v173
  let v175 : BitVec 32 := Scalar.subi v172 v174
  let v176 : BitVec 1 := Scalar.cmpi .ne v170 v175
  let v177 : BitVec 32 := Scalar.remsi v164 c64_i32_62
  let c0_i32_67 : BitVec 32 := 0#32
  let v178 : BitVec 1 := Scalar.cmpi .ne v177 c0_i32_67
  let v179 : BitVec 1 := Scalar.andi v176 v178
  let v165 : BitVec 32 := Scalar.divsi v164 c64_i32_62
  let c1_i32_68 : BitVec 32 := 1#32
  let v180 : BitVec 32 := Scalar.subi v165 c1_i32_68
  let v181 : BitVec 32 := Scalar.select v179 v180 v165
  let c1_i32_70 : BitVec 32 := 1#32
  let v183 : BitVec 32 := Scalar.subi v181 c1_i32_70
  let v185 : BitVec 32 := Scalar.subi v183 v182
  let c1_i32_72 : BitVec 32 := 1#32
  let v187 : BitVec 32 := Scalar.divsi v185 c1_i32_72
  let v188 : BitVec 32 := Scalar.muli v187 c1_i32_72
  let v189 : BitVec 32 := Scalar.addi v182 v188
  let c1_i32_74 : BitVec 32 := 1#32
  let arg14 : BitVec 32 := Scf.iv v189 c1_i32_74 k0_t4
  let c64_i32_292 : BitVec 32 := 64#32
  let v728 : BitVec 32 := Scalar.muli arg14 c64_i32_292
  let v729 : Index := Scalar.indexCast v728
  let c0_293 : Index := 0#32
  ![v729.toNat, 0]
def k0_off7 (v25 : BitVec 32) : Fin 2 → Nat :=
  let c0_i32_54 : BitVec 32 := 0#32
  let v147 : BitVec 1 := Scalar.cmpi .sgt v25 c0_i32_54
  let v148 : BitVec 32 := Scalar.extui v147
  let c0_i32_55 : BitVec 32 := 0#32
  let v149 : BitVec 1 := Scalar.cmpi .slt v25 c0_i32_55
  let v150 : BitVec 32 := Scalar.extui v149
  let v151 : BitVec 32 := Scalar.subi v148 v150
  let c64_i32_53 : BitVec 32 := 64#32
  let c0_i32_56 : BitVec 32 := 0#32
  let v152 : BitVec 1 := Scalar.cmpi .sgt c64_i32_53 c0_i32_56
  let v153 : BitVec 32 := Scalar.extui v152
  let c0_i32_57 : BitVec 32 := 0#32
  let v154 : BitVec 1 := Scalar.cmpi .slt c64_i32_53 c0_i32_57
  let v155 : BitVec 32 := Scalar.extui v154
  let v156 : BitVec 32 := Scalar.subi v153 v155
  let v157 : BitVec 1 := Scalar.cmpi .ne v151 v156
  let v158 : BitVec 32 := Scalar.remsi v25 c64_i32_53
  let c0_i32_58 : BitVec 32 := 0#32
  let v159 : BitVec 1 := Scalar.cmpi .ne v158 c0_i32_58
  let v160 : BitVec 1 := Scalar.andi v157 v159
  let v146 : BitVec 32 := Scalar.divsi v25 c64_i32_53
  let c1_i32_59 : BitVec 32 := 1#32
  let v161 : BitVec 32 := Scalar.subi v146 c1_i32_59
  let v162 : BitVec 32 := Scalar.select v160 v161 v146
  let c64_i32_77 : BitVec 32 := 64#32
  let v194 : BitVec 32 := Scalar.muli v162 c64_i32_77
  let v203 : Index := Scalar.indexCast v194
  let c0_78 : Index := 0#32
  ![v203.toNat, 0]

def k0_chk1 (v25 : BitVec 32) : Prop :=
  ((k0_t1_loop v25).OK) ∧
  (∀ k0_t1 : Fin (k0_t1_loop v25).trips, ∀ a, (k0_off1 v25 k0_t1) a + S64x128.size a ≤ S10128x128.size a) ∧
  ((k0_t2_loop v25).OK) ∧
  (∀ k0_t2 : Fin (k0_t2_loop v25).trips, ∀ a, (k0_off2 v25 k0_t2) a + S64x128.size a ≤ S10128x128.size a) ∧
  (∀ a, (k0_off4 v25) a + S64x128.size a ≤ S10128x128.size a) ∧
  (∀ a, (k0_off7 v25) a + S64x128.size a ≤ S10128x128.size a)
theorem k0_t1_ok : ∀ (v25 : BitVec 32) (k0_hw1 : k0_chk1 v25), (k0_t1_loop v25).OK := fun v25 k0_hw1 => k0_hw1.1
theorem k0_off1_inb : ∀ (v25 : BitVec 32) (k0_hw1 : k0_chk1 v25) (k0_t1 : Fin (k0_t1_loop v25).trips), ∀ a, (k0_off1 v25 k0_t1) a + S64x128.size a ≤ S10128x128.size a := fun v25 k0_hw1 k0_t1 => k0_hw1.2.1 k0_t1
theorem k0_t2_ok : ∀ (v25 : BitVec 32) (k0_hw1 : k0_chk1 v25), (k0_t2_loop v25).OK := fun v25 k0_hw1 => k0_hw1.2.2.1
theorem k0_off2_inb : ∀ (v25 : BitVec 32) (k0_hw1 : k0_chk1 v25) (k0_t2 : Fin (k0_t2_loop v25).trips), ∀ a, (k0_off2 v25 k0_t2) a + S64x128.size a ≤ S10128x128.size a := fun v25 k0_hw1 k0_t2 => k0_hw1.2.2.2.1 k0_t2
theorem k0_off4_inb : ∀ (v25 : BitVec 32) (k0_hw1 : k0_chk1 v25), ∀ a, (k0_off4 v25) a + S64x128.size a ≤ S10128x128.size a := fun v25 k0_hw1 => k0_hw1.2.2.2.2.1
theorem k0_off7_inb : ∀ (v25 : BitVec 32) (k0_hw1 : k0_chk1 v25), ∀ a, (k0_off7 v25) a + S64x128.size a ≤ S10128x128.size a := fun v25 k0_hw1 => k0_hw1.2.2.2.2.2

def k0_off8 (v32 : BitVec 32) : Fin 2 → Nat :=
  let c64_i32_60 : BitVec 32 := 64#32
  let v163 : BitVec 32 := Scalar.addi v32 c64_i32_60
  let c1_i32_61 : BitVec 32 := 1#32
  let v164 : BitVec 32 := Scalar.subi v163 c1_i32_61
  let c0_i32_63 : BitVec 32 := 0#32
  let v166 : BitVec 1 := Scalar.cmpi .sgt v164 c0_i32_63
  let v167 : BitVec 32 := Scalar.extui v166
  let c0_i32_64 : BitVec 32 := 0#32
  let v168 : BitVec 1 := Scalar.cmpi .slt v164 c0_i32_64
  let v169 : BitVec 32 := Scalar.extui v168
  let v170 : BitVec 32 := Scalar.subi v167 v169
  let c64_i32_62 : BitVec 32 := 64#32
  let c0_i32_65 : BitVec 32 := 0#32
  let v171 : BitVec 1 := Scalar.cmpi .sgt c64_i32_62 c0_i32_65
  let v172 : BitVec 32 := Scalar.extui v171
  let c0_i32_66 : BitVec 32 := 0#32
  let v173 : BitVec 1 := Scalar.cmpi .slt c64_i32_62 c0_i32_66
  let v174 : BitVec 32 := Scalar.extui v173
  let v175 : BitVec 32 := Scalar.subi v172 v174
  let v176 : BitVec 1 := Scalar.cmpi .ne v170 v175
  let v177 : BitVec 32 := Scalar.remsi v164 c64_i32_62
  let c0_i32_67 : BitVec 32 := 0#32
  let v178 : BitVec 1 := Scalar.cmpi .ne v177 c0_i32_67
  let v179 : BitVec 1 := Scalar.andi v176 v178
  let v165 : BitVec 32 := Scalar.divsi v164 c64_i32_62
  let c1_i32_68 : BitVec 32 := 1#32
  let v180 : BitVec 32 := Scalar.subi v165 c1_i32_68
  let v181 : BitVec 32 := Scalar.select v179 v180 v165
  let c1_i32_75 : BitVec 32 := 1#32
  let v192 : BitVec 32 := Scalar.subi v181 c1_i32_75
  let c0_i32_76 : BitVec 32 := 0#32
  let v193 : BitVec 32 := Scalar.maxsi v192 c0_i32_76
  let c64_i32_80 : BitVec 32 := 64#32
  let v208 : BitVec 32 := Scalar.muli v193 c64_i32_80
  let v217 : Index := Scalar.indexCast v208
  let c0_81 : Index := 0#32
  ![v217.toNat, 0]
@[reducible] def k0_t5_loop (v32 : BitVec 32) (v39 : BitVec 32) : Scf.Loop 32 :=
  let c0_i32_85 : BitVec 32 := 0#32
  let v225 : BitVec 1 := Scalar.cmpi .sgt v32 c0_i32_85
  let v226 : BitVec 32 := Scalar.extui v225
  let c0_i32_86 : BitVec 32 := 0#32
  let v227 : BitVec 1 := Scalar.cmpi .slt v32 c0_i32_86
  let v228 : BitVec 32 := Scalar.extui v227
  let v229 : BitVec 32 := Scalar.subi v226 v228
  let c64_i32_84 : BitVec 32 := 64#32
  let c0_i32_87 : BitVec 32 := 0#32
  let v230 : BitVec 1 := Scalar.cmpi .sgt c64_i32_84 c0_i32_87
  let v231 : BitVec 32 := Scalar.extui v230
  let c0_i32_88 : BitVec 32 := 0#32
  let v232 : BitVec 1 := Scalar.cmpi .slt c64_i32_84 c0_i32_88
  let v233 : BitVec 32 := Scalar.extui v232
  let v234 : BitVec 32 := Scalar.subi v231 v233
  let v235 : BitVec 1 := Scalar.cmpi .ne v229 v234
  let v236 : BitVec 32 := Scalar.remsi v32 c64_i32_84
  let c0_i32_89 : BitVec 32 := 0#32
  let v237 : BitVec 1 := Scalar.cmpi .ne v236 c0_i32_89
  let v238 : BitVec 1 := Scalar.andi v235 v237
  let v224 : BitVec 32 := Scalar.divsi v32 c64_i32_84
  let c1_i32_90 : BitVec 32 := 1#32
  let v239 : BitVec 32 := Scalar.subi v224 c1_i32_90
  let v240 : BitVec 32 := Scalar.select v238 v239 v224
  let c1_i32_100 : BitVec 32 := 1#32
  let v260 : BitVec 32 := Scalar.addi v240 c1_i32_100
  let c64_i32_91 : BitVec 32 := 64#32
  let v241 : BitVec 32 := Scalar.addi v39 c64_i32_91
  let c1_i32_92 : BitVec 32 := 1#32
  let v242 : BitVec 32 := Scalar.subi v241 c1_i32_92
  let c0_i32_94 : BitVec 32 := 0#32
  let v244 : BitVec 1 := Scalar.cmpi .sgt v242 c0_i32_94
  let v245 : BitVec 32 := Scalar.extui v244
  let c0_i32_95 : BitVec 32 := 0#32
  let v246 : BitVec 1 := Scalar.cmpi .slt v242 c0_i32_95
  let v247 : BitVec 32 := Scalar.extui v246
  let v248 : BitVec 32 := Scalar.subi v245 v247
  let c64_i32_93 : BitVec 32 := 64#32
  let c0_i32_96 : BitVec 32 := 0#32
  let v249 : BitVec 1 := Scalar.cmpi .sgt c64_i32_93 c0_i32_96
  let v250 : BitVec 32 := Scalar.extui v249
  let c0_i32_97 : BitVec 32 := 0#32
  let v251 : BitVec 1 := Scalar.cmpi .slt c64_i32_93 c0_i32_97
  let v252 : BitVec 32 := Scalar.extui v251
  let v253 : BitVec 32 := Scalar.subi v250 v252
  let v254 : BitVec 1 := Scalar.cmpi .ne v248 v253
  let v255 : BitVec 32 := Scalar.remsi v242 c64_i32_93
  let c0_i32_98 : BitVec 32 := 0#32
  let v256 : BitVec 1 := Scalar.cmpi .ne v255 c0_i32_98
  let v257 : BitVec 1 := Scalar.andi v254 v256
  let v243 : BitVec 32 := Scalar.divsi v242 c64_i32_93
  let c1_i32_99 : BitVec 32 := 1#32
  let v258 : BitVec 32 := Scalar.subi v243 c1_i32_99
  let v259 : BitVec 32 := Scalar.select v257 v258 v243
  let c1_i32_101 : BitVec 32 := 1#32
  let v261 : BitVec 32 := Scalar.subi v259 c1_i32_101
  let v263 : BitVec 32 := Scalar.subi v261 v260
  let c1_i32_103 : BitVec 32 := 1#32
  let v265 : BitVec 32 := Scalar.divsi v263 c1_i32_103
  let v266 : BitVec 32 := Scalar.muli v265 c1_i32_103
  let v267 : BitVec 32 := Scalar.addi v260 v266
  let c1_i32_104 : BitVec 32 := 1#32
  ⟨v260, v267, c1_i32_104⟩

def k0_off9 (v32 : BitVec 32) (v39 : BitVec 32) (k0_t5 : Fin (k0_t5_loop v32 v39).trips) : Fin 2 → Nat :=
  let c0_i32_85 : BitVec 32 := 0#32
  let v225 : BitVec 1 := Scalar.cmpi .sgt v32 c0_i32_85
  let v226 : BitVec 32 := Scalar.extui v225
  let c0_i32_86 : BitVec 32 := 0#32
  let v227 : BitVec 1 := Scalar.cmpi .slt v32 c0_i32_86
  let v228 : BitVec 32 := Scalar.extui v227
  let v229 : BitVec 32 := Scalar.subi v226 v228
  let c64_i32_84 : BitVec 32 := 64#32
  let c0_i32_87 : BitVec 32 := 0#32
  let v230 : BitVec 1 := Scalar.cmpi .sgt c64_i32_84 c0_i32_87
  let v231 : BitVec 32 := Scalar.extui v230
  let c0_i32_88 : BitVec 32 := 0#32
  let v232 : BitVec 1 := Scalar.cmpi .slt c64_i32_84 c0_i32_88
  let v233 : BitVec 32 := Scalar.extui v232
  let v234 : BitVec 32 := Scalar.subi v231 v233
  let v235 : BitVec 1 := Scalar.cmpi .ne v229 v234
  let v236 : BitVec 32 := Scalar.remsi v32 c64_i32_84
  let c0_i32_89 : BitVec 32 := 0#32
  let v237 : BitVec 1 := Scalar.cmpi .ne v236 c0_i32_89
  let v238 : BitVec 1 := Scalar.andi v235 v237
  let v224 : BitVec 32 := Scalar.divsi v32 c64_i32_84
  let c1_i32_90 : BitVec 32 := 1#32
  let v239 : BitVec 32 := Scalar.subi v224 c1_i32_90
  let v240 : BitVec 32 := Scalar.select v238 v239 v224
  let c1_i32_100 : BitVec 32 := 1#32
  let v260 : BitVec 32 := Scalar.addi v240 c1_i32_100
  let c1_i32_104 : BitVec 32 := 1#32
  let arg14 : BitVec 32 := Scf.iv v260 c1_i32_104 k0_t5
  let c64_i32_292 : BitVec 32 := 64#32
  let v728 : BitVec 32 := Scalar.muli arg14 c64_i32_292
  let v729 : Index := Scalar.indexCast v728
  let c0_293 : Index := 0#32
  ![v729.toNat, 0]
@[reducible] def k0_t6_loop (v32 : BitVec 32) (v39 : BitVec 32) : Scf.Loop 32 :=
  let c0_i32_85 : BitVec 32 := 0#32
  let v225 : BitVec 1 := Scalar.cmpi .sgt v32 c0_i32_85
  let v226 : BitVec 32 := Scalar.extui v225
  let c0_i32_86 : BitVec 32 := 0#32
  let v227 : BitVec 1 := Scalar.cmpi .slt v32 c0_i32_86
  let v228 : BitVec 32 := Scalar.extui v227
  let v229 : BitVec 32 := Scalar.subi v226 v228
  let c64_i32_84 : BitVec 32 := 64#32
  let c0_i32_87 : BitVec 32 := 0#32
  let v230 : BitVec 1 := Scalar.cmpi .sgt c64_i32_84 c0_i32_87
  let v231 : BitVec 32 := Scalar.extui v230
  let c0_i32_88 : BitVec 32 := 0#32
  let v232 : BitVec 1 := Scalar.cmpi .slt c64_i32_84 c0_i32_88
  let v233 : BitVec 32 := Scalar.extui v232
  let v234 : BitVec 32 := Scalar.subi v231 v233
  let v235 : BitVec 1 := Scalar.cmpi .ne v229 v234
  let v236 : BitVec 32 := Scalar.remsi v32 c64_i32_84
  let c0_i32_89 : BitVec 32 := 0#32
  let v237 : BitVec 1 := Scalar.cmpi .ne v236 c0_i32_89
  let v238 : BitVec 1 := Scalar.andi v235 v237
  let v224 : BitVec 32 := Scalar.divsi v32 c64_i32_84
  let c1_i32_90 : BitVec 32 := 1#32
  let v239 : BitVec 32 := Scalar.subi v224 c1_i32_90
  let v240 : BitVec 32 := Scalar.select v238 v239 v224
  let c1_i32_100 : BitVec 32 := 1#32
  let v260 : BitVec 32 := Scalar.addi v240 c1_i32_100
  let c64_i32_91 : BitVec 32 := 64#32
  let v241 : BitVec 32 := Scalar.addi v39 c64_i32_91
  let c1_i32_92 : BitVec 32 := 1#32
  let v242 : BitVec 32 := Scalar.subi v241 c1_i32_92
  let c0_i32_94 : BitVec 32 := 0#32
  let v244 : BitVec 1 := Scalar.cmpi .sgt v242 c0_i32_94
  let v245 : BitVec 32 := Scalar.extui v244
  let c0_i32_95 : BitVec 32 := 0#32
  let v246 : BitVec 1 := Scalar.cmpi .slt v242 c0_i32_95
  let v247 : BitVec 32 := Scalar.extui v246
  let v248 : BitVec 32 := Scalar.subi v245 v247
  let c64_i32_93 : BitVec 32 := 64#32
  let c0_i32_96 : BitVec 32 := 0#32
  let v249 : BitVec 1 := Scalar.cmpi .sgt c64_i32_93 c0_i32_96
  let v250 : BitVec 32 := Scalar.extui v249
  let c0_i32_97 : BitVec 32 := 0#32
  let v251 : BitVec 1 := Scalar.cmpi .slt c64_i32_93 c0_i32_97
  let v252 : BitVec 32 := Scalar.extui v251
  let v253 : BitVec 32 := Scalar.subi v250 v252
  let v254 : BitVec 1 := Scalar.cmpi .ne v248 v253
  let v255 : BitVec 32 := Scalar.remsi v242 c64_i32_93
  let c0_i32_98 : BitVec 32 := 0#32
  let v256 : BitVec 1 := Scalar.cmpi .ne v255 c0_i32_98
  let v257 : BitVec 1 := Scalar.andi v254 v256
  let v243 : BitVec 32 := Scalar.divsi v242 c64_i32_93
  let c1_i32_99 : BitVec 32 := 1#32
  let v258 : BitVec 32 := Scalar.subi v243 c1_i32_99
  let v259 : BitVec 32 := Scalar.select v257 v258 v243
  let c1_i32_101 : BitVec 32 := 1#32
  let v261 : BitVec 32 := Scalar.subi v259 c1_i32_101
  let v263 : BitVec 32 := Scalar.subi v261 v260
  let c1_i32_103 : BitVec 32 := 1#32
  let v265 : BitVec 32 := Scalar.divsi v263 c1_i32_103
  let v266 : BitVec 32 := Scalar.muli v265 c1_i32_103
  let v267 : BitVec 32 := Scalar.addi v260 v266
  let v264 : BitVec 32 := Scalar.addi v260 v263
  let c1_i32_105 : BitVec 32 := 1#32
  ⟨v267, v264, c1_i32_105⟩
def k0_off10 (v32 : BitVec 32) (v39 : BitVec 32) (k0_t6 : Fin (k0_t6_loop v32 v39).trips) : Fin 2 → Nat :=
  let c0_i32_85 : BitVec 32 := 0#32
  let v225 : BitVec 1 := Scalar.cmpi .sgt v32 c0_i32_85
  let v226 : BitVec 32 := Scalar.extui v225
  let c0_i32_86 : BitVec 32 := 0#32
  let v227 : BitVec 1 := Scalar.cmpi .slt v32 c0_i32_86
  let v228 : BitVec 32 := Scalar.extui v227
  let v229 : BitVec 32 := Scalar.subi v226 v228
  let c64_i32_84 : BitVec 32 := 64#32
  let c0_i32_87 : BitVec 32 := 0#32
  let v230 : BitVec 1 := Scalar.cmpi .sgt c64_i32_84 c0_i32_87
  let v231 : BitVec 32 := Scalar.extui v230
  let c0_i32_88 : BitVec 32 := 0#32
  let v232 : BitVec 1 := Scalar.cmpi .slt c64_i32_84 c0_i32_88
  let v233 : BitVec 32 := Scalar.extui v232
  let v234 : BitVec 32 := Scalar.subi v231 v233
  let v235 : BitVec 1 := Scalar.cmpi .ne v229 v234
  let v236 : BitVec 32 := Scalar.remsi v32 c64_i32_84
  let c0_i32_89 : BitVec 32 := 0#32
  let v237 : BitVec 1 := Scalar.cmpi .ne v236 c0_i32_89
  let v238 : BitVec 1 := Scalar.andi v235 v237
  let v224 : BitVec 32 := Scalar.divsi v32 c64_i32_84
  let c1_i32_90 : BitVec 32 := 1#32
  let v239 : BitVec 32 := Scalar.subi v224 c1_i32_90
  let v240 : BitVec 32 := Scalar.select v238 v239 v224
  let c1_i32_100 : BitVec 32 := 1#32
  let v260 : BitVec 32 := Scalar.addi v240 c1_i32_100
  let c64_i32_91 : BitVec 32 := 64#32
  let v241 : BitVec 32 := Scalar.addi v39 c64_i32_91
  let c1_i32_92 : BitVec 32 := 1#32
  let v242 : BitVec 32 := Scalar.subi v241 c1_i32_92
  let c0_i32_94 : BitVec 32 := 0#32
  let v244 : BitVec 1 := Scalar.cmpi .sgt v242 c0_i32_94
  let v245 : BitVec 32 := Scalar.extui v244
  let c0_i32_95 : BitVec 32 := 0#32
  let v246 : BitVec 1 := Scalar.cmpi .slt v242 c0_i32_95
  let v247 : BitVec 32 := Scalar.extui v246
  let v248 : BitVec 32 := Scalar.subi v245 v247
  let c64_i32_93 : BitVec 32 := 64#32
  let c0_i32_96 : BitVec 32 := 0#32
  let v249 : BitVec 1 := Scalar.cmpi .sgt c64_i32_93 c0_i32_96
  let v250 : BitVec 32 := Scalar.extui v249
  let c0_i32_97 : BitVec 32 := 0#32
  let v251 : BitVec 1 := Scalar.cmpi .slt c64_i32_93 c0_i32_97
  let v252 : BitVec 32 := Scalar.extui v251
  let v253 : BitVec 32 := Scalar.subi v250 v252
  let v254 : BitVec 1 := Scalar.cmpi .ne v248 v253
  let v255 : BitVec 32 := Scalar.remsi v242 c64_i32_93
  let c0_i32_98 : BitVec 32 := 0#32
  let v256 : BitVec 1 := Scalar.cmpi .ne v255 c0_i32_98
  let v257 : BitVec 1 := Scalar.andi v254 v256
  let v243 : BitVec 32 := Scalar.divsi v242 c64_i32_93
  let c1_i32_99 : BitVec 32 := 1#32
  let v258 : BitVec 32 := Scalar.subi v243 c1_i32_99
  let v259 : BitVec 32 := Scalar.select v257 v258 v243
  let c1_i32_101 : BitVec 32 := 1#32
  let v261 : BitVec 32 := Scalar.subi v259 c1_i32_101
  let v263 : BitVec 32 := Scalar.subi v261 v260
  let c1_i32_103 : BitVec 32 := 1#32
  let v265 : BitVec 32 := Scalar.divsi v263 c1_i32_103
  let v266 : BitVec 32 := Scalar.muli v265 c1_i32_103
  let v267 : BitVec 32 := Scalar.addi v260 v266
  let c1_i32_105 : BitVec 32 := 1#32
  let arg14 : BitVec 32 := Scf.iv v267 c1_i32_105 k0_t6
  let c64_i32_292 : BitVec 32 := 64#32
  let v728 : BitVec 32 := Scalar.muli arg14 c64_i32_292
  let v729 : Index := Scalar.indexCast v728
  let c0_293 : Index := 0#32
  ![v729.toNat, 0]
def k0_off11 (v32 : BitVec 32) : Fin 2 → Nat :=
  let c0_i32_85 : BitVec 32 := 0#32
  let v225 : BitVec 1 := Scalar.cmpi .sgt v32 c0_i32_85
  let v226 : BitVec 32 := Scalar.extui v225
  let c0_i32_86 : BitVec 32 := 0#32
  let v227 : BitVec 1 := Scalar.cmpi .slt v32 c0_i32_86
  let v228 : BitVec 32 := Scalar.extui v227
  let v229 : BitVec 32 := Scalar.subi v226 v228
  let c64_i32_84 : BitVec 32 := 64#32
  let c0_i32_87 : BitVec 32 := 0#32
  let v230 : BitVec 1 := Scalar.cmpi .sgt c64_i32_84 c0_i32_87
  let v231 : BitVec 32 := Scalar.extui v230
  let c0_i32_88 : BitVec 32 := 0#32
  let v232 : BitVec 1 := Scalar.cmpi .slt c64_i32_84 c0_i32_88
  let v233 : BitVec 32 := Scalar.extui v232
  let v234 : BitVec 32 := Scalar.subi v231 v233
  let v235 : BitVec 1 := Scalar.cmpi .ne v229 v234
  let v236 : BitVec 32 := Scalar.remsi v32 c64_i32_84
  let c0_i32_89 : BitVec 32 := 0#32
  let v237 : BitVec 1 := Scalar.cmpi .ne v236 c0_i32_89
  let v238 : BitVec 1 := Scalar.andi v235 v237
  let v224 : BitVec 32 := Scalar.divsi v32 c64_i32_84
  let c1_i32_90 : BitVec 32 := 1#32
  let v239 : BitVec 32 := Scalar.subi v224 c1_i32_90
  let v240 : BitVec 32 := Scalar.select v238 v239 v224
  let c64_i32_108 : BitVec 32 := 64#32
  let v272 : BitVec 32 := Scalar.muli v240 c64_i32_108
  let v281 : Index := Scalar.indexCast v272
  let c0_109 : Index := 0#32
  ![v281.toNat, 0]

def k0_chk2 (v25 : BitVec 32) (v32 : BitVec 32) : Prop :=
  ((k0_t3_loop v25 v32).OK) ∧
  (∀ k0_t3 : Fin (k0_t3_loop v25 v32).trips, ∀ a, (k0_off5 v25 v32 k0_t3) a + S64x128.size a ≤ S10128x128.size a) ∧
  ((k0_t4_loop v25 v32).OK) ∧
  (∀ k0_t4 : Fin (k0_t4_loop v25 v32).trips, ∀ a, (k0_off6 v25 v32 k0_t4) a + S64x128.size a ≤ S10128x128.size a) ∧
  (∀ a, (k0_off8 v32) a + S64x128.size a ≤ S10128x128.size a) ∧
  (∀ a, (k0_off11 v32) a + S64x128.size a ≤ S10128x128.size a)
theorem k0_t3_ok : ∀ (v25 : BitVec 32) (v32 : BitVec 32) (k0_hw2 : k0_chk2 v25 v32), (k0_t3_loop v25 v32).OK := fun v25 v32 k0_hw2 => k0_hw2.1
theorem k0_off5_inb : ∀ (v25 : BitVec 32) (v32 : BitVec 32) (k0_hw2 : k0_chk2 v25 v32) (k0_t3 : Fin (k0_t3_loop v25 v32).trips), ∀ a, (k0_off5 v25 v32 k0_t3) a + S64x128.size a ≤ S10128x128.size a := fun v25 v32 k0_hw2 k0_t3 => k0_hw2.2.1 k0_t3
theorem k0_t4_ok : ∀ (v25 : BitVec 32) (v32 : BitVec 32) (k0_hw2 : k0_chk2 v25 v32), (k0_t4_loop v25 v32).OK := fun v25 v32 k0_hw2 => k0_hw2.2.2.1
theorem k0_off6_inb : ∀ (v25 : BitVec 32) (v32 : BitVec 32) (k0_hw2 : k0_chk2 v25 v32) (k0_t4 : Fin (k0_t4_loop v25 v32).trips), ∀ a, (k0_off6 v25 v32 k0_t4) a + S64x128.size a ≤ S10128x128.size a := fun v25 v32 k0_hw2 k0_t4 => k0_hw2.2.2.2.1 k0_t4
theorem k0_off8_inb : ∀ (v25 : BitVec 32) (v32 : BitVec 32) (k0_hw2 : k0_chk2 v25 v32), ∀ a, (k0_off8 v32) a + S64x128.size a ≤ S10128x128.size a := fun v25 v32 k0_hw2 => k0_hw2.2.2.2.2.1
theorem k0_off11_inb : ∀ (v25 : BitVec 32) (v32 : BitVec 32) (k0_hw2 : k0_chk2 v25 v32), ∀ a, (k0_off11 v32) a + S64x128.size a ≤ S10128x128.size a := fun v25 v32 k0_hw2 => k0_hw2.2.2.2.2.2

def k0_off12 (v39 : BitVec 32) : Fin 2 → Nat :=
  let c64_i32_91 : BitVec 32 := 64#32
  let v241 : BitVec 32 := Scalar.addi v39 c64_i32_91
  let c1_i32_92 : BitVec 32 := 1#32
  let v242 : BitVec 32 := Scalar.subi v241 c1_i32_92
  let c0_i32_94 : BitVec 32 := 0#32
  let v244 : BitVec 1 := Scalar.cmpi .sgt v242 c0_i32_94
  let v245 : BitVec 32 := Scalar.extui v244
  let c0_i32_95 : BitVec 32 := 0#32
  let v246 : BitVec 1 := Scalar.cmpi .slt v242 c0_i32_95
  let v247 : BitVec 32 := Scalar.extui v246
  let v248 : BitVec 32 := Scalar.subi v245 v247
  let c64_i32_93 : BitVec 32 := 64#32
  let c0_i32_96 : BitVec 32 := 0#32
  let v249 : BitVec 1 := Scalar.cmpi .sgt c64_i32_93 c0_i32_96
  let v250 : BitVec 32 := Scalar.extui v249
  let c0_i32_97 : BitVec 32 := 0#32
  let v251 : BitVec 1 := Scalar.cmpi .slt c64_i32_93 c0_i32_97
  let v252 : BitVec 32 := Scalar.extui v251
  let v253 : BitVec 32 := Scalar.subi v250 v252
  let v254 : BitVec 1 := Scalar.cmpi .ne v248 v253
  let v255 : BitVec 32 := Scalar.remsi v242 c64_i32_93
  let c0_i32_98 : BitVec 32 := 0#32
  let v256 : BitVec 1 := Scalar.cmpi .ne v255 c0_i32_98
  let v257 : BitVec 1 := Scalar.andi v254 v256
  let v243 : BitVec 32 := Scalar.divsi v242 c64_i32_93
  let c1_i32_99 : BitVec 32 := 1#32
  let v258 : BitVec 32 := Scalar.subi v243 c1_i32_99
  let v259 : BitVec 32 := Scalar.select v257 v258 v243
  let c1_i32_106 : BitVec 32 := 1#32
  let v270 : BitVec 32 := Scalar.subi v259 c1_i32_106
  let c0_i32_107 : BitVec 32 := 0#32
  let v271 : BitVec 32 := Scalar.maxsi v270 c0_i32_107
  let c64_i32_111 : BitVec 32 := 64#32
  let v286 : BitVec 32 := Scalar.muli v271 c64_i32_111
  let v295 : Index := Scalar.indexCast v286
  let c0_112 : Index := 0#32
  ![v295.toNat, 0]
@[reducible] def k0_t7_loop (v39 : BitVec 32) (v46 : BitVec 32) : Scf.Loop 32 :=
  let c0_i32_116 : BitVec 32 := 0#32
  let v303 : BitVec 1 := Scalar.cmpi .sgt v39 c0_i32_116
  let v304 : BitVec 32 := Scalar.extui v303
  let c0_i32_117 : BitVec 32 := 0#32
  let v305 : BitVec 1 := Scalar.cmpi .slt v39 c0_i32_117
  let v306 : BitVec 32 := Scalar.extui v305
  let v307 : BitVec 32 := Scalar.subi v304 v306
  let c64_i32_115 : BitVec 32 := 64#32
  let c0_i32_118 : BitVec 32 := 0#32
  let v308 : BitVec 1 := Scalar.cmpi .sgt c64_i32_115 c0_i32_118
  let v309 : BitVec 32 := Scalar.extui v308
  let c0_i32_119 : BitVec 32 := 0#32
  let v310 : BitVec 1 := Scalar.cmpi .slt c64_i32_115 c0_i32_119
  let v311 : BitVec 32 := Scalar.extui v310
  let v312 : BitVec 32 := Scalar.subi v309 v311
  let v313 : BitVec 1 := Scalar.cmpi .ne v307 v312
  let v314 : BitVec 32 := Scalar.remsi v39 c64_i32_115
  let c0_i32_120 : BitVec 32 := 0#32
  let v315 : BitVec 1 := Scalar.cmpi .ne v314 c0_i32_120
  let v316 : BitVec 1 := Scalar.andi v313 v315
  let v302 : BitVec 32 := Scalar.divsi v39 c64_i32_115
  let c1_i32_121 : BitVec 32 := 1#32
  let v317 : BitVec 32 := Scalar.subi v302 c1_i32_121
  let v318 : BitVec 32 := Scalar.select v316 v317 v302
  let c1_i32_131 : BitVec 32 := 1#32
  let v338 : BitVec 32 := Scalar.addi v318 c1_i32_131
  let c64_i32_122 : BitVec 32 := 64#32
  let v319 : BitVec 32 := Scalar.addi v46 c64_i32_122
  let c1_i32_123 : BitVec 32 := 1#32
  let v320 : BitVec 32 := Scalar.subi v319 c1_i32_123
  let c0_i32_125 : BitVec 32 := 0#32
  let v322 : BitVec 1 := Scalar.cmpi .sgt v320 c0_i32_125
  let v323 : BitVec 32 := Scalar.extui v322
  let c0_i32_126 : BitVec 32 := 0#32
  let v324 : BitVec 1 := Scalar.cmpi .slt v320 c0_i32_126
  let v325 : BitVec 32 := Scalar.extui v324
  let v326 : BitVec 32 := Scalar.subi v323 v325
  let c64_i32_124 : BitVec 32 := 64#32
  let c0_i32_127 : BitVec 32 := 0#32
  let v327 : BitVec 1 := Scalar.cmpi .sgt c64_i32_124 c0_i32_127
  let v328 : BitVec 32 := Scalar.extui v327
  let c0_i32_128 : BitVec 32 := 0#32
  let v329 : BitVec 1 := Scalar.cmpi .slt c64_i32_124 c0_i32_128
  let v330 : BitVec 32 := Scalar.extui v329
  let v331 : BitVec 32 := Scalar.subi v328 v330
  let v332 : BitVec 1 := Scalar.cmpi .ne v326 v331
  let v333 : BitVec 32 := Scalar.remsi v320 c64_i32_124
  let c0_i32_129 : BitVec 32 := 0#32
  let v334 : BitVec 1 := Scalar.cmpi .ne v333 c0_i32_129
  let v335 : BitVec 1 := Scalar.andi v332 v334
  let v321 : BitVec 32 := Scalar.divsi v320 c64_i32_124
  let c1_i32_130 : BitVec 32 := 1#32
  let v336 : BitVec 32 := Scalar.subi v321 c1_i32_130
  let v337 : BitVec 32 := Scalar.select v335 v336 v321
  let c1_i32_132 : BitVec 32 := 1#32
  let v339 : BitVec 32 := Scalar.subi v337 c1_i32_132
  let v341 : BitVec 32 := Scalar.subi v339 v338
  let c1_i32_134 : BitVec 32 := 1#32
  let v343 : BitVec 32 := Scalar.divsi v341 c1_i32_134
  let v344 : BitVec 32 := Scalar.muli v343 c1_i32_134
  let v345 : BitVec 32 := Scalar.addi v338 v344
  let c1_i32_135 : BitVec 32 := 1#32
  ⟨v338, v345, c1_i32_135⟩

def k0_off13 (v39 : BitVec 32) (v46 : BitVec 32) (k0_t7 : Fin (k0_t7_loop v39 v46).trips) : Fin 2 → Nat :=
  let c0_i32_116 : BitVec 32 := 0#32
  let v303 : BitVec 1 := Scalar.cmpi .sgt v39 c0_i32_116
  let v304 : BitVec 32 := Scalar.extui v303
  let c0_i32_117 : BitVec 32 := 0#32
  let v305 : BitVec 1 := Scalar.cmpi .slt v39 c0_i32_117
  let v306 : BitVec 32 := Scalar.extui v305
  let v307 : BitVec 32 := Scalar.subi v304 v306
  let c64_i32_115 : BitVec 32 := 64#32
  let c0_i32_118 : BitVec 32 := 0#32
  let v308 : BitVec 1 := Scalar.cmpi .sgt c64_i32_115 c0_i32_118
  let v309 : BitVec 32 := Scalar.extui v308
  let c0_i32_119 : BitVec 32 := 0#32
  let v310 : BitVec 1 := Scalar.cmpi .slt c64_i32_115 c0_i32_119
  let v311 : BitVec 32 := Scalar.extui v310
  let v312 : BitVec 32 := Scalar.subi v309 v311
  let v313 : BitVec 1 := Scalar.cmpi .ne v307 v312
  let v314 : BitVec 32 := Scalar.remsi v39 c64_i32_115
  let c0_i32_120 : BitVec 32 := 0#32
  let v315 : BitVec 1 := Scalar.cmpi .ne v314 c0_i32_120
  let v316 : BitVec 1 := Scalar.andi v313 v315
  let v302 : BitVec 32 := Scalar.divsi v39 c64_i32_115
  let c1_i32_121 : BitVec 32 := 1#32
  let v317 : BitVec 32 := Scalar.subi v302 c1_i32_121
  let v318 : BitVec 32 := Scalar.select v316 v317 v302
  let c1_i32_131 : BitVec 32 := 1#32
  let v338 : BitVec 32 := Scalar.addi v318 c1_i32_131
  let c1_i32_135 : BitVec 32 := 1#32
  let arg14 : BitVec 32 := Scf.iv v338 c1_i32_135 k0_t7
  let c64_i32_292 : BitVec 32 := 64#32
  let v728 : BitVec 32 := Scalar.muli arg14 c64_i32_292
  let v729 : Index := Scalar.indexCast v728
  let c0_293 : Index := 0#32
  ![v729.toNat, 0]
@[reducible] def k0_t8_loop (v39 : BitVec 32) (v46 : BitVec 32) : Scf.Loop 32 :=
  let c0_i32_116 : BitVec 32 := 0#32
  let v303 : BitVec 1 := Scalar.cmpi .sgt v39 c0_i32_116
  let v304 : BitVec 32 := Scalar.extui v303
  let c0_i32_117 : BitVec 32 := 0#32
  let v305 : BitVec 1 := Scalar.cmpi .slt v39 c0_i32_117
  let v306 : BitVec 32 := Scalar.extui v305
  let v307 : BitVec 32 := Scalar.subi v304 v306
  let c64_i32_115 : BitVec 32 := 64#32
  let c0_i32_118 : BitVec 32 := 0#32
  let v308 : BitVec 1 := Scalar.cmpi .sgt c64_i32_115 c0_i32_118
  let v309 : BitVec 32 := Scalar.extui v308
  let c0_i32_119 : BitVec 32 := 0#32
  let v310 : BitVec 1 := Scalar.cmpi .slt c64_i32_115 c0_i32_119
  let v311 : BitVec 32 := Scalar.extui v310
  let v312 : BitVec 32 := Scalar.subi v309 v311
  let v313 : BitVec 1 := Scalar.cmpi .ne v307 v312
  let v314 : BitVec 32 := Scalar.remsi v39 c64_i32_115
  let c0_i32_120 : BitVec 32 := 0#32
  let v315 : BitVec 1 := Scalar.cmpi .ne v314 c0_i32_120
  let v316 : BitVec 1 := Scalar.andi v313 v315
  let v302 : BitVec 32 := Scalar.divsi v39 c64_i32_115
  let c1_i32_121 : BitVec 32 := 1#32
  let v317 : BitVec 32 := Scalar.subi v302 c1_i32_121
  let v318 : BitVec 32 := Scalar.select v316 v317 v302
  let c1_i32_131 : BitVec 32 := 1#32
  let v338 : BitVec 32 := Scalar.addi v318 c1_i32_131
  let c64_i32_122 : BitVec 32 := 64#32
  let v319 : BitVec 32 := Scalar.addi v46 c64_i32_122
  let c1_i32_123 : BitVec 32 := 1#32
  let v320 : BitVec 32 := Scalar.subi v319 c1_i32_123
  let c0_i32_125 : BitVec 32 := 0#32
  let v322 : BitVec 1 := Scalar.cmpi .sgt v320 c0_i32_125
  let v323 : BitVec 32 := Scalar.extui v322
  let c0_i32_126 : BitVec 32 := 0#32
  let v324 : BitVec 1 := Scalar.cmpi .slt v320 c0_i32_126
  let v325 : BitVec 32 := Scalar.extui v324
  let v326 : BitVec 32 := Scalar.subi v323 v325
  let c64_i32_124 : BitVec 32 := 64#32
  let c0_i32_127 : BitVec 32 := 0#32
  let v327 : BitVec 1 := Scalar.cmpi .sgt c64_i32_124 c0_i32_127
  let v328 : BitVec 32 := Scalar.extui v327
  let c0_i32_128 : BitVec 32 := 0#32
  let v329 : BitVec 1 := Scalar.cmpi .slt c64_i32_124 c0_i32_128
  let v330 : BitVec 32 := Scalar.extui v329
  let v331 : BitVec 32 := Scalar.subi v328 v330
  let v332 : BitVec 1 := Scalar.cmpi .ne v326 v331
  let v333 : BitVec 32 := Scalar.remsi v320 c64_i32_124
  let c0_i32_129 : BitVec 32 := 0#32
  let v334 : BitVec 1 := Scalar.cmpi .ne v333 c0_i32_129
  let v335 : BitVec 1 := Scalar.andi v332 v334
  let v321 : BitVec 32 := Scalar.divsi v320 c64_i32_124
  let c1_i32_130 : BitVec 32 := 1#32
  let v336 : BitVec 32 := Scalar.subi v321 c1_i32_130
  let v337 : BitVec 32 := Scalar.select v335 v336 v321
  let c1_i32_132 : BitVec 32 := 1#32
  let v339 : BitVec 32 := Scalar.subi v337 c1_i32_132
  let v341 : BitVec 32 := Scalar.subi v339 v338
  let c1_i32_134 : BitVec 32 := 1#32
  let v343 : BitVec 32 := Scalar.divsi v341 c1_i32_134
  let v344 : BitVec 32 := Scalar.muli v343 c1_i32_134
  let v345 : BitVec 32 := Scalar.addi v338 v344
  let v342 : BitVec 32 := Scalar.addi v338 v341
  let c1_i32_136 : BitVec 32 := 1#32
  ⟨v345, v342, c1_i32_136⟩
def k0_off14 (v39 : BitVec 32) (v46 : BitVec 32) (k0_t8 : Fin (k0_t8_loop v39 v46).trips) : Fin 2 → Nat :=
  let c0_i32_116 : BitVec 32 := 0#32
  let v303 : BitVec 1 := Scalar.cmpi .sgt v39 c0_i32_116
  let v304 : BitVec 32 := Scalar.extui v303
  let c0_i32_117 : BitVec 32 := 0#32
  let v305 : BitVec 1 := Scalar.cmpi .slt v39 c0_i32_117
  let v306 : BitVec 32 := Scalar.extui v305
  let v307 : BitVec 32 := Scalar.subi v304 v306
  let c64_i32_115 : BitVec 32 := 64#32
  let c0_i32_118 : BitVec 32 := 0#32
  let v308 : BitVec 1 := Scalar.cmpi .sgt c64_i32_115 c0_i32_118
  let v309 : BitVec 32 := Scalar.extui v308
  let c0_i32_119 : BitVec 32 := 0#32
  let v310 : BitVec 1 := Scalar.cmpi .slt c64_i32_115 c0_i32_119
  let v311 : BitVec 32 := Scalar.extui v310
  let v312 : BitVec 32 := Scalar.subi v309 v311
  let v313 : BitVec 1 := Scalar.cmpi .ne v307 v312
  let v314 : BitVec 32 := Scalar.remsi v39 c64_i32_115
  let c0_i32_120 : BitVec 32 := 0#32
  let v315 : BitVec 1 := Scalar.cmpi .ne v314 c0_i32_120
  let v316 : BitVec 1 := Scalar.andi v313 v315
  let v302 : BitVec 32 := Scalar.divsi v39 c64_i32_115
  let c1_i32_121 : BitVec 32 := 1#32
  let v317 : BitVec 32 := Scalar.subi v302 c1_i32_121
  let v318 : BitVec 32 := Scalar.select v316 v317 v302
  let c1_i32_131 : BitVec 32 := 1#32
  let v338 : BitVec 32 := Scalar.addi v318 c1_i32_131
  let c64_i32_122 : BitVec 32 := 64#32
  let v319 : BitVec 32 := Scalar.addi v46 c64_i32_122
  let c1_i32_123 : BitVec 32 := 1#32
  let v320 : BitVec 32 := Scalar.subi v319 c1_i32_123
  let c0_i32_125 : BitVec 32 := 0#32
  let v322 : BitVec 1 := Scalar.cmpi .sgt v320 c0_i32_125
  let v323 : BitVec 32 := Scalar.extui v322
  let c0_i32_126 : BitVec 32 := 0#32
  let v324 : BitVec 1 := Scalar.cmpi .slt v320 c0_i32_126
  let v325 : BitVec 32 := Scalar.extui v324
  let v326 : BitVec 32 := Scalar.subi v323 v325
  let c64_i32_124 : BitVec 32 := 64#32
  let c0_i32_127 : BitVec 32 := 0#32
  let v327 : BitVec 1 := Scalar.cmpi .sgt c64_i32_124 c0_i32_127
  let v328 : BitVec 32 := Scalar.extui v327
  let c0_i32_128 : BitVec 32 := 0#32
  let v329 : BitVec 1 := Scalar.cmpi .slt c64_i32_124 c0_i32_128
  let v330 : BitVec 32 := Scalar.extui v329
  let v331 : BitVec 32 := Scalar.subi v328 v330
  let v332 : BitVec 1 := Scalar.cmpi .ne v326 v331
  let v333 : BitVec 32 := Scalar.remsi v320 c64_i32_124
  let c0_i32_129 : BitVec 32 := 0#32
  let v334 : BitVec 1 := Scalar.cmpi .ne v333 c0_i32_129
  let v335 : BitVec 1 := Scalar.andi v332 v334
  let v321 : BitVec 32 := Scalar.divsi v320 c64_i32_124
  let c1_i32_130 : BitVec 32 := 1#32
  let v336 : BitVec 32 := Scalar.subi v321 c1_i32_130
  let v337 : BitVec 32 := Scalar.select v335 v336 v321
  let c1_i32_132 : BitVec 32 := 1#32
  let v339 : BitVec 32 := Scalar.subi v337 c1_i32_132
  let v341 : BitVec 32 := Scalar.subi v339 v338
  let c1_i32_134 : BitVec 32 := 1#32
  let v343 : BitVec 32 := Scalar.divsi v341 c1_i32_134
  let v344 : BitVec 32 := Scalar.muli v343 c1_i32_134
  let v345 : BitVec 32 := Scalar.addi v338 v344
  let c1_i32_136 : BitVec 32 := 1#32
  let arg14 : BitVec 32 := Scf.iv v345 c1_i32_136 k0_t8
  let c64_i32_292 : BitVec 32 := 64#32
  let v728 : BitVec 32 := Scalar.muli arg14 c64_i32_292
  let v729 : Index := Scalar.indexCast v728
  let c0_293 : Index := 0#32
  ![v729.toNat, 0]
def k0_off15 (v39 : BitVec 32) : Fin 2 → Nat :=
  let c0_i32_116 : BitVec 32 := 0#32
  let v303 : BitVec 1 := Scalar.cmpi .sgt v39 c0_i32_116
  let v304 : BitVec 32 := Scalar.extui v303
  let c0_i32_117 : BitVec 32 := 0#32
  let v305 : BitVec 1 := Scalar.cmpi .slt v39 c0_i32_117
  let v306 : BitVec 32 := Scalar.extui v305
  let v307 : BitVec 32 := Scalar.subi v304 v306
  let c64_i32_115 : BitVec 32 := 64#32
  let c0_i32_118 : BitVec 32 := 0#32
  let v308 : BitVec 1 := Scalar.cmpi .sgt c64_i32_115 c0_i32_118
  let v309 : BitVec 32 := Scalar.extui v308
  let c0_i32_119 : BitVec 32 := 0#32
  let v310 : BitVec 1 := Scalar.cmpi .slt c64_i32_115 c0_i32_119
  let v311 : BitVec 32 := Scalar.extui v310
  let v312 : BitVec 32 := Scalar.subi v309 v311
  let v313 : BitVec 1 := Scalar.cmpi .ne v307 v312
  let v314 : BitVec 32 := Scalar.remsi v39 c64_i32_115
  let c0_i32_120 : BitVec 32 := 0#32
  let v315 : BitVec 1 := Scalar.cmpi .ne v314 c0_i32_120
  let v316 : BitVec 1 := Scalar.andi v313 v315
  let v302 : BitVec 32 := Scalar.divsi v39 c64_i32_115
  let c1_i32_121 : BitVec 32 := 1#32
  let v317 : BitVec 32 := Scalar.subi v302 c1_i32_121
  let v318 : BitVec 32 := Scalar.select v316 v317 v302
  let c64_i32_139 : BitVec 32 := 64#32
  let v350 : BitVec 32 := Scalar.muli v318 c64_i32_139
  let v359 : Index := Scalar.indexCast v350
  let c0_140 : Index := 0#32
  ![v359.toNat, 0]

def k0_chk3 (v32 : BitVec 32) (v39 : BitVec 32) : Prop :=
  ((k0_t5_loop v32 v39).OK) ∧
  (∀ k0_t5 : Fin (k0_t5_loop v32 v39).trips, ∀ a, (k0_off9 v32 v39 k0_t5) a + S64x128.size a ≤ S10128x128.size a) ∧
  ((k0_t6_loop v32 v39).OK) ∧
  (∀ k0_t6 : Fin (k0_t6_loop v32 v39).trips, ∀ a, (k0_off10 v32 v39 k0_t6) a + S64x128.size a ≤ S10128x128.size a) ∧
  (∀ a, (k0_off12 v39) a + S64x128.size a ≤ S10128x128.size a) ∧
  (∀ a, (k0_off15 v39) a + S64x128.size a ≤ S10128x128.size a)
theorem k0_t5_ok : ∀ (v32 : BitVec 32) (v39 : BitVec 32) (k0_hw3 : k0_chk3 v32 v39), (k0_t5_loop v32 v39).OK := fun v32 v39 k0_hw3 => k0_hw3.1
theorem k0_off9_inb : ∀ (v32 : BitVec 32) (v39 : BitVec 32) (k0_hw3 : k0_chk3 v32 v39) (k0_t5 : Fin (k0_t5_loop v32 v39).trips), ∀ a, (k0_off9 v32 v39 k0_t5) a + S64x128.size a ≤ S10128x128.size a := fun v32 v39 k0_hw3 k0_t5 => k0_hw3.2.1 k0_t5
theorem k0_t6_ok : ∀ (v32 : BitVec 32) (v39 : BitVec 32) (k0_hw3 : k0_chk3 v32 v39), (k0_t6_loop v32 v39).OK := fun v32 v39 k0_hw3 => k0_hw3.2.2.1
theorem k0_off10_inb : ∀ (v32 : BitVec 32) (v39 : BitVec 32) (k0_hw3 : k0_chk3 v32 v39) (k0_t6 : Fin (k0_t6_loop v32 v39).trips), ∀ a, (k0_off10 v32 v39 k0_t6) a + S64x128.size a ≤ S10128x128.size a := fun v32 v39 k0_hw3 k0_t6 => k0_hw3.2.2.2.1 k0_t6
theorem k0_off12_inb : ∀ (v32 : BitVec 32) (v39 : BitVec 32) (k0_hw3 : k0_chk3 v32 v39), ∀ a, (k0_off12 v39) a + S64x128.size a ≤ S10128x128.size a := fun v32 v39 k0_hw3 => k0_hw3.2.2.2.2.1
theorem k0_off15_inb : ∀ (v32 : BitVec 32) (v39 : BitVec 32) (k0_hw3 : k0_chk3 v32 v39), ∀ a, (k0_off15 v39) a + S64x128.size a ≤ S10128x128.size a := fun v32 v39 k0_hw3 => k0_hw3.2.2.2.2.2

def k0_off16 (v46 : BitVec 32) : Fin 2 → Nat :=
  let c64_i32_122 : BitVec 32 := 64#32
  let v319 : BitVec 32 := Scalar.addi v46 c64_i32_122
  let c1_i32_123 : BitVec 32 := 1#32
  let v320 : BitVec 32 := Scalar.subi v319 c1_i32_123
  let c0_i32_125 : BitVec 32 := 0#32
  let v322 : BitVec 1 := Scalar.cmpi .sgt v320 c0_i32_125
  let v323 : BitVec 32 := Scalar.extui v322
  let c0_i32_126 : BitVec 32 := 0#32
  let v324 : BitVec 1 := Scalar.cmpi .slt v320 c0_i32_126
  let v325 : BitVec 32 := Scalar.extui v324
  let v326 : BitVec 32 := Scalar.subi v323 v325
  let c64_i32_124 : BitVec 32 := 64#32
  let c0_i32_127 : BitVec 32 := 0#32
  let v327 : BitVec 1 := Scalar.cmpi .sgt c64_i32_124 c0_i32_127
  let v328 : BitVec 32 := Scalar.extui v327
  let c0_i32_128 : BitVec 32 := 0#32
  let v329 : BitVec 1 := Scalar.cmpi .slt c64_i32_124 c0_i32_128
  let v330 : BitVec 32 := Scalar.extui v329
  let v331 : BitVec 32 := Scalar.subi v328 v330
  let v332 : BitVec 1 := Scalar.cmpi .ne v326 v331
  let v333 : BitVec 32 := Scalar.remsi v320 c64_i32_124
  let c0_i32_129 : BitVec 32 := 0#32
  let v334 : BitVec 1 := Scalar.cmpi .ne v333 c0_i32_129
  let v335 : BitVec 1 := Scalar.andi v332 v334
  let v321 : BitVec 32 := Scalar.divsi v320 c64_i32_124
  let c1_i32_130 : BitVec 32 := 1#32
  let v336 : BitVec 32 := Scalar.subi v321 c1_i32_130
  let v337 : BitVec 32 := Scalar.select v335 v336 v321
  let c1_i32_137 : BitVec 32 := 1#32
  let v348 : BitVec 32 := Scalar.subi v337 c1_i32_137
  let c0_i32_138 : BitVec 32 := 0#32
  let v349 : BitVec 32 := Scalar.maxsi v348 c0_i32_138
  let c64_i32_142 : BitVec 32 := 64#32
  let v364 : BitVec 32 := Scalar.muli v349 c64_i32_142
  let v373 : Index := Scalar.indexCast v364
  let c0_143 : Index := 0#32
  ![v373.toNat, 0]
@[reducible] def k0_t9_loop (v46 : BitVec 32) (v53 : BitVec 32) : Scf.Loop 32 :=
  let c0_i32_147 : BitVec 32 := 0#32
  let v381 : BitVec 1 := Scalar.cmpi .sgt v46 c0_i32_147
  let v382 : BitVec 32 := Scalar.extui v381
  let c0_i32_148 : BitVec 32 := 0#32
  let v383 : BitVec 1 := Scalar.cmpi .slt v46 c0_i32_148
  let v384 : BitVec 32 := Scalar.extui v383
  let v385 : BitVec 32 := Scalar.subi v382 v384
  let c64_i32_146 : BitVec 32 := 64#32
  let c0_i32_149 : BitVec 32 := 0#32
  let v386 : BitVec 1 := Scalar.cmpi .sgt c64_i32_146 c0_i32_149
  let v387 : BitVec 32 := Scalar.extui v386
  let c0_i32_150 : BitVec 32 := 0#32
  let v388 : BitVec 1 := Scalar.cmpi .slt c64_i32_146 c0_i32_150
  let v389 : BitVec 32 := Scalar.extui v388
  let v390 : BitVec 32 := Scalar.subi v387 v389
  let v391 : BitVec 1 := Scalar.cmpi .ne v385 v390
  let v392 : BitVec 32 := Scalar.remsi v46 c64_i32_146
  let c0_i32_151 : BitVec 32 := 0#32
  let v393 : BitVec 1 := Scalar.cmpi .ne v392 c0_i32_151
  let v394 : BitVec 1 := Scalar.andi v391 v393
  let v380 : BitVec 32 := Scalar.divsi v46 c64_i32_146
  let c1_i32_152 : BitVec 32 := 1#32
  let v395 : BitVec 32 := Scalar.subi v380 c1_i32_152
  let v396 : BitVec 32 := Scalar.select v394 v395 v380
  let c1_i32_162 : BitVec 32 := 1#32
  let v416 : BitVec 32 := Scalar.addi v396 c1_i32_162
  let c64_i32_153 : BitVec 32 := 64#32
  let v397 : BitVec 32 := Scalar.addi v53 c64_i32_153
  let c1_i32_154 : BitVec 32 := 1#32
  let v398 : BitVec 32 := Scalar.subi v397 c1_i32_154
  let c0_i32_156 : BitVec 32 := 0#32
  let v400 : BitVec 1 := Scalar.cmpi .sgt v398 c0_i32_156
  let v401 : BitVec 32 := Scalar.extui v400
  let c0_i32_157 : BitVec 32 := 0#32
  let v402 : BitVec 1 := Scalar.cmpi .slt v398 c0_i32_157
  let v403 : BitVec 32 := Scalar.extui v402
  let v404 : BitVec 32 := Scalar.subi v401 v403
  let c64_i32_155 : BitVec 32 := 64#32
  let c0_i32_158 : BitVec 32 := 0#32
  let v405 : BitVec 1 := Scalar.cmpi .sgt c64_i32_155 c0_i32_158
  let v406 : BitVec 32 := Scalar.extui v405
  let c0_i32_159 : BitVec 32 := 0#32
  let v407 : BitVec 1 := Scalar.cmpi .slt c64_i32_155 c0_i32_159
  let v408 : BitVec 32 := Scalar.extui v407
  let v409 : BitVec 32 := Scalar.subi v406 v408
  let v410 : BitVec 1 := Scalar.cmpi .ne v404 v409
  let v411 : BitVec 32 := Scalar.remsi v398 c64_i32_155
  let c0_i32_160 : BitVec 32 := 0#32
  let v412 : BitVec 1 := Scalar.cmpi .ne v411 c0_i32_160
  let v413 : BitVec 1 := Scalar.andi v410 v412
  let v399 : BitVec 32 := Scalar.divsi v398 c64_i32_155
  let c1_i32_161 : BitVec 32 := 1#32
  let v414 : BitVec 32 := Scalar.subi v399 c1_i32_161
  let v415 : BitVec 32 := Scalar.select v413 v414 v399
  let c1_i32_163 : BitVec 32 := 1#32
  let v417 : BitVec 32 := Scalar.subi v415 c1_i32_163
  let v419 : BitVec 32 := Scalar.subi v417 v416
  let c1_i32_165 : BitVec 32 := 1#32
  let v421 : BitVec 32 := Scalar.divsi v419 c1_i32_165
  let v422 : BitVec 32 := Scalar.muli v421 c1_i32_165
  let v423 : BitVec 32 := Scalar.addi v416 v422
  let c1_i32_166 : BitVec 32 := 1#32
  ⟨v416, v423, c1_i32_166⟩

def k0_off17 (v46 : BitVec 32) (v53 : BitVec 32) (k0_t9 : Fin (k0_t9_loop v46 v53).trips) : Fin 2 → Nat :=
  let c0_i32_147 : BitVec 32 := 0#32
  let v381 : BitVec 1 := Scalar.cmpi .sgt v46 c0_i32_147
  let v382 : BitVec 32 := Scalar.extui v381
  let c0_i32_148 : BitVec 32 := 0#32
  let v383 : BitVec 1 := Scalar.cmpi .slt v46 c0_i32_148
  let v384 : BitVec 32 := Scalar.extui v383
  let v385 : BitVec 32 := Scalar.subi v382 v384
  let c64_i32_146 : BitVec 32 := 64#32
  let c0_i32_149 : BitVec 32 := 0#32
  let v386 : BitVec 1 := Scalar.cmpi .sgt c64_i32_146 c0_i32_149
  let v387 : BitVec 32 := Scalar.extui v386
  let c0_i32_150 : BitVec 32 := 0#32
  let v388 : BitVec 1 := Scalar.cmpi .slt c64_i32_146 c0_i32_150
  let v389 : BitVec 32 := Scalar.extui v388
  let v390 : BitVec 32 := Scalar.subi v387 v389
  let v391 : BitVec 1 := Scalar.cmpi .ne v385 v390
  let v392 : BitVec 32 := Scalar.remsi v46 c64_i32_146
  let c0_i32_151 : BitVec 32 := 0#32
  let v393 : BitVec 1 := Scalar.cmpi .ne v392 c0_i32_151
  let v394 : BitVec 1 := Scalar.andi v391 v393
  let v380 : BitVec 32 := Scalar.divsi v46 c64_i32_146
  let c1_i32_152 : BitVec 32 := 1#32
  let v395 : BitVec 32 := Scalar.subi v380 c1_i32_152
  let v396 : BitVec 32 := Scalar.select v394 v395 v380
  let c1_i32_162 : BitVec 32 := 1#32
  let v416 : BitVec 32 := Scalar.addi v396 c1_i32_162
  let c1_i32_166 : BitVec 32 := 1#32
  let arg14 : BitVec 32 := Scf.iv v416 c1_i32_166 k0_t9
  let c64_i32_292 : BitVec 32 := 64#32
  let v728 : BitVec 32 := Scalar.muli arg14 c64_i32_292
  let v729 : Index := Scalar.indexCast v728
  let c0_293 : Index := 0#32
  ![v729.toNat, 0]
@[reducible] def k0_t10_loop (v46 : BitVec 32) (v53 : BitVec 32) : Scf.Loop 32 :=
  let c0_i32_147 : BitVec 32 := 0#32
  let v381 : BitVec 1 := Scalar.cmpi .sgt v46 c0_i32_147
  let v382 : BitVec 32 := Scalar.extui v381
  let c0_i32_148 : BitVec 32 := 0#32
  let v383 : BitVec 1 := Scalar.cmpi .slt v46 c0_i32_148
  let v384 : BitVec 32 := Scalar.extui v383
  let v385 : BitVec 32 := Scalar.subi v382 v384
  let c64_i32_146 : BitVec 32 := 64#32
  let c0_i32_149 : BitVec 32 := 0#32
  let v386 : BitVec 1 := Scalar.cmpi .sgt c64_i32_146 c0_i32_149
  let v387 : BitVec 32 := Scalar.extui v386
  let c0_i32_150 : BitVec 32 := 0#32
  let v388 : BitVec 1 := Scalar.cmpi .slt c64_i32_146 c0_i32_150
  let v389 : BitVec 32 := Scalar.extui v388
  let v390 : BitVec 32 := Scalar.subi v387 v389
  let v391 : BitVec 1 := Scalar.cmpi .ne v385 v390
  let v392 : BitVec 32 := Scalar.remsi v46 c64_i32_146
  let c0_i32_151 : BitVec 32 := 0#32
  let v393 : BitVec 1 := Scalar.cmpi .ne v392 c0_i32_151
  let v394 : BitVec 1 := Scalar.andi v391 v393
  let v380 : BitVec 32 := Scalar.divsi v46 c64_i32_146
  let c1_i32_152 : BitVec 32 := 1#32
  let v395 : BitVec 32 := Scalar.subi v380 c1_i32_152
  let v396 : BitVec 32 := Scalar.select v394 v395 v380
  let c1_i32_162 : BitVec 32 := 1#32
  let v416 : BitVec 32 := Scalar.addi v396 c1_i32_162
  let c64_i32_153 : BitVec 32 := 64#32
  let v397 : BitVec 32 := Scalar.addi v53 c64_i32_153
  let c1_i32_154 : BitVec 32 := 1#32
  let v398 : BitVec 32 := Scalar.subi v397 c1_i32_154
  let c0_i32_156 : BitVec 32 := 0#32
  let v400 : BitVec 1 := Scalar.cmpi .sgt v398 c0_i32_156
  let v401 : BitVec 32 := Scalar.extui v400
  let c0_i32_157 : BitVec 32 := 0#32
  let v402 : BitVec 1 := Scalar.cmpi .slt v398 c0_i32_157
  let v403 : BitVec 32 := Scalar.extui v402
  let v404 : BitVec 32 := Scalar.subi v401 v403
  let c64_i32_155 : BitVec 32 := 64#32
  let c0_i32_158 : BitVec 32 := 0#32
  let v405 : BitVec 1 := Scalar.cmpi .sgt c64_i32_155 c0_i32_158
  let v406 : BitVec 32 := Scalar.extui v405
  let c0_i32_159 : BitVec 32 := 0#32
  let v407 : BitVec 1 := Scalar.cmpi .slt c64_i32_155 c0_i32_159
  let v408 : BitVec 32 := Scalar.extui v407
  let v409 : BitVec 32 := Scalar.subi v406 v408
  let v410 : BitVec 1 := Scalar.cmpi .ne v404 v409
  let v411 : BitVec 32 := Scalar.remsi v398 c64_i32_155
  let c0_i32_160 : BitVec 32 := 0#32
  let v412 : BitVec 1 := Scalar.cmpi .ne v411 c0_i32_160
  let v413 : BitVec 1 := Scalar.andi v410 v412
  let v399 : BitVec 32 := Scalar.divsi v398 c64_i32_155
  let c1_i32_161 : BitVec 32 := 1#32
  let v414 : BitVec 32 := Scalar.subi v399 c1_i32_161
  let v415 : BitVec 32 := Scalar.select v413 v414 v399
  let c1_i32_163 : BitVec 32 := 1#32
  let v417 : BitVec 32 := Scalar.subi v415 c1_i32_163
  let v419 : BitVec 32 := Scalar.subi v417 v416
  let c1_i32_165 : BitVec 32 := 1#32
  let v421 : BitVec 32 := Scalar.divsi v419 c1_i32_165
  let v422 : BitVec 32 := Scalar.muli v421 c1_i32_165
  let v423 : BitVec 32 := Scalar.addi v416 v422
  let v420 : BitVec 32 := Scalar.addi v416 v419
  let c1_i32_167 : BitVec 32 := 1#32
  ⟨v423, v420, c1_i32_167⟩
def k0_off18 (v46 : BitVec 32) (v53 : BitVec 32) (k0_t10 : Fin (k0_t10_loop v46 v53).trips) : Fin 2 → Nat :=
  let c0_i32_147 : BitVec 32 := 0#32
  let v381 : BitVec 1 := Scalar.cmpi .sgt v46 c0_i32_147
  let v382 : BitVec 32 := Scalar.extui v381
  let c0_i32_148 : BitVec 32 := 0#32
  let v383 : BitVec 1 := Scalar.cmpi .slt v46 c0_i32_148
  let v384 : BitVec 32 := Scalar.extui v383
  let v385 : BitVec 32 := Scalar.subi v382 v384
  let c64_i32_146 : BitVec 32 := 64#32
  let c0_i32_149 : BitVec 32 := 0#32
  let v386 : BitVec 1 := Scalar.cmpi .sgt c64_i32_146 c0_i32_149
  let v387 : BitVec 32 := Scalar.extui v386
  let c0_i32_150 : BitVec 32 := 0#32
  let v388 : BitVec 1 := Scalar.cmpi .slt c64_i32_146 c0_i32_150
  let v389 : BitVec 32 := Scalar.extui v388
  let v390 : BitVec 32 := Scalar.subi v387 v389
  let v391 : BitVec 1 := Scalar.cmpi .ne v385 v390
  let v392 : BitVec 32 := Scalar.remsi v46 c64_i32_146
  let c0_i32_151 : BitVec 32 := 0#32
  let v393 : BitVec 1 := Scalar.cmpi .ne v392 c0_i32_151
  let v394 : BitVec 1 := Scalar.andi v391 v393
  let v380 : BitVec 32 := Scalar.divsi v46 c64_i32_146
  let c1_i32_152 : BitVec 32 := 1#32
  let v395 : BitVec 32 := Scalar.subi v380 c1_i32_152
  let v396 : BitVec 32 := Scalar.select v394 v395 v380
  let c1_i32_162 : BitVec 32 := 1#32
  let v416 : BitVec 32 := Scalar.addi v396 c1_i32_162
  let c64_i32_153 : BitVec 32 := 64#32
  let v397 : BitVec 32 := Scalar.addi v53 c64_i32_153
  let c1_i32_154 : BitVec 32 := 1#32
  let v398 : BitVec 32 := Scalar.subi v397 c1_i32_154
  let c0_i32_156 : BitVec 32 := 0#32
  let v400 : BitVec 1 := Scalar.cmpi .sgt v398 c0_i32_156
  let v401 : BitVec 32 := Scalar.extui v400
  let c0_i32_157 : BitVec 32 := 0#32
  let v402 : BitVec 1 := Scalar.cmpi .slt v398 c0_i32_157
  let v403 : BitVec 32 := Scalar.extui v402
  let v404 : BitVec 32 := Scalar.subi v401 v403
  let c64_i32_155 : BitVec 32 := 64#32
  let c0_i32_158 : BitVec 32 := 0#32
  let v405 : BitVec 1 := Scalar.cmpi .sgt c64_i32_155 c0_i32_158
  let v406 : BitVec 32 := Scalar.extui v405
  let c0_i32_159 : BitVec 32 := 0#32
  let v407 : BitVec 1 := Scalar.cmpi .slt c64_i32_155 c0_i32_159
  let v408 : BitVec 32 := Scalar.extui v407
  let v409 : BitVec 32 := Scalar.subi v406 v408
  let v410 : BitVec 1 := Scalar.cmpi .ne v404 v409
  let v411 : BitVec 32 := Scalar.remsi v398 c64_i32_155
  let c0_i32_160 : BitVec 32 := 0#32
  let v412 : BitVec 1 := Scalar.cmpi .ne v411 c0_i32_160
  let v413 : BitVec 1 := Scalar.andi v410 v412
  let v399 : BitVec 32 := Scalar.divsi v398 c64_i32_155
  let c1_i32_161 : BitVec 32 := 1#32
  let v414 : BitVec 32 := Scalar.subi v399 c1_i32_161
  let v415 : BitVec 32 := Scalar.select v413 v414 v399
  let c1_i32_163 : BitVec 32 := 1#32
  let v417 : BitVec 32 := Scalar.subi v415 c1_i32_163
  let v419 : BitVec 32 := Scalar.subi v417 v416
  let c1_i32_165 : BitVec 32 := 1#32
  let v421 : BitVec 32 := Scalar.divsi v419 c1_i32_165
  let v422 : BitVec 32 := Scalar.muli v421 c1_i32_165
  let v423 : BitVec 32 := Scalar.addi v416 v422
  let c1_i32_167 : BitVec 32 := 1#32
  let arg14 : BitVec 32 := Scf.iv v423 c1_i32_167 k0_t10
  let c64_i32_292 : BitVec 32 := 64#32
  let v728 : BitVec 32 := Scalar.muli arg14 c64_i32_292
  let v729 : Index := Scalar.indexCast v728
  let c0_293 : Index := 0#32
  ![v729.toNat, 0]
def k0_off19 (v46 : BitVec 32) : Fin 2 → Nat :=
  let c0_i32_147 : BitVec 32 := 0#32
  let v381 : BitVec 1 := Scalar.cmpi .sgt v46 c0_i32_147
  let v382 : BitVec 32 := Scalar.extui v381
  let c0_i32_148 : BitVec 32 := 0#32
  let v383 : BitVec 1 := Scalar.cmpi .slt v46 c0_i32_148
  let v384 : BitVec 32 := Scalar.extui v383
  let v385 : BitVec 32 := Scalar.subi v382 v384
  let c64_i32_146 : BitVec 32 := 64#32
  let c0_i32_149 : BitVec 32 := 0#32
  let v386 : BitVec 1 := Scalar.cmpi .sgt c64_i32_146 c0_i32_149
  let v387 : BitVec 32 := Scalar.extui v386
  let c0_i32_150 : BitVec 32 := 0#32
  let v388 : BitVec 1 := Scalar.cmpi .slt c64_i32_146 c0_i32_150
  let v389 : BitVec 32 := Scalar.extui v388
  let v390 : BitVec 32 := Scalar.subi v387 v389
  let v391 : BitVec 1 := Scalar.cmpi .ne v385 v390
  let v392 : BitVec 32 := Scalar.remsi v46 c64_i32_146
  let c0_i32_151 : BitVec 32 := 0#32
  let v393 : BitVec 1 := Scalar.cmpi .ne v392 c0_i32_151
  let v394 : BitVec 1 := Scalar.andi v391 v393
  let v380 : BitVec 32 := Scalar.divsi v46 c64_i32_146
  let c1_i32_152 : BitVec 32 := 1#32
  let v395 : BitVec 32 := Scalar.subi v380 c1_i32_152
  let v396 : BitVec 32 := Scalar.select v394 v395 v380
  let c64_i32_170 : BitVec 32 := 64#32
  let v428 : BitVec 32 := Scalar.muli v396 c64_i32_170
  let v437 : Index := Scalar.indexCast v428
  let c0_171 : Index := 0#32
  ![v437.toNat, 0]

def k0_chk4 (v39 : BitVec 32) (v46 : BitVec 32) : Prop :=
  ((k0_t7_loop v39 v46).OK) ∧
  (∀ k0_t7 : Fin (k0_t7_loop v39 v46).trips, ∀ a, (k0_off13 v39 v46 k0_t7) a + S64x128.size a ≤ S10128x128.size a) ∧
  ((k0_t8_loop v39 v46).OK) ∧
  (∀ k0_t8 : Fin (k0_t8_loop v39 v46).trips, ∀ a, (k0_off14 v39 v46 k0_t8) a + S64x128.size a ≤ S10128x128.size a) ∧
  (∀ a, (k0_off16 v46) a + S64x128.size a ≤ S10128x128.size a) ∧
  (∀ a, (k0_off19 v46) a + S64x128.size a ≤ S10128x128.size a)
theorem k0_t7_ok : ∀ (v39 : BitVec 32) (v46 : BitVec 32) (k0_hw4 : k0_chk4 v39 v46), (k0_t7_loop v39 v46).OK := fun v39 v46 k0_hw4 => k0_hw4.1
theorem k0_off13_inb : ∀ (v39 : BitVec 32) (v46 : BitVec 32) (k0_hw4 : k0_chk4 v39 v46) (k0_t7 : Fin (k0_t7_loop v39 v46).trips), ∀ a, (k0_off13 v39 v46 k0_t7) a + S64x128.size a ≤ S10128x128.size a := fun v39 v46 k0_hw4 k0_t7 => k0_hw4.2.1 k0_t7
theorem k0_t8_ok : ∀ (v39 : BitVec 32) (v46 : BitVec 32) (k0_hw4 : k0_chk4 v39 v46), (k0_t8_loop v39 v46).OK := fun v39 v46 k0_hw4 => k0_hw4.2.2.1
theorem k0_off14_inb : ∀ (v39 : BitVec 32) (v46 : BitVec 32) (k0_hw4 : k0_chk4 v39 v46) (k0_t8 : Fin (k0_t8_loop v39 v46).trips), ∀ a, (k0_off14 v39 v46 k0_t8) a + S64x128.size a ≤ S10128x128.size a := fun v39 v46 k0_hw4 k0_t8 => k0_hw4.2.2.2.1 k0_t8
theorem k0_off16_inb : ∀ (v39 : BitVec 32) (v46 : BitVec 32) (k0_hw4 : k0_chk4 v39 v46), ∀ a, (k0_off16 v46) a + S64x128.size a ≤ S10128x128.size a := fun v39 v46 k0_hw4 => k0_hw4.2.2.2.2.1
theorem k0_off19_inb : ∀ (v39 : BitVec 32) (v46 : BitVec 32) (k0_hw4 : k0_chk4 v39 v46), ∀ a, (k0_off19 v46) a + S64x128.size a ≤ S10128x128.size a := fun v39 v46 k0_hw4 => k0_hw4.2.2.2.2.2

def k0_off20 (v53 : BitVec 32) : Fin 2 → Nat :=
  let c64_i32_153 : BitVec 32 := 64#32
  let v397 : BitVec 32 := Scalar.addi v53 c64_i32_153
  let c1_i32_154 : BitVec 32 := 1#32
  let v398 : BitVec 32 := Scalar.subi v397 c1_i32_154
  let c0_i32_156 : BitVec 32 := 0#32
  let v400 : BitVec 1 := Scalar.cmpi .sgt v398 c0_i32_156
  let v401 : BitVec 32 := Scalar.extui v400
  let c0_i32_157 : BitVec 32 := 0#32
  let v402 : BitVec 1 := Scalar.cmpi .slt v398 c0_i32_157
  let v403 : BitVec 32 := Scalar.extui v402
  let v404 : BitVec 32 := Scalar.subi v401 v403
  let c64_i32_155 : BitVec 32 := 64#32
  let c0_i32_158 : BitVec 32 := 0#32
  let v405 : BitVec 1 := Scalar.cmpi .sgt c64_i32_155 c0_i32_158
  let v406 : BitVec 32 := Scalar.extui v405
  let c0_i32_159 : BitVec 32 := 0#32
  let v407 : BitVec 1 := Scalar.cmpi .slt c64_i32_155 c0_i32_159
  let v408 : BitVec 32 := Scalar.extui v407
  let v409 : BitVec 32 := Scalar.subi v406 v408
  let v410 : BitVec 1 := Scalar.cmpi .ne v404 v409
  let v411 : BitVec 32 := Scalar.remsi v398 c64_i32_155
  let c0_i32_160 : BitVec 32 := 0#32
  let v412 : BitVec 1 := Scalar.cmpi .ne v411 c0_i32_160
  let v413 : BitVec 1 := Scalar.andi v410 v412
  let v399 : BitVec 32 := Scalar.divsi v398 c64_i32_155
  let c1_i32_161 : BitVec 32 := 1#32
  let v414 : BitVec 32 := Scalar.subi v399 c1_i32_161
  let v415 : BitVec 32 := Scalar.select v413 v414 v399
  let c1_i32_168 : BitVec 32 := 1#32
  let v426 : BitVec 32 := Scalar.subi v415 c1_i32_168
  let c0_i32_169 : BitVec 32 := 0#32
  let v427 : BitVec 32 := Scalar.maxsi v426 c0_i32_169
  let c64_i32_173 : BitVec 32 := 64#32
  let v442 : BitVec 32 := Scalar.muli v427 c64_i32_173
  let v451 : Index := Scalar.indexCast v442
  let c0_174 : Index := 0#32
  ![v451.toNat, 0]
@[reducible] def k0_t11_loop (v53 : BitVec 32) (v60 : BitVec 32) : Scf.Loop 32 :=
  let c0_i32_178 : BitVec 32 := 0#32
  let v459 : BitVec 1 := Scalar.cmpi .sgt v53 c0_i32_178
  let v460 : BitVec 32 := Scalar.extui v459
  let c0_i32_179 : BitVec 32 := 0#32
  let v461 : BitVec 1 := Scalar.cmpi .slt v53 c0_i32_179
  let v462 : BitVec 32 := Scalar.extui v461
  let v463 : BitVec 32 := Scalar.subi v460 v462
  let c64_i32_177 : BitVec 32 := 64#32
  let c0_i32_180 : BitVec 32 := 0#32
  let v464 : BitVec 1 := Scalar.cmpi .sgt c64_i32_177 c0_i32_180
  let v465 : BitVec 32 := Scalar.extui v464
  let c0_i32_181 : BitVec 32 := 0#32
  let v466 : BitVec 1 := Scalar.cmpi .slt c64_i32_177 c0_i32_181
  let v467 : BitVec 32 := Scalar.extui v466
  let v468 : BitVec 32 := Scalar.subi v465 v467
  let v469 : BitVec 1 := Scalar.cmpi .ne v463 v468
  let v470 : BitVec 32 := Scalar.remsi v53 c64_i32_177
  let c0_i32_182 : BitVec 32 := 0#32
  let v471 : BitVec 1 := Scalar.cmpi .ne v470 c0_i32_182
  let v472 : BitVec 1 := Scalar.andi v469 v471
  let v458 : BitVec 32 := Scalar.divsi v53 c64_i32_177
  let c1_i32_183 : BitVec 32 := 1#32
  let v473 : BitVec 32 := Scalar.subi v458 c1_i32_183
  let v474 : BitVec 32 := Scalar.select v472 v473 v458
  let c1_i32_193 : BitVec 32 := 1#32
  let v494 : BitVec 32 := Scalar.addi v474 c1_i32_193
  let c64_i32_184 : BitVec 32 := 64#32
  let v475 : BitVec 32 := Scalar.addi v60 c64_i32_184
  let c1_i32_185 : BitVec 32 := 1#32
  let v476 : BitVec 32 := Scalar.subi v475 c1_i32_185
  let c0_i32_187 : BitVec 32 := 0#32
  let v478 : BitVec 1 := Scalar.cmpi .sgt v476 c0_i32_187
  let v479 : BitVec 32 := Scalar.extui v478
  let c0_i32_188 : BitVec 32 := 0#32
  let v480 : BitVec 1 := Scalar.cmpi .slt v476 c0_i32_188
  let v481 : BitVec 32 := Scalar.extui v480
  let v482 : BitVec 32 := Scalar.subi v479 v481
  let c64_i32_186 : BitVec 32 := 64#32
  let c0_i32_189 : BitVec 32 := 0#32
  let v483 : BitVec 1 := Scalar.cmpi .sgt c64_i32_186 c0_i32_189
  let v484 : BitVec 32 := Scalar.extui v483
  let c0_i32_190 : BitVec 32 := 0#32
  let v485 : BitVec 1 := Scalar.cmpi .slt c64_i32_186 c0_i32_190
  let v486 : BitVec 32 := Scalar.extui v485
  let v487 : BitVec 32 := Scalar.subi v484 v486
  let v488 : BitVec 1 := Scalar.cmpi .ne v482 v487
  let v489 : BitVec 32 := Scalar.remsi v476 c64_i32_186
  let c0_i32_191 : BitVec 32 := 0#32
  let v490 : BitVec 1 := Scalar.cmpi .ne v489 c0_i32_191
  let v491 : BitVec 1 := Scalar.andi v488 v490
  let v477 : BitVec 32 := Scalar.divsi v476 c64_i32_186
  let c1_i32_192 : BitVec 32 := 1#32
  let v492 : BitVec 32 := Scalar.subi v477 c1_i32_192
  let v493 : BitVec 32 := Scalar.select v491 v492 v477
  let c1_i32_194 : BitVec 32 := 1#32
  let v495 : BitVec 32 := Scalar.subi v493 c1_i32_194
  let v497 : BitVec 32 := Scalar.subi v495 v494
  let c1_i32_196 : BitVec 32 := 1#32
  let v499 : BitVec 32 := Scalar.divsi v497 c1_i32_196
  let v500 : BitVec 32 := Scalar.muli v499 c1_i32_196
  let v501 : BitVec 32 := Scalar.addi v494 v500
  let c1_i32_197 : BitVec 32 := 1#32
  ⟨v494, v501, c1_i32_197⟩

def k0_off21 (v53 : BitVec 32) (v60 : BitVec 32) (k0_t11 : Fin (k0_t11_loop v53 v60).trips) : Fin 2 → Nat :=
  let c0_i32_178 : BitVec 32 := 0#32
  let v459 : BitVec 1 := Scalar.cmpi .sgt v53 c0_i32_178
  let v460 : BitVec 32 := Scalar.extui v459
  let c0_i32_179 : BitVec 32 := 0#32
  let v461 : BitVec 1 := Scalar.cmpi .slt v53 c0_i32_179
  let v462 : BitVec 32 := Scalar.extui v461
  let v463 : BitVec 32 := Scalar.subi v460 v462
  let c64_i32_177 : BitVec 32 := 64#32
  let c0_i32_180 : BitVec 32 := 0#32
  let v464 : BitVec 1 := Scalar.cmpi .sgt c64_i32_177 c0_i32_180
  let v465 : BitVec 32 := Scalar.extui v464
  let c0_i32_181 : BitVec 32 := 0#32
  let v466 : BitVec 1 := Scalar.cmpi .slt c64_i32_177 c0_i32_181
  let v467 : BitVec 32 := Scalar.extui v466
  let v468 : BitVec 32 := Scalar.subi v465 v467
  let v469 : BitVec 1 := Scalar.cmpi .ne v463 v468
  let v470 : BitVec 32 := Scalar.remsi v53 c64_i32_177
  let c0_i32_182 : BitVec 32 := 0#32
  let v471 : BitVec 1 := Scalar.cmpi .ne v470 c0_i32_182
  let v472 : BitVec 1 := Scalar.andi v469 v471
  let v458 : BitVec 32 := Scalar.divsi v53 c64_i32_177
  let c1_i32_183 : BitVec 32 := 1#32
  let v473 : BitVec 32 := Scalar.subi v458 c1_i32_183
  let v474 : BitVec 32 := Scalar.select v472 v473 v458
  let c1_i32_193 : BitVec 32 := 1#32
  let v494 : BitVec 32 := Scalar.addi v474 c1_i32_193
  let c1_i32_197 : BitVec 32 := 1#32
  let arg14 : BitVec 32 := Scf.iv v494 c1_i32_197 k0_t11
  let c64_i32_292 : BitVec 32 := 64#32
  let v728 : BitVec 32 := Scalar.muli arg14 c64_i32_292
  let v729 : Index := Scalar.indexCast v728
  let c0_293 : Index := 0#32
  ![v729.toNat, 0]
@[reducible] def k0_t12_loop (v53 : BitVec 32) (v60 : BitVec 32) : Scf.Loop 32 :=
  let c0_i32_178 : BitVec 32 := 0#32
  let v459 : BitVec 1 := Scalar.cmpi .sgt v53 c0_i32_178
  let v460 : BitVec 32 := Scalar.extui v459
  let c0_i32_179 : BitVec 32 := 0#32
  let v461 : BitVec 1 := Scalar.cmpi .slt v53 c0_i32_179
  let v462 : BitVec 32 := Scalar.extui v461
  let v463 : BitVec 32 := Scalar.subi v460 v462
  let c64_i32_177 : BitVec 32 := 64#32
  let c0_i32_180 : BitVec 32 := 0#32
  let v464 : BitVec 1 := Scalar.cmpi .sgt c64_i32_177 c0_i32_180
  let v465 : BitVec 32 := Scalar.extui v464
  let c0_i32_181 : BitVec 32 := 0#32
  let v466 : BitVec 1 := Scalar.cmpi .slt c64_i32_177 c0_i32_181
  let v467 : BitVec 32 := Scalar.extui v466
  let v468 : BitVec 32 := Scalar.subi v465 v467
  let v469 : BitVec 1 := Scalar.cmpi .ne v463 v468
  let v470 : BitVec 32 := Scalar.remsi v53 c64_i32_177
  let c0_i32_182 : BitVec 32 := 0#32
  let v471 : BitVec 1 := Scalar.cmpi .ne v470 c0_i32_182
  let v472 : BitVec 1 := Scalar.andi v469 v471
  let v458 : BitVec 32 := Scalar.divsi v53 c64_i32_177
  let c1_i32_183 : BitVec 32 := 1#32
  let v473 : BitVec 32 := Scalar.subi v458 c1_i32_183
  let v474 : BitVec 32 := Scalar.select v472 v473 v458
  let c1_i32_193 : BitVec 32 := 1#32
  let v494 : BitVec 32 := Scalar.addi v474 c1_i32_193
  let c64_i32_184 : BitVec 32 := 64#32
  let v475 : BitVec 32 := Scalar.addi v60 c64_i32_184
  let c1_i32_185 : BitVec 32 := 1#32
  let v476 : BitVec 32 := Scalar.subi v475 c1_i32_185
  let c0_i32_187 : BitVec 32 := 0#32
  let v478 : BitVec 1 := Scalar.cmpi .sgt v476 c0_i32_187
  let v479 : BitVec 32 := Scalar.extui v478
  let c0_i32_188 : BitVec 32 := 0#32
  let v480 : BitVec 1 := Scalar.cmpi .slt v476 c0_i32_188
  let v481 : BitVec 32 := Scalar.extui v480
  let v482 : BitVec 32 := Scalar.subi v479 v481
  let c64_i32_186 : BitVec 32 := 64#32
  let c0_i32_189 : BitVec 32 := 0#32
  let v483 : BitVec 1 := Scalar.cmpi .sgt c64_i32_186 c0_i32_189
  let v484 : BitVec 32 := Scalar.extui v483
  let c0_i32_190 : BitVec 32 := 0#32
  let v485 : BitVec 1 := Scalar.cmpi .slt c64_i32_186 c0_i32_190
  let v486 : BitVec 32 := Scalar.extui v485
  let v487 : BitVec 32 := Scalar.subi v484 v486
  let v488 : BitVec 1 := Scalar.cmpi .ne v482 v487
  let v489 : BitVec 32 := Scalar.remsi v476 c64_i32_186
  let c0_i32_191 : BitVec 32 := 0#32
  let v490 : BitVec 1 := Scalar.cmpi .ne v489 c0_i32_191
  let v491 : BitVec 1 := Scalar.andi v488 v490
  let v477 : BitVec 32 := Scalar.divsi v476 c64_i32_186
  let c1_i32_192 : BitVec 32 := 1#32
  let v492 : BitVec 32 := Scalar.subi v477 c1_i32_192
  let v493 : BitVec 32 := Scalar.select v491 v492 v477
  let c1_i32_194 : BitVec 32 := 1#32
  let v495 : BitVec 32 := Scalar.subi v493 c1_i32_194
  let v497 : BitVec 32 := Scalar.subi v495 v494
  let c1_i32_196 : BitVec 32 := 1#32
  let v499 : BitVec 32 := Scalar.divsi v497 c1_i32_196
  let v500 : BitVec 32 := Scalar.muli v499 c1_i32_196
  let v501 : BitVec 32 := Scalar.addi v494 v500
  let v498 : BitVec 32 := Scalar.addi v494 v497
  let c1_i32_198 : BitVec 32 := 1#32
  ⟨v501, v498, c1_i32_198⟩
def k0_off22 (v53 : BitVec 32) (v60 : BitVec 32) (k0_t12 : Fin (k0_t12_loop v53 v60).trips) : Fin 2 → Nat :=
  let c0_i32_178 : BitVec 32 := 0#32
  let v459 : BitVec 1 := Scalar.cmpi .sgt v53 c0_i32_178
  let v460 : BitVec 32 := Scalar.extui v459
  let c0_i32_179 : BitVec 32 := 0#32
  let v461 : BitVec 1 := Scalar.cmpi .slt v53 c0_i32_179
  let v462 : BitVec 32 := Scalar.extui v461
  let v463 : BitVec 32 := Scalar.subi v460 v462
  let c64_i32_177 : BitVec 32 := 64#32
  let c0_i32_180 : BitVec 32 := 0#32
  let v464 : BitVec 1 := Scalar.cmpi .sgt c64_i32_177 c0_i32_180
  let v465 : BitVec 32 := Scalar.extui v464
  let c0_i32_181 : BitVec 32 := 0#32
  let v466 : BitVec 1 := Scalar.cmpi .slt c64_i32_177 c0_i32_181
  let v467 : BitVec 32 := Scalar.extui v466
  let v468 : BitVec 32 := Scalar.subi v465 v467
  let v469 : BitVec 1 := Scalar.cmpi .ne v463 v468
  let v470 : BitVec 32 := Scalar.remsi v53 c64_i32_177
  let c0_i32_182 : BitVec 32 := 0#32
  let v471 : BitVec 1 := Scalar.cmpi .ne v470 c0_i32_182
  let v472 : BitVec 1 := Scalar.andi v469 v471
  let v458 : BitVec 32 := Scalar.divsi v53 c64_i32_177
  let c1_i32_183 : BitVec 32 := 1#32
  let v473 : BitVec 32 := Scalar.subi v458 c1_i32_183
  let v474 : BitVec 32 := Scalar.select v472 v473 v458
  let c1_i32_193 : BitVec 32 := 1#32
  let v494 : BitVec 32 := Scalar.addi v474 c1_i32_193
  let c64_i32_184 : BitVec 32 := 64#32
  let v475 : BitVec 32 := Scalar.addi v60 c64_i32_184
  let c1_i32_185 : BitVec 32 := 1#32
  let v476 : BitVec 32 := Scalar.subi v475 c1_i32_185
  let c0_i32_187 : BitVec 32 := 0#32
  let v478 : BitVec 1 := Scalar.cmpi .sgt v476 c0_i32_187
  let v479 : BitVec 32 := Scalar.extui v478
  let c0_i32_188 : BitVec 32 := 0#32
  let v480 : BitVec 1 := Scalar.cmpi .slt v476 c0_i32_188
  let v481 : BitVec 32 := Scalar.extui v480
  let v482 : BitVec 32 := Scalar.subi v479 v481
  let c64_i32_186 : BitVec 32 := 64#32
  let c0_i32_189 : BitVec 32 := 0#32
  let v483 : BitVec 1 := Scalar.cmpi .sgt c64_i32_186 c0_i32_189
  let v484 : BitVec 32 := Scalar.extui v483
  let c0_i32_190 : BitVec 32 := 0#32
  let v485 : BitVec 1 := Scalar.cmpi .slt c64_i32_186 c0_i32_190
  let v486 : BitVec 32 := Scalar.extui v485
  let v487 : BitVec 32 := Scalar.subi v484 v486
  let v488 : BitVec 1 := Scalar.cmpi .ne v482 v487
  let v489 : BitVec 32 := Scalar.remsi v476 c64_i32_186
  let c0_i32_191 : BitVec 32 := 0#32
  let v490 : BitVec 1 := Scalar.cmpi .ne v489 c0_i32_191
  let v491 : BitVec 1 := Scalar.andi v488 v490
  let v477 : BitVec 32 := Scalar.divsi v476 c64_i32_186
  let c1_i32_192 : BitVec 32 := 1#32
  let v492 : BitVec 32 := Scalar.subi v477 c1_i32_192
  let v493 : BitVec 32 := Scalar.select v491 v492 v477
  let c1_i32_194 : BitVec 32 := 1#32
  let v495 : BitVec 32 := Scalar.subi v493 c1_i32_194
  let v497 : BitVec 32 := Scalar.subi v495 v494
  let c1_i32_196 : BitVec 32 := 1#32
  let v499 : BitVec 32 := Scalar.divsi v497 c1_i32_196
  let v500 : BitVec 32 := Scalar.muli v499 c1_i32_196
  let v501 : BitVec 32 := Scalar.addi v494 v500
  let c1_i32_198 : BitVec 32 := 1#32
  let arg14 : BitVec 32 := Scf.iv v501 c1_i32_198 k0_t12
  let c64_i32_292 : BitVec 32 := 64#32
  let v728 : BitVec 32 := Scalar.muli arg14 c64_i32_292
  let v729 : Index := Scalar.indexCast v728
  let c0_293 : Index := 0#32
  ![v729.toNat, 0]
def k0_off23 (v53 : BitVec 32) : Fin 2 → Nat :=
  let c0_i32_178 : BitVec 32 := 0#32
  let v459 : BitVec 1 := Scalar.cmpi .sgt v53 c0_i32_178
  let v460 : BitVec 32 := Scalar.extui v459
  let c0_i32_179 : BitVec 32 := 0#32
  let v461 : BitVec 1 := Scalar.cmpi .slt v53 c0_i32_179
  let v462 : BitVec 32 := Scalar.extui v461
  let v463 : BitVec 32 := Scalar.subi v460 v462
  let c64_i32_177 : BitVec 32 := 64#32
  let c0_i32_180 : BitVec 32 := 0#32
  let v464 : BitVec 1 := Scalar.cmpi .sgt c64_i32_177 c0_i32_180
  let v465 : BitVec 32 := Scalar.extui v464
  let c0_i32_181 : BitVec 32 := 0#32
  let v466 : BitVec 1 := Scalar.cmpi .slt c64_i32_177 c0_i32_181
  let v467 : BitVec 32 := Scalar.extui v466
  let v468 : BitVec 32 := Scalar.subi v465 v467
  let v469 : BitVec 1 := Scalar.cmpi .ne v463 v468
  let v470 : BitVec 32 := Scalar.remsi v53 c64_i32_177
  let c0_i32_182 : BitVec 32 := 0#32
  let v471 : BitVec 1 := Scalar.cmpi .ne v470 c0_i32_182
  let v472 : BitVec 1 := Scalar.andi v469 v471
  let v458 : BitVec 32 := Scalar.divsi v53 c64_i32_177
  let c1_i32_183 : BitVec 32 := 1#32
  let v473 : BitVec 32 := Scalar.subi v458 c1_i32_183
  let v474 : BitVec 32 := Scalar.select v472 v473 v458
  let c64_i32_201 : BitVec 32 := 64#32
  let v506 : BitVec 32 := Scalar.muli v474 c64_i32_201
  let v515 : Index := Scalar.indexCast v506
  let c0_202 : Index := 0#32
  ![v515.toNat, 0]

def k0_chk5 (v46 : BitVec 32) (v53 : BitVec 32) : Prop :=
  ((k0_t9_loop v46 v53).OK) ∧
  (∀ k0_t9 : Fin (k0_t9_loop v46 v53).trips, ∀ a, (k0_off17 v46 v53 k0_t9) a + S64x128.size a ≤ S10128x128.size a) ∧
  ((k0_t10_loop v46 v53).OK) ∧
  (∀ k0_t10 : Fin (k0_t10_loop v46 v53).trips, ∀ a, (k0_off18 v46 v53 k0_t10) a + S64x128.size a ≤ S10128x128.size a) ∧
  (∀ a, (k0_off20 v53) a + S64x128.size a ≤ S10128x128.size a) ∧
  (∀ a, (k0_off23 v53) a + S64x128.size a ≤ S10128x128.size a)
theorem k0_t9_ok : ∀ (v46 : BitVec 32) (v53 : BitVec 32) (k0_hw5 : k0_chk5 v46 v53), (k0_t9_loop v46 v53).OK := fun v46 v53 k0_hw5 => k0_hw5.1
theorem k0_off17_inb : ∀ (v46 : BitVec 32) (v53 : BitVec 32) (k0_hw5 : k0_chk5 v46 v53) (k0_t9 : Fin (k0_t9_loop v46 v53).trips), ∀ a, (k0_off17 v46 v53 k0_t9) a + S64x128.size a ≤ S10128x128.size a := fun v46 v53 k0_hw5 k0_t9 => k0_hw5.2.1 k0_t9
theorem k0_t10_ok : ∀ (v46 : BitVec 32) (v53 : BitVec 32) (k0_hw5 : k0_chk5 v46 v53), (k0_t10_loop v46 v53).OK := fun v46 v53 k0_hw5 => k0_hw5.2.2.1
theorem k0_off18_inb : ∀ (v46 : BitVec 32) (v53 : BitVec 32) (k0_hw5 : k0_chk5 v46 v53) (k0_t10 : Fin (k0_t10_loop v46 v53).trips), ∀ a, (k0_off18 v46 v53 k0_t10) a + S64x128.size a ≤ S10128x128.size a := fun v46 v53 k0_hw5 k0_t10 => k0_hw5.2.2.2.1 k0_t10
theorem k0_off20_inb : ∀ (v46 : BitVec 32) (v53 : BitVec 32) (k0_hw5 : k0_chk5 v46 v53), ∀ a, (k0_off20 v53) a + S64x128.size a ≤ S10128x128.size a := fun v46 v53 k0_hw5 => k0_hw5.2.2.2.2.1
theorem k0_off23_inb : ∀ (v46 : BitVec 32) (v53 : BitVec 32) (k0_hw5 : k0_chk5 v46 v53), ∀ a, (k0_off23 v53) a + S64x128.size a ≤ S10128x128.size a := fun v46 v53 k0_hw5 => k0_hw5.2.2.2.2.2

def k0_off24 (v60 : BitVec 32) : Fin 2 → Nat :=
  let c64_i32_184 : BitVec 32 := 64#32
  let v475 : BitVec 32 := Scalar.addi v60 c64_i32_184
  let c1_i32_185 : BitVec 32 := 1#32
  let v476 : BitVec 32 := Scalar.subi v475 c1_i32_185
  let c0_i32_187 : BitVec 32 := 0#32
  let v478 : BitVec 1 := Scalar.cmpi .sgt v476 c0_i32_187
  let v479 : BitVec 32 := Scalar.extui v478
  let c0_i32_188 : BitVec 32 := 0#32
  let v480 : BitVec 1 := Scalar.cmpi .slt v476 c0_i32_188
  let v481 : BitVec 32 := Scalar.extui v480
  let v482 : BitVec 32 := Scalar.subi v479 v481
  let c64_i32_186 : BitVec 32 := 64#32
  let c0_i32_189 : BitVec 32 := 0#32
  let v483 : BitVec 1 := Scalar.cmpi .sgt c64_i32_186 c0_i32_189
  let v484 : BitVec 32 := Scalar.extui v483
  let c0_i32_190 : BitVec 32 := 0#32
  let v485 : BitVec 1 := Scalar.cmpi .slt c64_i32_186 c0_i32_190
  let v486 : BitVec 32 := Scalar.extui v485
  let v487 : BitVec 32 := Scalar.subi v484 v486
  let v488 : BitVec 1 := Scalar.cmpi .ne v482 v487
  let v489 : BitVec 32 := Scalar.remsi v476 c64_i32_186
  let c0_i32_191 : BitVec 32 := 0#32
  let v490 : BitVec 1 := Scalar.cmpi .ne v489 c0_i32_191
  let v491 : BitVec 1 := Scalar.andi v488 v490
  let v477 : BitVec 32 := Scalar.divsi v476 c64_i32_186
  let c1_i32_192 : BitVec 32 := 1#32
  let v492 : BitVec 32 := Scalar.subi v477 c1_i32_192
  let v493 : BitVec 32 := Scalar.select v491 v492 v477
  let c1_i32_199 : BitVec 32 := 1#32
  let v504 : BitVec 32 := Scalar.subi v493 c1_i32_199
  let c0_i32_200 : BitVec 32 := 0#32
  let v505 : BitVec 32 := Scalar.maxsi v504 c0_i32_200
  let c64_i32_204 : BitVec 32 := 64#32
  let v520 : BitVec 32 := Scalar.muli v505 c64_i32_204
  let v529 : Index := Scalar.indexCast v520
  let c0_205 : Index := 0#32
  ![v529.toNat, 0]
@[reducible] def k0_t13_loop (v60 : BitVec 32) (v67 : BitVec 32) : Scf.Loop 32 :=
  let c0_i32_209 : BitVec 32 := 0#32
  let v537 : BitVec 1 := Scalar.cmpi .sgt v60 c0_i32_209
  let v538 : BitVec 32 := Scalar.extui v537
  let c0_i32_210 : BitVec 32 := 0#32
  let v539 : BitVec 1 := Scalar.cmpi .slt v60 c0_i32_210
  let v540 : BitVec 32 := Scalar.extui v539
  let v541 : BitVec 32 := Scalar.subi v538 v540
  let c64_i32_208 : BitVec 32 := 64#32
  let c0_i32_211 : BitVec 32 := 0#32
  let v542 : BitVec 1 := Scalar.cmpi .sgt c64_i32_208 c0_i32_211
  let v543 : BitVec 32 := Scalar.extui v542
  let c0_i32_212 : BitVec 32 := 0#32
  let v544 : BitVec 1 := Scalar.cmpi .slt c64_i32_208 c0_i32_212
  let v545 : BitVec 32 := Scalar.extui v544
  let v546 : BitVec 32 := Scalar.subi v543 v545
  let v547 : BitVec 1 := Scalar.cmpi .ne v541 v546
  let v548 : BitVec 32 := Scalar.remsi v60 c64_i32_208
  let c0_i32_213 : BitVec 32 := 0#32
  let v549 : BitVec 1 := Scalar.cmpi .ne v548 c0_i32_213
  let v550 : BitVec 1 := Scalar.andi v547 v549
  let v536 : BitVec 32 := Scalar.divsi v60 c64_i32_208
  let c1_i32_214 : BitVec 32 := 1#32
  let v551 : BitVec 32 := Scalar.subi v536 c1_i32_214
  let v552 : BitVec 32 := Scalar.select v550 v551 v536
  let c1_i32_224 : BitVec 32 := 1#32
  let v572 : BitVec 32 := Scalar.addi v552 c1_i32_224
  let c64_i32_215 : BitVec 32 := 64#32
  let v553 : BitVec 32 := Scalar.addi v67 c64_i32_215
  let c1_i32_216 : BitVec 32 := 1#32
  let v554 : BitVec 32 := Scalar.subi v553 c1_i32_216
  let c0_i32_218 : BitVec 32 := 0#32
  let v556 : BitVec 1 := Scalar.cmpi .sgt v554 c0_i32_218
  let v557 : BitVec 32 := Scalar.extui v556
  let c0_i32_219 : BitVec 32 := 0#32
  let v558 : BitVec 1 := Scalar.cmpi .slt v554 c0_i32_219
  let v559 : BitVec 32 := Scalar.extui v558
  let v560 : BitVec 32 := Scalar.subi v557 v559
  let c64_i32_217 : BitVec 32 := 64#32
  let c0_i32_220 : BitVec 32 := 0#32
  let v561 : BitVec 1 := Scalar.cmpi .sgt c64_i32_217 c0_i32_220
  let v562 : BitVec 32 := Scalar.extui v561
  let c0_i32_221 : BitVec 32 := 0#32
  let v563 : BitVec 1 := Scalar.cmpi .slt c64_i32_217 c0_i32_221
  let v564 : BitVec 32 := Scalar.extui v563
  let v565 : BitVec 32 := Scalar.subi v562 v564
  let v566 : BitVec 1 := Scalar.cmpi .ne v560 v565
  let v567 : BitVec 32 := Scalar.remsi v554 c64_i32_217
  let c0_i32_222 : BitVec 32 := 0#32
  let v568 : BitVec 1 := Scalar.cmpi .ne v567 c0_i32_222
  let v569 : BitVec 1 := Scalar.andi v566 v568
  let v555 : BitVec 32 := Scalar.divsi v554 c64_i32_217
  let c1_i32_223 : BitVec 32 := 1#32
  let v570 : BitVec 32 := Scalar.subi v555 c1_i32_223
  let v571 : BitVec 32 := Scalar.select v569 v570 v555
  let c1_i32_225 : BitVec 32 := 1#32
  let v573 : BitVec 32 := Scalar.subi v571 c1_i32_225
  let v575 : BitVec 32 := Scalar.subi v573 v572
  let c1_i32_227 : BitVec 32 := 1#32
  let v577 : BitVec 32 := Scalar.divsi v575 c1_i32_227
  let v578 : BitVec 32 := Scalar.muli v577 c1_i32_227
  let v579 : BitVec 32 := Scalar.addi v572 v578
  let c1_i32_228 : BitVec 32 := 1#32
  ⟨v572, v579, c1_i32_228⟩

def k0_off25 (v60 : BitVec 32) (v67 : BitVec 32) (k0_t13 : Fin (k0_t13_loop v60 v67).trips) : Fin 2 → Nat :=
  let c0_i32_209 : BitVec 32 := 0#32
  let v537 : BitVec 1 := Scalar.cmpi .sgt v60 c0_i32_209
  let v538 : BitVec 32 := Scalar.extui v537
  let c0_i32_210 : BitVec 32 := 0#32
  let v539 : BitVec 1 := Scalar.cmpi .slt v60 c0_i32_210
  let v540 : BitVec 32 := Scalar.extui v539
  let v541 : BitVec 32 := Scalar.subi v538 v540
  let c64_i32_208 : BitVec 32 := 64#32
  let c0_i32_211 : BitVec 32 := 0#32
  let v542 : BitVec 1 := Scalar.cmpi .sgt c64_i32_208 c0_i32_211
  let v543 : BitVec 32 := Scalar.extui v542
  let c0_i32_212 : BitVec 32 := 0#32
  let v544 : BitVec 1 := Scalar.cmpi .slt c64_i32_208 c0_i32_212
  let v545 : BitVec 32 := Scalar.extui v544
  let v546 : BitVec 32 := Scalar.subi v543 v545
  let v547 : BitVec 1 := Scalar.cmpi .ne v541 v546
  let v548 : BitVec 32 := Scalar.remsi v60 c64_i32_208
  let c0_i32_213 : BitVec 32 := 0#32
  let v549 : BitVec 1 := Scalar.cmpi .ne v548 c0_i32_213
  let v550 : BitVec 1 := Scalar.andi v547 v549
  let v536 : BitVec 32 := Scalar.divsi v60 c64_i32_208
  let c1_i32_214 : BitVec 32 := 1#32
  let v551 : BitVec 32 := Scalar.subi v536 c1_i32_214
  let v552 : BitVec 32 := Scalar.select v550 v551 v536
  let c1_i32_224 : BitVec 32 := 1#32
  let v572 : BitVec 32 := Scalar.addi v552 c1_i32_224
  let c1_i32_228 : BitVec 32 := 1#32
  let arg14 : BitVec 32 := Scf.iv v572 c1_i32_228 k0_t13
  let c64_i32_292 : BitVec 32 := 64#32
  let v728 : BitVec 32 := Scalar.muli arg14 c64_i32_292
  let v729 : Index := Scalar.indexCast v728
  let c0_293 : Index := 0#32
  ![v729.toNat, 0]
@[reducible] def k0_t14_loop (v60 : BitVec 32) (v67 : BitVec 32) : Scf.Loop 32 :=
  let c0_i32_209 : BitVec 32 := 0#32
  let v537 : BitVec 1 := Scalar.cmpi .sgt v60 c0_i32_209
  let v538 : BitVec 32 := Scalar.extui v537
  let c0_i32_210 : BitVec 32 := 0#32
  let v539 : BitVec 1 := Scalar.cmpi .slt v60 c0_i32_210
  let v540 : BitVec 32 := Scalar.extui v539
  let v541 : BitVec 32 := Scalar.subi v538 v540
  let c64_i32_208 : BitVec 32 := 64#32
  let c0_i32_211 : BitVec 32 := 0#32
  let v542 : BitVec 1 := Scalar.cmpi .sgt c64_i32_208 c0_i32_211
  let v543 : BitVec 32 := Scalar.extui v542
  let c0_i32_212 : BitVec 32 := 0#32
  let v544 : BitVec 1 := Scalar.cmpi .slt c64_i32_208 c0_i32_212
  let v545 : BitVec 32 := Scalar.extui v544
  let v546 : BitVec 32 := Scalar.subi v543 v545
  let v547 : BitVec 1 := Scalar.cmpi .ne v541 v546
  let v548 : BitVec 32 := Scalar.remsi v60 c64_i32_208
  let c0_i32_213 : BitVec 32 := 0#32
  let v549 : BitVec 1 := Scalar.cmpi .ne v548 c0_i32_213
  let v550 : BitVec 1 := Scalar.andi v547 v549
  let v536 : BitVec 32 := Scalar.divsi v60 c64_i32_208
  let c1_i32_214 : BitVec 32 := 1#32
  let v551 : BitVec 32 := Scalar.subi v536 c1_i32_214
  let v552 : BitVec 32 := Scalar.select v550 v551 v536
  let c1_i32_224 : BitVec 32 := 1#32
  let v572 : BitVec 32 := Scalar.addi v552 c1_i32_224
  let c64_i32_215 : BitVec 32 := 64#32
  let v553 : BitVec 32 := Scalar.addi v67 c64_i32_215
  let c1_i32_216 : BitVec 32 := 1#32
  let v554 : BitVec 32 := Scalar.subi v553 c1_i32_216
  let c0_i32_218 : BitVec 32 := 0#32
  let v556 : BitVec 1 := Scalar.cmpi .sgt v554 c0_i32_218
  let v557 : BitVec 32 := Scalar.extui v556
  let c0_i32_219 : BitVec 32 := 0#32
  let v558 : BitVec 1 := Scalar.cmpi .slt v554 c0_i32_219
  let v559 : BitVec 32 := Scalar.extui v558
  let v560 : BitVec 32 := Scalar.subi v557 v559
  let c64_i32_217 : BitVec 32 := 64#32
  let c0_i32_220 : BitVec 32 := 0#32
  let v561 : BitVec 1 := Scalar.cmpi .sgt c64_i32_217 c0_i32_220
  let v562 : BitVec 32 := Scalar.extui v561
  let c0_i32_221 : BitVec 32 := 0#32
  let v563 : BitVec 1 := Scalar.cmpi .slt c64_i32_217 c0_i32_221
  let v564 : BitVec 32 := Scalar.extui v563
  let v565 : BitVec 32 := Scalar.subi v562 v564
  let v566 : BitVec 1 := Scalar.cmpi .ne v560 v565
  let v567 : BitVec 32 := Scalar.remsi v554 c64_i32_217
  let c0_i32_222 : BitVec 32 := 0#32
  let v568 : BitVec 1 := Scalar.cmpi .ne v567 c0_i32_222
  let v569 : BitVec 1 := Scalar.andi v566 v568
  let v555 : BitVec 32 := Scalar.divsi v554 c64_i32_217
  let c1_i32_223 : BitVec 32 := 1#32
  let v570 : BitVec 32 := Scalar.subi v555 c1_i32_223
  let v571 : BitVec 32 := Scalar.select v569 v570 v555
  let c1_i32_225 : BitVec 32 := 1#32
  let v573 : BitVec 32 := Scalar.subi v571 c1_i32_225
  let v575 : BitVec 32 := Scalar.subi v573 v572
  let c1_i32_227 : BitVec 32 := 1#32
  let v577 : BitVec 32 := Scalar.divsi v575 c1_i32_227
  let v578 : BitVec 32 := Scalar.muli v577 c1_i32_227
  let v579 : BitVec 32 := Scalar.addi v572 v578
  let v576 : BitVec 32 := Scalar.addi v572 v575
  let c1_i32_229 : BitVec 32 := 1#32
  ⟨v579, v576, c1_i32_229⟩
def k0_off26 (v60 : BitVec 32) (v67 : BitVec 32) (k0_t14 : Fin (k0_t14_loop v60 v67).trips) : Fin 2 → Nat :=
  let c0_i32_209 : BitVec 32 := 0#32
  let v537 : BitVec 1 := Scalar.cmpi .sgt v60 c0_i32_209
  let v538 : BitVec 32 := Scalar.extui v537
  let c0_i32_210 : BitVec 32 := 0#32
  let v539 : BitVec 1 := Scalar.cmpi .slt v60 c0_i32_210
  let v540 : BitVec 32 := Scalar.extui v539
  let v541 : BitVec 32 := Scalar.subi v538 v540
  let c64_i32_208 : BitVec 32 := 64#32
  let c0_i32_211 : BitVec 32 := 0#32
  let v542 : BitVec 1 := Scalar.cmpi .sgt c64_i32_208 c0_i32_211
  let v543 : BitVec 32 := Scalar.extui v542
  let c0_i32_212 : BitVec 32 := 0#32
  let v544 : BitVec 1 := Scalar.cmpi .slt c64_i32_208 c0_i32_212
  let v545 : BitVec 32 := Scalar.extui v544
  let v546 : BitVec 32 := Scalar.subi v543 v545
  let v547 : BitVec 1 := Scalar.cmpi .ne v541 v546
  let v548 : BitVec 32 := Scalar.remsi v60 c64_i32_208
  let c0_i32_213 : BitVec 32 := 0#32
  let v549 : BitVec 1 := Scalar.cmpi .ne v548 c0_i32_213
  let v550 : BitVec 1 := Scalar.andi v547 v549
  let v536 : BitVec 32 := Scalar.divsi v60 c64_i32_208
  let c1_i32_214 : BitVec 32 := 1#32
  let v551 : BitVec 32 := Scalar.subi v536 c1_i32_214
  let v552 : BitVec 32 := Scalar.select v550 v551 v536
  let c1_i32_224 : BitVec 32 := 1#32
  let v572 : BitVec 32 := Scalar.addi v552 c1_i32_224
  let c64_i32_215 : BitVec 32 := 64#32
  let v553 : BitVec 32 := Scalar.addi v67 c64_i32_215
  let c1_i32_216 : BitVec 32 := 1#32
  let v554 : BitVec 32 := Scalar.subi v553 c1_i32_216
  let c0_i32_218 : BitVec 32 := 0#32
  let v556 : BitVec 1 := Scalar.cmpi .sgt v554 c0_i32_218
  let v557 : BitVec 32 := Scalar.extui v556
  let c0_i32_219 : BitVec 32 := 0#32
  let v558 : BitVec 1 := Scalar.cmpi .slt v554 c0_i32_219
  let v559 : BitVec 32 := Scalar.extui v558
  let v560 : BitVec 32 := Scalar.subi v557 v559
  let c64_i32_217 : BitVec 32 := 64#32
  let c0_i32_220 : BitVec 32 := 0#32
  let v561 : BitVec 1 := Scalar.cmpi .sgt c64_i32_217 c0_i32_220
  let v562 : BitVec 32 := Scalar.extui v561
  let c0_i32_221 : BitVec 32 := 0#32
  let v563 : BitVec 1 := Scalar.cmpi .slt c64_i32_217 c0_i32_221
  let v564 : BitVec 32 := Scalar.extui v563
  let v565 : BitVec 32 := Scalar.subi v562 v564
  let v566 : BitVec 1 := Scalar.cmpi .ne v560 v565
  let v567 : BitVec 32 := Scalar.remsi v554 c64_i32_217
  let c0_i32_222 : BitVec 32 := 0#32
  let v568 : BitVec 1 := Scalar.cmpi .ne v567 c0_i32_222
  let v569 : BitVec 1 := Scalar.andi v566 v568
  let v555 : BitVec 32 := Scalar.divsi v554 c64_i32_217
  let c1_i32_223 : BitVec 32 := 1#32
  let v570 : BitVec 32 := Scalar.subi v555 c1_i32_223
  let v571 : BitVec 32 := Scalar.select v569 v570 v555
  let c1_i32_225 : BitVec 32 := 1#32
  let v573 : BitVec 32 := Scalar.subi v571 c1_i32_225
  let v575 : BitVec 32 := Scalar.subi v573 v572
  let c1_i32_227 : BitVec 32 := 1#32
  let v577 : BitVec 32 := Scalar.divsi v575 c1_i32_227
  let v578 : BitVec 32 := Scalar.muli v577 c1_i32_227
  let v579 : BitVec 32 := Scalar.addi v572 v578
  let c1_i32_229 : BitVec 32 := 1#32
  let arg14 : BitVec 32 := Scf.iv v579 c1_i32_229 k0_t14
  let c64_i32_292 : BitVec 32 := 64#32
  let v728 : BitVec 32 := Scalar.muli arg14 c64_i32_292
  let v729 : Index := Scalar.indexCast v728
  let c0_293 : Index := 0#32
  ![v729.toNat, 0]
def k0_off27 (v60 : BitVec 32) : Fin 2 → Nat :=
  let c0_i32_209 : BitVec 32 := 0#32
  let v537 : BitVec 1 := Scalar.cmpi .sgt v60 c0_i32_209
  let v538 : BitVec 32 := Scalar.extui v537
  let c0_i32_210 : BitVec 32 := 0#32
  let v539 : BitVec 1 := Scalar.cmpi .slt v60 c0_i32_210
  let v540 : BitVec 32 := Scalar.extui v539
  let v541 : BitVec 32 := Scalar.subi v538 v540
  let c64_i32_208 : BitVec 32 := 64#32
  let c0_i32_211 : BitVec 32 := 0#32
  let v542 : BitVec 1 := Scalar.cmpi .sgt c64_i32_208 c0_i32_211
  let v543 : BitVec 32 := Scalar.extui v542
  let c0_i32_212 : BitVec 32 := 0#32
  let v544 : BitVec 1 := Scalar.cmpi .slt c64_i32_208 c0_i32_212
  let v545 : BitVec 32 := Scalar.extui v544
  let v546 : BitVec 32 := Scalar.subi v543 v545
  let v547 : BitVec 1 := Scalar.cmpi .ne v541 v546
  let v548 : BitVec 32 := Scalar.remsi v60 c64_i32_208
  let c0_i32_213 : BitVec 32 := 0#32
  let v549 : BitVec 1 := Scalar.cmpi .ne v548 c0_i32_213
  let v550 : BitVec 1 := Scalar.andi v547 v549
  let v536 : BitVec 32 := Scalar.divsi v60 c64_i32_208
  let c1_i32_214 : BitVec 32 := 1#32
  let v551 : BitVec 32 := Scalar.subi v536 c1_i32_214
  let v552 : BitVec 32 := Scalar.select v550 v551 v536
  let c64_i32_232 : BitVec 32 := 64#32
  let v584 : BitVec 32 := Scalar.muli v552 c64_i32_232
  let v593 : Index := Scalar.indexCast v584
  let c0_233 : Index := 0#32
  ![v593.toNat, 0]

def k0_chk6 (v53 : BitVec 32) (v60 : BitVec 32) : Prop :=
  ((k0_t11_loop v53 v60).OK) ∧
  (∀ k0_t11 : Fin (k0_t11_loop v53 v60).trips, ∀ a, (k0_off21 v53 v60 k0_t11) a + S64x128.size a ≤ S10128x128.size a) ∧
  ((k0_t12_loop v53 v60).OK) ∧
  (∀ k0_t12 : Fin (k0_t12_loop v53 v60).trips, ∀ a, (k0_off22 v53 v60 k0_t12) a + S64x128.size a ≤ S10128x128.size a) ∧
  (∀ a, (k0_off24 v60) a + S64x128.size a ≤ S10128x128.size a) ∧
  (∀ a, (k0_off27 v60) a + S64x128.size a ≤ S10128x128.size a)
theorem k0_t11_ok : ∀ (v53 : BitVec 32) (v60 : BitVec 32) (k0_hw6 : k0_chk6 v53 v60), (k0_t11_loop v53 v60).OK := fun v53 v60 k0_hw6 => k0_hw6.1
theorem k0_off21_inb : ∀ (v53 : BitVec 32) (v60 : BitVec 32) (k0_hw6 : k0_chk6 v53 v60) (k0_t11 : Fin (k0_t11_loop v53 v60).trips), ∀ a, (k0_off21 v53 v60 k0_t11) a + S64x128.size a ≤ S10128x128.size a := fun v53 v60 k0_hw6 k0_t11 => k0_hw6.2.1 k0_t11
theorem k0_t12_ok : ∀ (v53 : BitVec 32) (v60 : BitVec 32) (k0_hw6 : k0_chk6 v53 v60), (k0_t12_loop v53 v60).OK := fun v53 v60 k0_hw6 => k0_hw6.2.2.1
theorem k0_off22_inb : ∀ (v53 : BitVec 32) (v60 : BitVec 32) (k0_hw6 : k0_chk6 v53 v60) (k0_t12 : Fin (k0_t12_loop v53 v60).trips), ∀ a, (k0_off22 v53 v60 k0_t12) a + S64x128.size a ≤ S10128x128.size a := fun v53 v60 k0_hw6 k0_t12 => k0_hw6.2.2.2.1 k0_t12
theorem k0_off24_inb : ∀ (v53 : BitVec 32) (v60 : BitVec 32) (k0_hw6 : k0_chk6 v53 v60), ∀ a, (k0_off24 v60) a + S64x128.size a ≤ S10128x128.size a := fun v53 v60 k0_hw6 => k0_hw6.2.2.2.2.1
theorem k0_off27_inb : ∀ (v53 : BitVec 32) (v60 : BitVec 32) (k0_hw6 : k0_chk6 v53 v60), ∀ a, (k0_off27 v60) a + S64x128.size a ≤ S10128x128.size a := fun v53 v60 k0_hw6 => k0_hw6.2.2.2.2.2

def k0_off28 (v67 : BitVec 32) : Fin 2 → Nat :=
  let c64_i32_215 : BitVec 32 := 64#32
  let v553 : BitVec 32 := Scalar.addi v67 c64_i32_215
  let c1_i32_216 : BitVec 32 := 1#32
  let v554 : BitVec 32 := Scalar.subi v553 c1_i32_216
  let c0_i32_218 : BitVec 32 := 0#32
  let v556 : BitVec 1 := Scalar.cmpi .sgt v554 c0_i32_218
  let v557 : BitVec 32 := Scalar.extui v556
  let c0_i32_219 : BitVec 32 := 0#32
  let v558 : BitVec 1 := Scalar.cmpi .slt v554 c0_i32_219
  let v559 : BitVec 32 := Scalar.extui v558
  let v560 : BitVec 32 := Scalar.subi v557 v559
  let c64_i32_217 : BitVec 32 := 64#32
  let c0_i32_220 : BitVec 32 := 0#32
  let v561 : BitVec 1 := Scalar.cmpi .sgt c64_i32_217 c0_i32_220
  let v562 : BitVec 32 := Scalar.extui v561
  let c0_i32_221 : BitVec 32 := 0#32
  let v563 : BitVec 1 := Scalar.cmpi .slt c64_i32_217 c0_i32_221
  let v564 : BitVec 32 := Scalar.extui v563
  let v565 : BitVec 32 := Scalar.subi v562 v564
  let v566 : BitVec 1 := Scalar.cmpi .ne v560 v565
  let v567 : BitVec 32 := Scalar.remsi v554 c64_i32_217
  let c0_i32_222 : BitVec 32 := 0#32
  let v568 : BitVec 1 := Scalar.cmpi .ne v567 c0_i32_222
  let v569 : BitVec 1 := Scalar.andi v566 v568
  let v555 : BitVec 32 := Scalar.divsi v554 c64_i32_217
  let c1_i32_223 : BitVec 32 := 1#32
  let v570 : BitVec 32 := Scalar.subi v555 c1_i32_223
  let v571 : BitVec 32 := Scalar.select v569 v570 v555
  let c1_i32_230 : BitVec 32 := 1#32
  let v582 : BitVec 32 := Scalar.subi v571 c1_i32_230
  let c0_i32_231 : BitVec 32 := 0#32
  let v583 : BitVec 32 := Scalar.maxsi v582 c0_i32_231
  let c64_i32_235 : BitVec 32 := 64#32
  let v598 : BitVec 32 := Scalar.muli v583 c64_i32_235
  let v607 : Index := Scalar.indexCast v598
  let c0_236 : Index := 0#32
  ![v607.toNat, 0]
@[reducible] def k0_t15_loop (v67 : BitVec 32) : Scf.Loop 32 :=
  let c0_i32_240 : BitVec 32 := 0#32
  let v615 : BitVec 1 := Scalar.cmpi .sgt v67 c0_i32_240
  let v616 : BitVec 32 := Scalar.extui v615
  let c0_i32_241 : BitVec 32 := 0#32
  let v617 : BitVec 1 := Scalar.cmpi .slt v67 c0_i32_241
  let v618 : BitVec 32 := Scalar.extui v617
  let v619 : BitVec 32 := Scalar.subi v616 v618
  let c64_i32_239 : BitVec 32 := 64#32
  let c0_i32_242 : BitVec 32 := 0#32
  let v620 : BitVec 1 := Scalar.cmpi .sgt c64_i32_239 c0_i32_242
  let v621 : BitVec 32 := Scalar.extui v620
  let c0_i32_243 : BitVec 32 := 0#32
  let v622 : BitVec 1 := Scalar.cmpi .slt c64_i32_239 c0_i32_243
  let v623 : BitVec 32 := Scalar.extui v622
  let v624 : BitVec 32 := Scalar.subi v621 v623
  let v625 : BitVec 1 := Scalar.cmpi .ne v619 v624
  let v626 : BitVec 32 := Scalar.remsi v67 c64_i32_239
  let c0_i32_244 : BitVec 32 := 0#32
  let v627 : BitVec 1 := Scalar.cmpi .ne v626 c0_i32_244
  let v628 : BitVec 1 := Scalar.andi v625 v627
  let v614 : BitVec 32 := Scalar.divsi v67 c64_i32_239
  let c1_i32_245 : BitVec 32 := 1#32
  let v629 : BitVec 32 := Scalar.subi v614 c1_i32_245
  let v630 : BitVec 32 := Scalar.select v628 v629 v614
  let c1_i32_255 : BitVec 32 := 1#32
  let v650 : BitVec 32 := Scalar.addi v630 c1_i32_255
  let c10000_i32 : BitVec 32 := 10000#32
  let c64_i32_246 : BitVec 32 := 64#32
  let v631 : BitVec 32 := Scalar.addi c10000_i32 c64_i32_246
  let c1_i32_247 : BitVec 32 := 1#32
  let v632 : BitVec 32 := Scalar.subi v631 c1_i32_247
  let c0_i32_249 : BitVec 32 := 0#32
  let v634 : BitVec 1 := Scalar.cmpi .sgt v632 c0_i32_249
  let v635 : BitVec 32 := Scalar.extui v634
  let c0_i32_250 : BitVec 32 := 0#32
  let v636 : BitVec 1 := Scalar.cmpi .slt v632 c0_i32_250
  let v637 : BitVec 32 := Scalar.extui v636
  let v638 : BitVec 32 := Scalar.subi v635 v637
  let c64_i32_248 : BitVec 32 := 64#32
  let c0_i32_251 : BitVec 32 := 0#32
  let v639 : BitVec 1 := Scalar.cmpi .sgt c64_i32_248 c0_i32_251
  let v640 : BitVec 32 := Scalar.extui v639
  let c0_i32_252 : BitVec 32 := 0#32
  let v641 : BitVec 1 := Scalar.cmpi .slt c64_i32_248 c0_i32_252
  let v642 : BitVec 32 := Scalar.extui v641
  let v643 : BitVec 32 := Scalar.subi v640 v642
  let v644 : BitVec 1 := Scalar.cmpi .ne v638 v643
  let v645 : BitVec 32 := Scalar.remsi v632 c64_i32_248
  let c0_i32_253 : BitVec 32 := 0#32
  let v646 : BitVec 1 := Scalar.cmpi .ne v645 c0_i32_253
  let v647 : BitVec 1 := Scalar.andi v644 v646
  let v633 : BitVec 32 := Scalar.divsi v632 c64_i32_248
  let c1_i32_254 : BitVec 32 := 1#32
  let v648 : BitVec 32 := Scalar.subi v633 c1_i32_254
  let v649 : BitVec 32 := Scalar.select v647 v648 v633
  let c1_i32_256 : BitVec 32 := 1#32
  let v651 : BitVec 32 := Scalar.subi v649 c1_i32_256
  let v653 : BitVec 32 := Scalar.subi v651 v650
  let c1_i32_258 : BitVec 32 := 1#32
  let v655 : BitVec 32 := Scalar.divsi v653 c1_i32_258
  let v656 : BitVec 32 := Scalar.muli v655 c1_i32_258
  let v657 : BitVec 32 := Scalar.addi v650 v656
  let c1_i32_259 : BitVec 32 := 1#32
  ⟨v650, v657, c1_i32_259⟩
def k0_off29 (v67 : BitVec 32) (k0_t15 : Fin (k0_t15_loop v67).trips) : Fin 2 → Nat :=
  let c0_i32_240 : BitVec 32 := 0#32
  let v615 : BitVec 1 := Scalar.cmpi .sgt v67 c0_i32_240
  let v616 : BitVec 32 := Scalar.extui v615
  let c0_i32_241 : BitVec 32 := 0#32
  let v617 : BitVec 1 := Scalar.cmpi .slt v67 c0_i32_241
  let v618 : BitVec 32 := Scalar.extui v617
  let v619 : BitVec 32 := Scalar.subi v616 v618
  let c64_i32_239 : BitVec 32 := 64#32
  let c0_i32_242 : BitVec 32 := 0#32
  let v620 : BitVec 1 := Scalar.cmpi .sgt c64_i32_239 c0_i32_242
  let v621 : BitVec 32 := Scalar.extui v620
  let c0_i32_243 : BitVec 32 := 0#32
  let v622 : BitVec 1 := Scalar.cmpi .slt c64_i32_239 c0_i32_243
  let v623 : BitVec 32 := Scalar.extui v622
  let v624 : BitVec 32 := Scalar.subi v621 v623
  let v625 : BitVec 1 := Scalar.cmpi .ne v619 v624
  let v626 : BitVec 32 := Scalar.remsi v67 c64_i32_239
  let c0_i32_244 : BitVec 32 := 0#32
  let v627 : BitVec 1 := Scalar.cmpi .ne v626 c0_i32_244
  let v628 : BitVec 1 := Scalar.andi v625 v627
  let v614 : BitVec 32 := Scalar.divsi v67 c64_i32_239
  let c1_i32_245 : BitVec 32 := 1#32
  let v629 : BitVec 32 := Scalar.subi v614 c1_i32_245
  let v630 : BitVec 32 := Scalar.select v628 v629 v614
  let c1_i32_255 : BitVec 32 := 1#32
  let v650 : BitVec 32 := Scalar.addi v630 c1_i32_255
  let c1_i32_259 : BitVec 32 := 1#32
  let arg14 : BitVec 32 := Scf.iv v650 c1_i32_259 k0_t15
  let c64_i32_292 : BitVec 32 := 64#32
  let v728 : BitVec 32 := Scalar.muli arg14 c64_i32_292
  let v729 : Index := Scalar.indexCast v728
  let c0_293 : Index := 0#32
  ![v729.toNat, 0]
@[reducible] def k0_t16_loop (v67 : BitVec 32) : Scf.Loop 32 :=
  let c0_i32_240 : BitVec 32 := 0#32
  let v615 : BitVec 1 := Scalar.cmpi .sgt v67 c0_i32_240
  let v616 : BitVec 32 := Scalar.extui v615
  let c0_i32_241 : BitVec 32 := 0#32
  let v617 : BitVec 1 := Scalar.cmpi .slt v67 c0_i32_241
  let v618 : BitVec 32 := Scalar.extui v617
  let v619 : BitVec 32 := Scalar.subi v616 v618
  let c64_i32_239 : BitVec 32 := 64#32
  let c0_i32_242 : BitVec 32 := 0#32
  let v620 : BitVec 1 := Scalar.cmpi .sgt c64_i32_239 c0_i32_242
  let v621 : BitVec 32 := Scalar.extui v620
  let c0_i32_243 : BitVec 32 := 0#32
  let v622 : BitVec 1 := Scalar.cmpi .slt c64_i32_239 c0_i32_243
  let v623 : BitVec 32 := Scalar.extui v622
  let v624 : BitVec 32 := Scalar.subi v621 v623
  let v625 : BitVec 1 := Scalar.cmpi .ne v619 v624
  let v626 : BitVec 32 := Scalar.remsi v67 c64_i32_239
  let c0_i32_244 : BitVec 32 := 0#32
  let v627 : BitVec 1 := Scalar.cmpi .ne v626 c0_i32_244
  let v628 : BitVec 1 := Scalar.andi v625 v627
  let v614 : BitVec 32 := Scalar.divsi v67 c64_i32_239
  let c1_i32_245 : BitVec 32 := 1#32
  let v629 : BitVec 32 := Scalar.subi v614 c1_i32_245
  let v630 : BitVec 32 := Scalar.select v628 v629 v614
  let c1_i32_255 : BitVec 32 := 1#32
  let v650 : BitVec 32 := Scalar.addi v630 c1_i32_255
  let c10000_i32 : BitVec 32 := 10000#32
  let c64_i32_246 : BitVec 32 := 64#32
  let v631 : BitVec 32 := Scalar.addi c10000_i32 c64_i32_246
  let c1_i32_247 : BitVec 32 := 1#32
  let v632 : BitVec 32 := Scalar.subi v631 c1_i32_247
  let c0_i32_249 : BitVec 32 := 0#32
  let v634 : BitVec 1 := Scalar.cmpi .sgt v632 c0_i32_249
  let v635 : BitVec 32 := Scalar.extui v634
  let c0_i32_250 : BitVec 32 := 0#32
  let v636 : BitVec 1 := Scalar.cmpi .slt v632 c0_i32_250
  let v637 : BitVec 32 := Scalar.extui v636
  let v638 : BitVec 32 := Scalar.subi v635 v637
  let c64_i32_248 : BitVec 32 := 64#32
  let c0_i32_251 : BitVec 32 := 0#32
  let v639 : BitVec 1 := Scalar.cmpi .sgt c64_i32_248 c0_i32_251
  let v640 : BitVec 32 := Scalar.extui v639
  let c0_i32_252 : BitVec 32 := 0#32
  let v641 : BitVec 1 := Scalar.cmpi .slt c64_i32_248 c0_i32_252
  let v642 : BitVec 32 := Scalar.extui v641
  let v643 : BitVec 32 := Scalar.subi v640 v642
  let v644 : BitVec 1 := Scalar.cmpi .ne v638 v643
  let v645 : BitVec 32 := Scalar.remsi v632 c64_i32_248
  let c0_i32_253 : BitVec 32 := 0#32
  let v646 : BitVec 1 := Scalar.cmpi .ne v645 c0_i32_253
  let v647 : BitVec 1 := Scalar.andi v644 v646
  let v633 : BitVec 32 := Scalar.divsi v632 c64_i32_248
  let c1_i32_254 : BitVec 32 := 1#32
  let v648 : BitVec 32 := Scalar.subi v633 c1_i32_254
  let v649 : BitVec 32 := Scalar.select v647 v648 v633
  let c1_i32_256 : BitVec 32 := 1#32
  let v651 : BitVec 32 := Scalar.subi v649 c1_i32_256
  let v653 : BitVec 32 := Scalar.subi v651 v650
  let c1_i32_258 : BitVec 32 := 1#32
  let v655 : BitVec 32 := Scalar.divsi v653 c1_i32_258
  let v656 : BitVec 32 := Scalar.muli v655 c1_i32_258
  let v657 : BitVec 32 := Scalar.addi v650 v656
  let v654 : BitVec 32 := Scalar.addi v650 v653
  let c1_i32_260 : BitVec 32 := 1#32
  ⟨v657, v654, c1_i32_260⟩
def k0_off30 (v67 : BitVec 32) (k0_t16 : Fin (k0_t16_loop v67).trips) : Fin 2 → Nat :=
  let c0_i32_240 : BitVec 32 := 0#32
  let v615 : BitVec 1 := Scalar.cmpi .sgt v67 c0_i32_240
  let v616 : BitVec 32 := Scalar.extui v615
  let c0_i32_241 : BitVec 32 := 0#32
  let v617 : BitVec 1 := Scalar.cmpi .slt v67 c0_i32_241
  let v618 : BitVec 32 := Scalar.extui v617
  let v619 : BitVec 32 := Scalar.subi v616 v618
  let c64_i32_239 : BitVec 32 := 64#32
  let c0_i32_242 : BitVec 32 := 0#32
  let v620 : BitVec 1 := Scalar.cmpi .sgt c64_i32_239 c0_i32_242
  let v621 : BitVec 32 := Scalar.extui v620
  let c0_i32_243 : BitVec 32 := 0#32
  let v622 : BitVec 1 := Scalar.cmpi .slt c64_i32_239 c0_i32_243
  let v623 : BitVec 32 := Scalar.extui v622
  let v624 : BitVec 32 := Scalar.subi v621 v623
  let v625 : BitVec 1 := Scalar.cmpi .ne v619 v624
  let v626 : BitVec 32 := Scalar.remsi v67 c64_i32_239
  let c0_i32_244 : BitVec 32 := 0#32
  let v627 : BitVec 1 := Scalar.cmpi .ne v626 c0_i32_244
  let v628 : BitVec 1 := Scalar.andi v625 v627
  let v614 : BitVec 32 := Scalar.divsi v67 c64_i32_239
  let c1_i32_245 : BitVec 32 := 1#32
  let v629 : BitVec 32 := Scalar.subi v614 c1_i32_245
  let v630 : BitVec 32 := Scalar.select v628 v629 v614
  let c1_i32_255 : BitVec 32 := 1#32
  let v650 : BitVec 32 := Scalar.addi v630 c1_i32_255
  let c10000_i32 : BitVec 32 := 10000#32
  let c64_i32_246 : BitVec 32 := 64#32
  let v631 : BitVec 32 := Scalar.addi c10000_i32 c64_i32_246
  let c1_i32_247 : BitVec 32 := 1#32
  let v632 : BitVec 32 := Scalar.subi v631 c1_i32_247
  let c0_i32_249 : BitVec 32 := 0#32
  let v634 : BitVec 1 := Scalar.cmpi .sgt v632 c0_i32_249
  let v635 : BitVec 32 := Scalar.extui v634
  let c0_i32_250 : BitVec 32 := 0#32
  let v636 : BitVec 1 := Scalar.cmpi .slt v632 c0_i32_250
  let v637 : BitVec 32 := Scalar.extui v636
  let v638 : BitVec 32 := Scalar.subi v635 v637
  let c64_i32_248 : BitVec 32 := 64#32
  let c0_i32_251 : BitVec 32 := 0#32
  let v639 : BitVec 1 := Scalar.cmpi .sgt c64_i32_248 c0_i32_251
  let v640 : BitVec 32 := Scalar.extui v639
  let c0_i32_252 : BitVec 32 := 0#32
  let v641 : BitVec 1 := Scalar.cmpi .slt c64_i32_248 c0_i32_252
  let v642 : BitVec 32 := Scalar.extui v641
  let v643 : BitVec 32 := Scalar.subi v640 v642
  let v644 : BitVec 1 := Scalar.cmpi .ne v638 v643
  let v645 : BitVec 32 := Scalar.remsi v632 c64_i32_248
  let c0_i32_253 : BitVec 32 := 0#32
  let v646 : BitVec 1 := Scalar.cmpi .ne v645 c0_i32_253
  let v647 : BitVec 1 := Scalar.andi v644 v646
  let v633 : BitVec 32 := Scalar.divsi v632 c64_i32_248
  let c1_i32_254 : BitVec 32 := 1#32
  let v648 : BitVec 32 := Scalar.subi v633 c1_i32_254
  let v649 : BitVec 32 := Scalar.select v647 v648 v633
  let c1_i32_256 : BitVec 32 := 1#32
  let v651 : BitVec 32 := Scalar.subi v649 c1_i32_256
  let v653 : BitVec 32 := Scalar.subi v651 v650
  let c1_i32_258 : BitVec 32 := 1#32
  let v655 : BitVec 32 := Scalar.divsi v653 c1_i32_258
  let v656 : BitVec 32 := Scalar.muli v655 c1_i32_258
  let v657 : BitVec 32 := Scalar.addi v650 v656
  let c1_i32_260 : BitVec 32 := 1#32
  let arg14 : BitVec 32 := Scf.iv v657 c1_i32_260 k0_t16
  let c64_i32_292 : BitVec 32 := 64#32
  let v728 : BitVec 32 := Scalar.muli arg14 c64_i32_292
  let v729 : Index := Scalar.indexCast v728
  let c0_293 : Index := 0#32
  ![v729.toNat, 0]
def k0_off31 (v67 : BitVec 32) : Fin 2 → Nat :=
  let c0_i32_240 : BitVec 32 := 0#32
  let v615 : BitVec 1 := Scalar.cmpi .sgt v67 c0_i32_240
  let v616 : BitVec 32 := Scalar.extui v615
  let c0_i32_241 : BitVec 32 := 0#32
  let v617 : BitVec 1 := Scalar.cmpi .slt v67 c0_i32_241
  let v618 : BitVec 32 := Scalar.extui v617
  let v619 : BitVec 32 := Scalar.subi v616 v618
  let c64_i32_239 : BitVec 32 := 64#32
  let c0_i32_242 : BitVec 32 := 0#32
  let v620 : BitVec 1 := Scalar.cmpi .sgt c64_i32_239 c0_i32_242
  let v621 : BitVec 32 := Scalar.extui v620
  let c0_i32_243 : BitVec 32 := 0#32
  let v622 : BitVec 1 := Scalar.cmpi .slt c64_i32_239 c0_i32_243
  let v623 : BitVec 32 := Scalar.extui v622
  let v624 : BitVec 32 := Scalar.subi v621 v623
  let v625 : BitVec 1 := Scalar.cmpi .ne v619 v624
  let v626 : BitVec 32 := Scalar.remsi v67 c64_i32_239
  let c0_i32_244 : BitVec 32 := 0#32
  let v627 : BitVec 1 := Scalar.cmpi .ne v626 c0_i32_244
  let v628 : BitVec 1 := Scalar.andi v625 v627
  let v614 : BitVec 32 := Scalar.divsi v67 c64_i32_239
  let c1_i32_245 : BitVec 32 := 1#32
  let v629 : BitVec 32 := Scalar.subi v614 c1_i32_245
  let v630 : BitVec 32 := Scalar.select v628 v629 v614
  let c64_i32_263 : BitVec 32 := 64#32
  let v662 : BitVec 32 := Scalar.muli v630 c64_i32_263
  let v671 : Index := Scalar.indexCast v662
  let c0_265 : Index := 0#32
  ![v671.toNat, 0]

def k0_chk7 (v60 : BitVec 32) (v67 : BitVec 32) : Prop :=
  ((k0_t13_loop v60 v67).OK) ∧
  (∀ k0_t13 : Fin (k0_t13_loop v60 v67).trips, ∀ a, (k0_off25 v60 v67 k0_t13) a + S64x128.size a ≤ S10128x128.size a) ∧
  ((k0_t14_loop v60 v67).OK) ∧
  (∀ k0_t14 : Fin (k0_t14_loop v60 v67).trips, ∀ a, (k0_off26 v60 v67 k0_t14) a + S64x128.size a ≤ S10128x128.size a) ∧
  (∀ a, (k0_off28 v67) a + S64x128.size a ≤ S10128x128.size a) ∧
  ((k0_t15_loop v67).OK) ∧
  (∀ k0_t15 : Fin (k0_t15_loop v67).trips, ∀ a, (k0_off29 v67 k0_t15) a + S64x128.size a ≤ S10128x128.size a) ∧
  ((k0_t16_loop v67).OK) ∧
  (∀ k0_t16 : Fin (k0_t16_loop v67).trips, ∀ a, (k0_off30 v67 k0_t16) a + S64x128.size a ≤ S10128x128.size a) ∧
  (∀ a, (k0_off31 v67) a + S64x128.size a ≤ S10128x128.size a)
theorem k0_t13_ok : ∀ (v60 : BitVec 32) (v67 : BitVec 32) (k0_hw7 : k0_chk7 v60 v67), (k0_t13_loop v60 v67).OK := fun v60 v67 k0_hw7 => k0_hw7.1
theorem k0_off25_inb : ∀ (v60 : BitVec 32) (v67 : BitVec 32) (k0_hw7 : k0_chk7 v60 v67) (k0_t13 : Fin (k0_t13_loop v60 v67).trips), ∀ a, (k0_off25 v60 v67 k0_t13) a + S64x128.size a ≤ S10128x128.size a := fun v60 v67 k0_hw7 k0_t13 => k0_hw7.2.1 k0_t13
theorem k0_t14_ok : ∀ (v60 : BitVec 32) (v67 : BitVec 32) (k0_hw7 : k0_chk7 v60 v67), (k0_t14_loop v60 v67).OK := fun v60 v67 k0_hw7 => k0_hw7.2.2.1
theorem k0_off26_inb : ∀ (v60 : BitVec 32) (v67 : BitVec 32) (k0_hw7 : k0_chk7 v60 v67) (k0_t14 : Fin (k0_t14_loop v60 v67).trips), ∀ a, (k0_off26 v60 v67 k0_t14) a + S64x128.size a ≤ S10128x128.size a := fun v60 v67 k0_hw7 k0_t14 => k0_hw7.2.2.2.1 k0_t14
theorem k0_off28_inb : ∀ (v60 : BitVec 32) (v67 : BitVec 32) (k0_hw7 : k0_chk7 v60 v67), ∀ a, (k0_off28 v67) a + S64x128.size a ≤ S10128x128.size a := fun v60 v67 k0_hw7 => k0_hw7.2.2.2.2.1
theorem k0_t15_ok : ∀ (v60 : BitVec 32) (v67 : BitVec 32) (k0_hw7 : k0_chk7 v60 v67), (k0_t15_loop v67).OK := fun v60 v67 k0_hw7 => k0_hw7.2.2.2.2.2.1
theorem k0_off29_inb : ∀ (v60 : BitVec 32) (v67 : BitVec 32) (k0_hw7 : k0_chk7 v60 v67) (k0_t15 : Fin (k0_t15_loop v67).trips), ∀ a, (k0_off29 v67 k0_t15) a + S64x128.size a ≤ S10128x128.size a := fun v60 v67 k0_hw7 k0_t15 => k0_hw7.2.2.2.2.2.2.1 k0_t15
theorem k0_t16_ok : ∀ (v60 : BitVec 32) (v67 : BitVec 32) (k0_hw7 : k0_chk7 v60 v67), (k0_t16_loop v67).OK := fun v60 v67 k0_hw7 => k0_hw7.2.2.2.2.2.2.2.1
theorem k0_off30_inb : ∀ (v60 : BitVec 32) (v67 : BitVec 32) (k0_hw7 : k0_chk7 v60 v67) (k0_t16 : Fin (k0_t16_loop v67).trips), ∀ a, (k0_off30 v67 k0_t16) a + S64x128.size a ≤ S10128x128.size a := fun v60 v67 k0_hw7 k0_t16 => k0_hw7.2.2.2.2.2.2.2.2.1 k0_t16
theorem k0_off31_inb : ∀ (v60 : BitVec 32) (v67 : BitVec 32) (k0_hw7 : k0_chk7 v60 v67), ∀ a, (k0_off31 v67) a + S64x128.size a ≤ S10128x128.size a := fun v60 v67 k0_hw7 => k0_hw7.2.2.2.2.2.2.2.2.2

def k0_off32 : Fin 2 → Nat :=
  let c10000_i32 : BitVec 32 := 10000#32
  let c64_i32_246 : BitVec 32 := 64#32
  let v631 : BitVec 32 := Scalar.addi c10000_i32 c64_i32_246
  let c1_i32_247 : BitVec 32 := 1#32
  let v632 : BitVec 32 := Scalar.subi v631 c1_i32_247
  let c0_i32_249 : BitVec 32 := 0#32
  let v634 : BitVec 1 := Scalar.cmpi .sgt v632 c0_i32_249
  let v635 : BitVec 32 := Scalar.extui v634
  let c0_i32_250 : BitVec 32 := 0#32
  let v636 : BitVec 1 := Scalar.cmpi .slt v632 c0_i32_250
  let v637 : BitVec 32 := Scalar.extui v636
  let v638 : BitVec 32 := Scalar.subi v635 v637
  let c64_i32_248 : BitVec 32 := 64#32
  let c0_i32_251 : BitVec 32 := 0#32
  let v639 : BitVec 1 := Scalar.cmpi .sgt c64_i32_248 c0_i32_251
  let v640 : BitVec 32 := Scalar.extui v639
  let c0_i32_252 : BitVec 32 := 0#32
  let v641 : BitVec 1 := Scalar.cmpi .slt c64_i32_248 c0_i32_252
  let v642 : BitVec 32 := Scalar.extui v641
  let v643 : BitVec 32 := Scalar.subi v640 v642
  let v644 : BitVec 1 := Scalar.cmpi .ne v638 v643
  let v645 : BitVec 32 := Scalar.remsi v632 c64_i32_248
  let c0_i32_253 : BitVec 32 := 0#32
  let v646 : BitVec 1 := Scalar.cmpi .ne v645 c0_i32_253
  let v647 : BitVec 1 := Scalar.andi v644 v646
  let v633 : BitVec 32 := Scalar.divsi v632 c64_i32_248
  let c1_i32_254 : BitVec 32 := 1#32
  let v648 : BitVec 32 := Scalar.subi v633 c1_i32_254
  let v649 : BitVec 32 := Scalar.select v647 v648 v633
  let c1_i32_261 : BitVec 32 := 1#32
  let v660 : BitVec 32 := Scalar.subi v649 c1_i32_261
  let c0_i32_262 : BitVec 32 := 0#32
  let v661 : BitVec 32 := Scalar.maxsi v660 c0_i32_262
  let c64_i32_267 : BitVec 32 := 64#32
  let v676 : BitVec 32 := Scalar.muli v661 c64_i32_267
  let v685 : Index := Scalar.indexCast v676
  let c0_269 : Index := 0#32
  ![v685.toNat, 0]
abbrev stage0_0 : Fin 1 → Memref sig .tc .vmem S3x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S10000x3 : Shape := ⟨2, ![10000, 3]⟩
abbrev S10000 : Shape := ⟨1, ![10000]⟩
abbrev S3x128 : Shape := ⟨2, ![3, 128]⟩
abbrev S128 : Shape := ⟨1, ![128]⟩
abbrev S3x256x128 : Shape := ⟨3, ![3, 256, 128]⟩
abbrev S3x128x128 : Shape := ⟨3, ![3, 128, 128]⟩
abbrev S3 : Shape := ⟨1, ![3]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x512 : Shape := ⟨2, ![32, 512]⟩
abbrev S512 : Shape := ⟨1, ![512]⟩
abbrev S10000x128 : Shape := ⟨2, ![10000, 128]⟩
abbrev S1x128 : Shape := ⟨2, ![1, 128]⟩
abbrev S_ : Shape := ⟨0, ![]⟩
abbrev S10000x1 : Shape := ⟨2, ![10000, 1]⟩
abbrev S1x10000 : Shape := ⟨2, ![1, 10000]⟩
abbrev S10000x10000 : Shape := ⟨2, ![10000, 10000]⟩
abbrev S128x10000 : Shape := ⟨2, ![128, 10000]⟩
abbrev S10000x20 : Shape := ⟨2, ![10000, 20]⟩
abbrev S10000x1x128 : Shape := ⟨3, ![10000, 1, 128]⟩
abbrev S10000x20x128 : Shape := ⟨3, ![10000, 20, 128]⟩
abbrev S10000x20x1 : Shape := ⟨3, ![10000, 20, 1]⟩
abbrev S10000x20x256 : Shape := ⟨3, ![10000, 20, 256]⟩
abbrev S1x256x128 : Shape := ⟨3, ![1, 256, 128]⟩
abbrev S256x128 : Shape := ⟨2, ![256, 128]⟩
abbrev S1x1x128 : Shape := ⟨3, ![1, 1, 128]⟩
abbrev S1x128x128 : Shape := ⟨3, ![1, 128, 128]⟩
abbrev S1 : Shape := ⟨1, ![1]⟩
abbrev S8 : Shape := ⟨1, ![8]⟩
abbrev S1x8 : Shape := ⟨2, ![1, 8]⟩
abbrev S10000x8 : Shape := ⟨2, ![10000, 8]⟩
abbrev S10000x8x1 : Shape := ⟨3, ![10000, 8, 1]⟩
abbrev S10000x8x128 : Shape := ⟨3, ![10000, 8, 128]⟩
abbrev S8x128 : Shape := ⟨2, ![8, 128]⟩
abbrev S8x64 : Shape := ⟨2, ![8, 64]⟩
abbrev S1x64 : Shape := ⟨2, ![1, 64]⟩
abbrev S8x32 : Shape := ⟨2, ![8, 32]⟩
abbrev S1x32 : Shape := ⟨2, ![1, 32]⟩
abbrev S8x512 : Shape := ⟨2, ![8, 512]⟩
abbrev S1x512 : Shape := ⟨2, ![1, 512]⟩

abbrev nBuf : Space → Nat
  | .hbm => 602
  | .vmem => 0
  | .smem => 0
  | _ => 0

abbrev hbmTy0_0 (i : Nat) : BufTy := match i % 128 with
  | 0 => ⟨S10000x3, .f32⟩
  | 1 => ⟨S10000, .i32⟩
  | 2 => ⟨S3x128, .f32⟩
  | 3 => ⟨S128, .f32⟩
  | 4 => ⟨S3x256x128, .f32⟩
  | 5 => ⟨S3x128, .f32⟩
  | 6 => ⟨S3x128x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S3x128x128, .f32⟩
  | 13 => ⟨S3x128, .f32⟩
  | 14 => ⟨S3, .f32⟩
  | 15 => ⟨S128x128, .f32⟩
  | 16 => ⟨S128, .f32⟩
  | 17 => ⟨S128x64, .f32⟩
  | 18 => ⟨S64, .f32⟩
  | 19 => ⟨S64x32, .f32⟩
  | 20 => ⟨S32, .f32⟩
  | 21 => ⟨S32x512, .f32⟩
  | 22 => ⟨S512, .f32⟩
  | 23 => ⟨S10000x128, .f32⟩
  | 24 => ⟨S1x128, .f32⟩
  | 25 => ⟨S10000x128, .f32⟩
  | 26 => ⟨S10000x128, .f32⟩
  | 27 => ⟨S10000x128, .f32⟩
  | 28 => ⟨S_, .f32⟩
  | 29 => ⟨S10000, .f32⟩
  | 30 => ⟨S10000x1, .f32⟩
  | 31 => ⟨S1x10000, .f32⟩
  | 32 => ⟨S10000x10000, .f32⟩
  | 33 => ⟨S10000x10000, .f32⟩
  | 34 => ⟨S10000x10000, .f32⟩
  | 35 => ⟨S128x10000, .f32⟩
  | 36 => ⟨S10000x10000, .f32⟩
  | 37 => ⟨S_, .f32⟩
  | 38 => ⟨S10000x10000, .f32⟩
  | 39 => ⟨S10000x10000, .f32⟩
  | 40 => ⟨S10000x10000, .f32⟩
  | 41 => ⟨S10000x1, .i32⟩
  | 42 => ⟨S1x10000, .i32⟩
  | 43 => ⟨S10000x10000, .i32⟩
  | 44 => ⟨S10000x10000, .i32⟩
  | 45 => ⟨S10000x10000, .i1⟩
  | 46 => ⟨S_, .f32⟩
  | 47 => ⟨S_, .f32⟩
  | 48 => ⟨S10000x10000, .f32⟩
  | 49 => ⟨S10000x10000, .f32⟩
  | 50 => ⟨S10000x10000, .f32⟩
  | 51 => ⟨S10000x20, .f32⟩
  | 52 => ⟨S10000x20, .i32⟩
  | 53 => ⟨S10000x1x128, .f32⟩
  | 54 => ⟨S10000x20x128, .f32⟩
  | 55 => ⟨S_, .i32⟩
  | 56 => ⟨S10000x20, .i32⟩
  | 57 => ⟨S10000x20, .i1⟩
  | 58 => ⟨S_, .i32⟩
  | 59 => ⟨S10000x20, .i32⟩
  | 60 => ⟨S10000x20, .i32⟩
  | 61 => ⟨S10000x20, .i32⟩
  | 62 => ⟨S10000x20x1, .i32⟩
  | 63 => ⟨S10000x20x128, .f32⟩
  | 64 => ⟨S10000x20x128, .f32⟩
  | 65 => ⟨S10000x20x256, .f32⟩
  | 66 => ⟨S1x256x128, .f32⟩
  | 67 => ⟨S256x128, .f32⟩
  | 68 => ⟨S10000x20x128, .f32⟩
  | 69 => ⟨S1x128, .f32⟩
  | 70 => ⟨S128, .f32⟩
  | 71 => ⟨S1x1x128, .f32⟩
  | 72 => ⟨S10000x20x128, .f32⟩
  | 73 => ⟨S10000x20x128, .f32⟩
  | 74 => ⟨S_, .f32⟩
  | 75 => ⟨S10000x20x128, .f32⟩
  | 76 => ⟨S10000x20x128, .i1⟩
  | 77 => ⟨S_, .f32⟩
  | 78 => ⟨S10000x20x128, .f32⟩
  | 79 => ⟨S10000x20x128, .i1⟩
  | 80 => ⟨S_, .f32⟩
  | 81 => ⟨S_, .f32⟩
  | 82 => ⟨S10000x20x128, .f32⟩
  | 83 => ⟨S10000x20x128, .f32⟩
  | 84 => ⟨S10000x20x128, .f32⟩
  | 85 => ⟨S_, .f32⟩
  | 86 => ⟨S10000x20x128, .f32⟩
  | 87 => ⟨S10000x20x128, .f32⟩
  | 88 => ⟨S10000x20x128, .f32⟩
  | 89 => ⟨S1x128x128, .f32⟩
  | 90 => ⟨S128x128, .f32⟩
  | 91 => ⟨S10000x20x128, .f32⟩
  | 92 => ⟨S1x128, .f32⟩
  | 93 => ⟨S128, .f32⟩
  | 94 => ⟨S1x1x128, .f32⟩
  | 95 => ⟨S10000x20x128, .f32⟩
  | 96 => ⟨S10000x20x128, .f32⟩
  | 97 => ⟨S_, .f32⟩
  | 98 => ⟨S10000x20x128, .f32⟩
  | 99 => ⟨S10000x20x128, .i1⟩
  | 100 => ⟨S_, .f32⟩
  | 101 => ⟨S10000x20x128, .f32⟩
  | 102 => ⟨S10000x20x128, .i1⟩
  | 103 => ⟨S_, .f32⟩
  | 104 => ⟨S_, .f32⟩
  | 105 => ⟨S10000x20x128, .f32⟩
  | 106 => ⟨S10000x20x128, .f32⟩
  | 107 => ⟨S10000x20x128, .f32⟩
  | 108 => ⟨S_, .f32⟩
  | 109 => ⟨S10000x20x128, .f32⟩
  | 110 => ⟨S10000x20x128, .f32⟩
  | 111 => ⟨S10000x20x128, .f32⟩
  | 112 => ⟨S1x128x128, .f32⟩
  | 113 => ⟨S128x128, .f32⟩
  | 114 => ⟨S10000x20x128, .f32⟩
  | 115 => ⟨S1x128, .f32⟩
  | 116 => ⟨S128, .f32⟩
  | 117 => ⟨S1x1x128, .f32⟩
  | 118 => ⟨S10000x20x128, .f32⟩
  | 119 => ⟨S10000x20x128, .f32⟩
  | 120 => ⟨S_, .f32⟩
  | 121 => ⟨S10000x128, .f32⟩
  | 122 => ⟨S_, .f32⟩
  | 123 => ⟨S10000, .f32⟩
  | 124 => ⟨S10000x1, .f32⟩
  | 125 => ⟨S_, .f32⟩
  | 126 => ⟨S10000x1, .f32⟩
  | 127 => ⟨S10000x1, .f32⟩
  | _ => ⟨S10000x3, .f32⟩

abbrev hbmTy0_1 (i : Nat) : BufTy := match i % 128 with
  | 0 => ⟨S_, .i32⟩
  | 1 => ⟨S_, .f32⟩
  | 2 => ⟨S10000, .f32⟩
  | 3 => ⟨S10000x1, .f32⟩
  | 4 => ⟨S_, .f32⟩
  | 5 => ⟨S10000x1, .f32⟩
  | 6 => ⟨S10000x1, .f32⟩
  | 7 => ⟨S10000x128, .f32⟩
  | 8 => ⟨S10000x128, .f32⟩
  | 9 => ⟨S10000x128, .f32⟩
  | 10 => ⟨S_, .f32⟩
  | 11 => ⟨S_, .f32⟩
  | 12 => ⟨S_, .f32⟩
  | 13 => ⟨S_, .f32⟩
  | 14 => ⟨S10000, .f32⟩
  | 15 => ⟨S10000x1, .f32⟩
  | 16 => ⟨S10000x1, .f32⟩
  | 17 => ⟨S10000x1, .f32⟩
  | 18 => ⟨S_, .f32⟩
  | 19 => ⟨S_, .i1⟩
  | 20 => ⟨S_, .f32⟩
  | 21 => ⟨S_, .f32⟩
  | 22 => ⟨S10000x1, .f32⟩
  | 23 => ⟨S10000x1, .f32⟩
  | 24 => ⟨S10000x128, .f32⟩
  | 25 => ⟨S10000x128, .f32⟩
  | 26 => ⟨S_, .f32⟩
  | 27 => ⟨S10000x1, .f32⟩
  | 28 => ⟨S10000x1, .f32⟩
  | 29 => ⟨S10000x1, .f32⟩
  | 30 => ⟨S10000x128, .f32⟩
  | 31 => ⟨S10000x128, .f32⟩
  | 32 => ⟨S1x128, .f32⟩
  | 33 => ⟨S128, .f32⟩
  | 34 => ⟨S1x128, .f32⟩
  | 35 => ⟨S10000x128, .f32⟩
  | 36 => ⟨S10000x128, .f32⟩
  | 37 => ⟨S1x128, .f32⟩
  | 38 => ⟨S128, .f32⟩
  | 39 => ⟨S1x128, .f32⟩
  | 40 => ⟨S10000x128, .f32⟩
  | 41 => ⟨S10000x128, .f32⟩
  | 42 => ⟨S_, .f32⟩
  | 43 => ⟨S10000x128, .f32⟩
  | 44 => ⟨S10000x128, .i1⟩
  | 45 => ⟨S_, .f32⟩
  | 46 => ⟨S10000x128, .f32⟩
  | 47 => ⟨S10000x128, .i1⟩
  | 48 => ⟨S_, .f32⟩
  | 49 => ⟨S_, .f32⟩
  | 50 => ⟨S10000x128, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S10000x128, .f32⟩
  | 57 => ⟨S1x128x128, .f32⟩
  | 58 => ⟨S128x128, .f32⟩
  | 59 => ⟨S10000x128, .f32⟩
  | 60 => ⟨S1x128, .f32⟩
  | 61 => ⟨S128, .f32⟩
  | 62 => ⟨S1x128, .f32⟩
  | 63 => ⟨S10000x128, .f32⟩
  | 64 => ⟨S10000x128, .f32⟩
  | 65 => ⟨S1, .f32⟩
  | 66 => ⟨S_, .f32⟩
  | 67 => ⟨S10000x128, .f32⟩
  | 68 => ⟨S10000x128, .f32⟩
  | 69 => ⟨S10000x128, .f32⟩
  | 70 => ⟨S10000x128, .f32⟩
  | 71 => ⟨S_, .f32⟩
  | 72 => ⟨S10000, .f32⟩
  | 73 => ⟨S10000x1, .f32⟩
  | 74 => ⟨S1x10000, .f32⟩
  | 75 => ⟨S10000x10000, .f32⟩
  | 76 => ⟨S10000x10000, .f32⟩
  | 77 => ⟨S10000x10000, .f32⟩
  | 78 => ⟨S128x10000, .f32⟩
  | 79 => ⟨S10000x10000, .f32⟩
  | 80 => ⟨S_, .f32⟩
  | 81 => ⟨S10000x10000, .f32⟩
  | 82 => ⟨S10000x10000, .f32⟩
  | 83 => ⟨S10000x10000, .f32⟩
  | 84 => ⟨S10000x1, .i32⟩
  | 85 => ⟨S1x10000, .i32⟩
  | 86 => ⟨S10000x10000, .i32⟩
  | 87 => ⟨S10000x10000, .i32⟩
  | 88 => ⟨S10000x10000, .i1⟩
  | 89 => ⟨S_, .f32⟩
  | 90 => ⟨S_, .f32⟩
  | 91 => ⟨S10000x10000, .f32⟩
  | 92 => ⟨S10000x10000, .f32⟩
  | 93 => ⟨S10000x10000, .f32⟩
  | 94 => ⟨S10000x20, .f32⟩
  | 95 => ⟨S10000x20, .i32⟩
  | 96 => ⟨S10000x1x128, .f32⟩
  | 97 => ⟨S10000x20x128, .f32⟩
  | 98 => ⟨S_, .i32⟩
  | 99 => ⟨S10000x20, .i32⟩
  | 100 => ⟨S10000x20, .i1⟩
  | 101 => ⟨S_, .i32⟩
  | 102 => ⟨S10000x20, .i32⟩
  | 103 => ⟨S10000x20, .i32⟩
  | 104 => ⟨S10000x20, .i32⟩
  | 105 => ⟨S10000x20x1, .i32⟩
  | 106 => ⟨S10000x20x128, .f32⟩
  | 107 => ⟨S10000x20x128, .f32⟩
  | 108 => ⟨S10000x20x256, .f32⟩
  | 109 => ⟨S1x256x128, .f32⟩
  | 110 => ⟨S256x128, .f32⟩
  | 111 => ⟨S10000x20x128, .f32⟩
  | 112 => ⟨S1x128, .f32⟩
  | 113 => ⟨S128, .f32⟩
  | 114 => ⟨S1x1x128, .f32⟩
  | 115 => ⟨S10000x20x128, .f32⟩
  | 116 => ⟨S10000x20x128, .f32⟩
  | 117 => ⟨S_, .f32⟩
  | 118 => ⟨S10000x20x128, .f32⟩
  | 119 => ⟨S10000x20x128, .i1⟩
  | 120 => ⟨S_, .f32⟩
  | 121 => ⟨S10000x20x128, .f32⟩
  | 122 => ⟨S10000x20x128, .i1⟩
  | 123 => ⟨S_, .f32⟩
  | 124 => ⟨S_, .f32⟩
  | 125 => ⟨S10000x20x128, .f32⟩
  | 126 => ⟨S10000x20x128, .f32⟩
  | 127 => ⟨S10000x20x128, .f32⟩
  | _ => ⟨S10000x3, .f32⟩

abbrev hbmTy0_2 (i : Nat) : BufTy := match i % 128 with
  | 0 => ⟨S_, .f32⟩
  | 1 => ⟨S10000x20x128, .f32⟩
  | 2 => ⟨S10000x20x128, .f32⟩
  | 3 => ⟨S10000x20x128, .f32⟩
  | 4 => ⟨S1x128x128, .f32⟩
  | 5 => ⟨S128x128, .f32⟩
  | 6 => ⟨S10000x20x128, .f32⟩
  | 7 => ⟨S1x128, .f32⟩
  | 8 => ⟨S128, .f32⟩
  | 9 => ⟨S1x1x128, .f32⟩
  | 10 => ⟨S10000x20x128, .f32⟩
  | 11 => ⟨S10000x20x128, .f32⟩
  | 12 => ⟨S_, .f32⟩
  | 13 => ⟨S10000x20x128, .f32⟩
  | 14 => ⟨S10000x20x128, .i1⟩
  | 15 => ⟨S_, .f32⟩
  | 16 => ⟨S10000x20x128, .f32⟩
  | 17 => ⟨S10000x20x128, .i1⟩
  | 18 => ⟨S_, .f32⟩
  | 19 => ⟨S_, .f32⟩
  | 20 => ⟨S10000x20x128, .f32⟩
  | 21 => ⟨S10000x20x128, .f32⟩
  | 22 => ⟨S10000x20x128, .f32⟩
  | 23 => ⟨S_, .f32⟩
  | 24 => ⟨S10000x20x128, .f32⟩
  | 25 => ⟨S10000x20x128, .f32⟩
  | 26 => ⟨S10000x20x128, .f32⟩
  | 27 => ⟨S1x128x128, .f32⟩
  | 28 => ⟨S128x128, .f32⟩
  | 29 => ⟨S10000x20x128, .f32⟩
  | 30 => ⟨S1x128, .f32⟩
  | 31 => ⟨S128, .f32⟩
  | 32 => ⟨S1x1x128, .f32⟩
  | 33 => ⟨S10000x20x128, .f32⟩
  | 34 => ⟨S10000x20x128, .f32⟩
  | 35 => ⟨S_, .f32⟩
  | 36 => ⟨S10000x128, .f32⟩
  | 37 => ⟨S_, .f32⟩
  | 38 => ⟨S10000, .f32⟩
  | 39 => ⟨S10000x1, .f32⟩
  | 40 => ⟨S_, .f32⟩
  | 41 => ⟨S10000x1, .f32⟩
  | 42 => ⟨S10000x1, .f32⟩
  | 43 => ⟨S_, .i32⟩
  | 44 => ⟨S_, .f32⟩
  | 45 => ⟨S10000, .f32⟩
  | 46 => ⟨S10000x1, .f32⟩
  | 47 => ⟨S_, .f32⟩
  | 48 => ⟨S10000x1, .f32⟩
  | 49 => ⟨S10000x1, .f32⟩
  | 50 => ⟨S10000x128, .f32⟩
  | 51 => ⟨S10000x128, .f32⟩
  | 52 => ⟨S10000x128, .f32⟩
  | 53 => ⟨S_, .f32⟩
  | 54 => ⟨S_, .f32⟩
  | 55 => ⟨S_, .f32⟩
  | 56 => ⟨S_, .f32⟩
  | 57 => ⟨S10000, .f32⟩
  | 58 => ⟨S10000x1, .f32⟩
  | 59 => ⟨S10000x1, .f32⟩
  | 60 => ⟨S10000x1, .f32⟩
  | 61 => ⟨S_, .f32⟩
  | 62 => ⟨S_, .i1⟩
  | 63 => ⟨S_, .f32⟩
  | 64 => ⟨S_, .f32⟩
  | 65 => ⟨S10000x1, .f32⟩
  | 66 => ⟨S10000x1, .f32⟩
  | 67 => ⟨S10000x128, .f32⟩
  | 68 => ⟨S10000x128, .f32⟩
  | 69 => ⟨S_, .f32⟩
  | 70 => ⟨S10000x1, .f32⟩
  | 71 => ⟨S10000x1, .f32⟩
  | 72 => ⟨S10000x1, .f32⟩
  | 73 => ⟨S10000x128, .f32⟩
  | 74 => ⟨S10000x128, .f32⟩
  | 75 => ⟨S1x128, .f32⟩
  | 76 => ⟨S128, .f32⟩
  | 77 => ⟨S1x128, .f32⟩
  | 78 => ⟨S10000x128, .f32⟩
  | 79 => ⟨S10000x128, .f32⟩
  | 80 => ⟨S1x128, .f32⟩
  | 81 => ⟨S128, .f32⟩
  | 82 => ⟨S1x128, .f32⟩
  | 83 => ⟨S10000x128, .f32⟩
  | 84 => ⟨S10000x128, .f32⟩
  | 85 => ⟨S_, .f32⟩
  | 86 => ⟨S10000x128, .f32⟩
  | 87 => ⟨S10000x128, .i1⟩
  | 88 => ⟨S_, .f32⟩
  | 89 => ⟨S10000x128, .f32⟩
  | 90 => ⟨S10000x128, .i1⟩
  | 91 => ⟨S_, .f32⟩
  | 92 => ⟨S_, .f32⟩
  | 93 => ⟨S10000x128, .f32⟩
  | 94 => ⟨S10000x128, .f32⟩
  | 95 => ⟨S10000x128, .f32⟩
  | 96 => ⟨S_, .f32⟩
  | 97 => ⟨S10000x128, .f32⟩
  | 98 => ⟨S10000x128, .f32⟩
  | 99 => ⟨S10000x128, .f32⟩
  | 100 => ⟨S1x128x128, .f32⟩
  | 101 => ⟨S128x128, .f32⟩
  | 102 => ⟨S10000x128, .f32⟩
  | 103 => ⟨S1x128, .f32⟩
  | 104 => ⟨S128, .f32⟩
  | 105 => ⟨S1x128, .f32⟩
  | 106 => ⟨S10000x128, .f32⟩
  | 107 => ⟨S10000x128, .f32⟩
  | 108 => ⟨S1, .f32⟩
  | 109 => ⟨S_, .f32⟩
  | 110 => ⟨S10000x128, .f32⟩
  | 111 => ⟨S10000x128, .f32⟩
  | 112 => ⟨S10000x128, .f32⟩
  | 113 => ⟨S10000x128, .f32⟩
  | 114 => ⟨S_, .f32⟩
  | 115 => ⟨S10000, .f32⟩
  | 116 => ⟨S10000x1, .f32⟩
  | 117 => ⟨S1x10000, .f32⟩
  | 118 => ⟨S10000x10000, .f32⟩
  | 119 => ⟨S10000x10000, .f32⟩
  | 120 => ⟨S10000x10000, .f32⟩
  | 121 => ⟨S128x10000, .f32⟩
  | 122 => ⟨S10000x10000, .f32⟩
  | 123 => ⟨S_, .f32⟩
  | 124 => ⟨S10000x10000, .f32⟩
  | 125 => ⟨S10000x10000, .f32⟩
  | 126 => ⟨S10000x10000, .f32⟩
  | 127 => ⟨S10000x1, .i32⟩
  | _ => ⟨S10000x3, .f32⟩

abbrev hbmTy0_3 (i : Nat) : BufTy := match i % 128 with
  | 0 => ⟨S1x10000, .i32⟩
  | 1 => ⟨S10000x10000, .i32⟩
  | 2 => ⟨S10000x10000, .i32⟩
  | 3 => ⟨S10000x10000, .i1⟩
  | 4 => ⟨S_, .f32⟩
  | 5 => ⟨S_, .f32⟩
  | 6 => ⟨S10000x10000, .f32⟩
  | 7 => ⟨S10000x10000, .f32⟩
  | 8 => ⟨S10000x10000, .f32⟩
  | 9 => ⟨S10000x20, .f32⟩
  | 10 => ⟨S10000x20, .i32⟩
  | 11 => ⟨S10000x1x128, .f32⟩
  | 12 => ⟨S10000x20x128, .f32⟩
  | 13 => ⟨S_, .i32⟩
  | 14 => ⟨S10000x20, .i32⟩
  | 15 => ⟨S10000x20, .i1⟩
  | 16 => ⟨S_, .i32⟩
  | 17 => ⟨S10000x20, .i32⟩
  | 18 => ⟨S10000x20, .i32⟩
  | 19 => ⟨S10000x20, .i32⟩
  | 20 => ⟨S10000x20x1, .i32⟩
  | 21 => ⟨S10000x20x128, .f32⟩
  | 22 => ⟨S10000x20x128, .f32⟩
  | 23 => ⟨S10000x20x256, .f32⟩
  | 24 => ⟨S1x256x128, .f32⟩
  | 25 => ⟨S256x128, .f32⟩
  | 26 => ⟨S10000x20x128, .f32⟩
  | 27 => ⟨S1x128, .f32⟩
  | 28 => ⟨S128, .f32⟩
  | 29 => ⟨S1x1x128, .f32⟩
  | 30 => ⟨S10000x20x128, .f32⟩
  | 31 => ⟨S10000x20x128, .f32⟩
  | 32 => ⟨S_, .f32⟩
  | 33 => ⟨S10000x20x128, .f32⟩
  | 34 => ⟨S10000x20x128, .i1⟩
  | 35 => ⟨S_, .f32⟩
  | 36 => ⟨S10000x20x128, .f32⟩
  | 37 => ⟨S10000x20x128, .i1⟩
  | 38 => ⟨S_, .f32⟩
  | 39 => ⟨S_, .f32⟩
  | 40 => ⟨S10000x20x128, .f32⟩
  | 41 => ⟨S10000x20x128, .f32⟩
  | 42 => ⟨S10000x20x128, .f32⟩
  | 43 => ⟨S_, .f32⟩
  | 44 => ⟨S10000x20x128, .f32⟩
  | 45 => ⟨S10000x20x128, .f32⟩
  | 46 => ⟨S10000x20x128, .f32⟩
  | 47 => ⟨S1x128x128, .f32⟩
  | 48 => ⟨S128x128, .f32⟩
  | 49 => ⟨S10000x20x128, .f32⟩
  | 50 => ⟨S1x128, .f32⟩
  | 51 => ⟨S128, .f32⟩
  | 52 => ⟨S1x1x128, .f32⟩
  | 53 => ⟨S10000x20x128, .f32⟩
  | 54 => ⟨S10000x20x128, .f32⟩
  | 55 => ⟨S_, .f32⟩
  | 56 => ⟨S10000x20x128, .f32⟩
  | 57 => ⟨S10000x20x128, .i1⟩
  | 58 => ⟨S_, .f32⟩
  | 59 => ⟨S10000x20x128, .f32⟩
  | 60 => ⟨S10000x20x128, .i1⟩
  | 61 => ⟨S_, .f32⟩
  | 62 => ⟨S_, .f32⟩
  | 63 => ⟨S10000x20x128, .f32⟩
  | 64 => ⟨S10000x20x128, .f32⟩
  | 65 => ⟨S10000x20x128, .f32⟩
  | 66 => ⟨S_, .f32⟩
  | 67 => ⟨S10000x20x128, .f32⟩
  | 68 => ⟨S10000x20x128, .f32⟩
  | 69 => ⟨S10000x20x128, .f32⟩
  | 70 => ⟨S1x128x128, .f32⟩
  | 71 => ⟨S128x128, .f32⟩
  | 72 => ⟨S10000x20x128, .f32⟩
  | 73 => ⟨S1x128, .f32⟩
  | 74 => ⟨S128, .f32⟩
  | 75 => ⟨S1x1x128, .f32⟩
  | 76 => ⟨S10000x20x128, .f32⟩
  | 77 => ⟨S10000x20x128, .f32⟩
  | 78 => ⟨S_, .f32⟩
  | 79 => ⟨S10000x128, .f32⟩
  | 80 => ⟨S_, .f32⟩
  | 81 => ⟨S10000, .f32⟩
  | 82 => ⟨S10000x1, .f32⟩
  | 83 => ⟨S_, .f32⟩
  | 84 => ⟨S10000x1, .f32⟩
  | 85 => ⟨S10000x1, .f32⟩
  | 86 => ⟨S_, .i32⟩
  | 87 => ⟨S_, .f32⟩
  | 88 => ⟨S10000, .f32⟩
  | 89 => ⟨S10000x1, .f32⟩
  | 90 => ⟨S_, .f32⟩
  | 91 => ⟨S10000x1, .f32⟩
  | 92 => ⟨S10000x1, .f32⟩
  | 93 => ⟨S10000x128, .f32⟩
  | 94 => ⟨S10000x128, .f32⟩
  | 95 => ⟨S10000x128, .f32⟩
  | 96 => ⟨S_, .f32⟩
  | 97 => ⟨S_, .f32⟩
  | 98 => ⟨S_, .f32⟩
  | 99 => ⟨S_, .f32⟩
  | 100 => ⟨S10000, .f32⟩
  | 101 => ⟨S10000x1, .f32⟩
  | 102 => ⟨S10000x1, .f32⟩
  | 103 => ⟨S10000x1, .f32⟩
  | 104 => ⟨S_, .f32⟩
  | 105 => ⟨S_, .i1⟩
  | 106 => ⟨S_, .f32⟩
  | 107 => ⟨S_, .f32⟩
  | 108 => ⟨S10000x1, .f32⟩
  | 109 => ⟨S10000x1, .f32⟩
  | 110 => ⟨S10000x128, .f32⟩
  | 111 => ⟨S10000x128, .f32⟩
  | 112 => ⟨S_, .f32⟩
  | 113 => ⟨S10000x1, .f32⟩
  | 114 => ⟨S10000x1, .f32⟩
  | 115 => ⟨S10000x1, .f32⟩
  | 116 => ⟨S10000x128, .f32⟩
  | 117 => ⟨S10000x128, .f32⟩
  | 118 => ⟨S1x128, .f32⟩
  | 119 => ⟨S128, .f32⟩
  | 120 => ⟨S1x128, .f32⟩
  | 121 => ⟨S10000x128, .f32⟩
  | 122 => ⟨S10000x128, .f32⟩
  | 123 => ⟨S1x128, .f32⟩
  | 124 => ⟨S128, .f32⟩
  | 125 => ⟨S1x128, .f32⟩
  | 126 => ⟨S10000x128, .f32⟩
  | 127 => ⟨S10000x128, .f32⟩
  | _ => ⟨S10000x3, .f32⟩

abbrev hbmTy0_4 (i : Nat) : BufTy := match i % 128 with
  | 0 => ⟨S_, .f32⟩
  | 1 => ⟨S10000x128, .f32⟩
  | 2 => ⟨S10000x128, .i1⟩
  | 3 => ⟨S_, .f32⟩
  | 4 => ⟨S10000x128, .f32⟩
  | 5 => ⟨S10000x128, .i1⟩
  | 6 => ⟨S_, .f32⟩
  | 7 => ⟨S_, .f32⟩
  | 8 => ⟨S10000x128, .f32⟩
  | 9 => ⟨S10000x128, .f32⟩
  | 10 => ⟨S10000x128, .f32⟩
  | 11 => ⟨S_, .f32⟩
  | 12 => ⟨S10000x128, .f32⟩
  | 13 => ⟨S10000x128, .f32⟩
  | 14 => ⟨S10000x128, .f32⟩
  | 15 => ⟨S1x128x128, .f32⟩
  | 16 => ⟨S128x128, .f32⟩
  | 17 => ⟨S10000x128, .f32⟩
  | 18 => ⟨S1x128, .f32⟩
  | 19 => ⟨S128, .f32⟩
  | 20 => ⟨S1x128, .f32⟩
  | 21 => ⟨S10000x128, .f32⟩
  | 22 => ⟨S10000x128, .f32⟩
  | 23 => ⟨S1, .f32⟩
  | 24 => ⟨S_, .f32⟩
  | 25 => ⟨S10000x128, .f32⟩
  | 26 => ⟨S10000x128, .f32⟩
  | 27 => ⟨S10000x128, .f32⟩
  | 28 => ⟨S10000x128, .f32⟩
  | 29 => ⟨S1x128, .f32⟩
  | 30 => ⟨S10000x128, .f32⟩
  | 31 => ⟨S10000x128, .f32⟩
  | 32 => ⟨S10000x1, .i32⟩
  | 33 => ⟨S8, .i32⟩
  | 34 => ⟨S1x8, .i32⟩
  | 35 => ⟨S10000x8, .i32⟩
  | 36 => ⟨S10000x8, .i32⟩
  | 37 => ⟨S10000x8, .i1⟩
  | 38 => ⟨S10000x8x1, .i1⟩
  | 39 => ⟨S10000x1x128, .f32⟩
  | 40 => ⟨S_, .f32⟩
  | 41 => ⟨S_, .f32⟩
  | 42 => ⟨S10000x8x128, .i1⟩
  | 43 => ⟨S10000x8x128, .f32⟩
  | 44 => ⟨S10000x8x128, .f32⟩
  | 45 => ⟨S10000x8x128, .f32⟩
  | 46 => ⟨S_, .f32⟩
  | 47 => ⟨S8x128, .f32⟩
  | 48 => ⟨S8x64, .f32⟩
  | 49 => ⟨S1x64, .f32⟩
  | 50 => ⟨S8x64, .f32⟩
  | 51 => ⟨S8x64, .f32⟩
  | 52 => ⟨S_, .f32⟩
  | 53 => ⟨S8x64, .f32⟩
  | 54 => ⟨S8x64, .i1⟩
  | 55 => ⟨S_, .f32⟩
  | 56 => ⟨S8x64, .f32⟩
  | 57 => ⟨S8x64, .i1⟩
  | 58 => ⟨S_, .f32⟩
  | 59 => ⟨S_, .f32⟩
  | 60 => ⟨S8x64, .f32⟩
  | 61 => ⟨S8x64, .f32⟩
  | 62 => ⟨S8x64, .f32⟩
  | 63 => ⟨S_, .f32⟩
  | 64 => ⟨S8x64, .f32⟩
  | 65 => ⟨S8x64, .f32⟩
  | 66 => ⟨S8x64, .f32⟩
  | 67 => ⟨S8x32, .f32⟩
  | 68 => ⟨S1x32, .f32⟩
  | 69 => ⟨S8x32, .f32⟩
  | 70 => ⟨S8x32, .f32⟩
  | 71 => ⟨S_, .f32⟩
  | 72 => ⟨S8x32, .f32⟩
  | 73 => ⟨S8x32, .i1⟩
  | 74 => ⟨S_, .f32⟩
  | 75 => ⟨S8x32, .f32⟩
  | 76 => ⟨S8x32, .i1⟩
  | 77 => ⟨S_, .f32⟩
  | 78 => ⟨S_, .f32⟩
  | 79 => ⟨S8x32, .f32⟩
  | 80 => ⟨S8x32, .f32⟩
  | 81 => ⟨S8x32, .f32⟩
  | 82 => ⟨S_, .f32⟩
  | 83 => ⟨S8x32, .f32⟩
  | 84 => ⟨S8x32, .f32⟩
  | 85 => ⟨S8x32, .f32⟩
  | 86 => ⟨S8x512, .f32⟩
  | 87 => ⟨S1x512, .f32⟩
  | 88 => ⟨S8x512, .f32⟩
  | 89 => ⟨S8x512, .f32⟩
  | _ => ⟨S10000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_call0_v0 : Ref sig .tc := ⟨.hbm, 47, rfl⟩
abbrev main_call0_v1 : Ref sig .tc := ⟨.hbm, 48, rfl⟩
abbrev main_v21 : Ref sig .tc := ⟨.hbm, 49, rfl⟩
abbrev main_v22 : Ref sig .tc := ⟨.hbm, 50, rfl⟩
abbrev main_values : Ref sig .tc := ⟨.hbm, 51, rfl⟩
abbrev main_indices : Ref sig .tc := ⟨.hbm, 52, rfl⟩
abbrev main_v23 : Ref sig .tc := ⟨.hbm, 53, rfl⟩
abbrev main_v24 : Ref sig .tc := ⟨.hbm, 54, rfl⟩
abbrev main_c : Ref sig .tc := ⟨.hbm, 55, rfl⟩
abbrev main_v25 : Ref sig .tc := ⟨.hbm, 56, rfl⟩
abbrev main_v26 : Ref sig .tc := ⟨.hbm, 57, rfl⟩
abbrev main_c_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_cst_1 : Ref sig .tc := ⟨.hbm, 80, rfl⟩
abbrev main_call1_call0_v0 : Ref sig .tc := ⟨.hbm, 81, rfl⟩
abbrev main_call1_call0_v1 : Ref sig .tc := ⟨.hbm, 82, rfl⟩
abbrev main_call1_v4 : Ref sig .tc := ⟨.hbm, 83, rfl⟩
abbrev main_call1_v5 : Ref sig .tc := ⟨.hbm, 84, rfl⟩
abbrev main_call1_cst_2 : Ref sig .tc := ⟨.hbm, 85, rfl⟩
abbrev main_call1_v6 : Ref sig .tc := ⟨.hbm, 86, rfl⟩
abbrev main_call1_v7 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_cst_0 : Ref sig .tc := ⟨.hbm, 100, rfl⟩
abbrev main_call2_v2 : Ref sig .tc := ⟨.hbm, 101, rfl⟩
abbrev main_call2_v3 : Ref sig .tc := ⟨.hbm, 102, rfl⟩
abbrev main_call2_cst_1 : Ref sig .tc := ⟨.hbm, 103, rfl⟩
abbrev main_call2_call0_v0 : Ref sig .tc := ⟨.hbm, 104, rfl⟩
abbrev main_call2_call0_v1 : Ref sig .tc := ⟨.hbm, 105, rfl⟩
abbrev main_call2_v4 : Ref sig .tc := ⟨.hbm, 106, rfl⟩
abbrev main_call2_v5 : Ref sig .tc := ⟨.hbm, 107, rfl⟩
abbrev main_call2_cst_2 : Ref sig .tc := ⟨.hbm, 108, rfl⟩
abbrev main_call2_v6 : Ref sig .tc := ⟨.hbm, 109, rfl⟩
abbrev main_call2_v7 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_cst_3 : Ref sig .tc := ⟨.hbm, 120, rfl⟩
abbrev main_v60 : Ref sig .tc := ⟨.hbm, 121, rfl⟩
abbrev main_cst_4 : Ref sig .tc := ⟨.hbm, 122, rfl⟩
abbrev main_v61 : Ref sig .tc := ⟨.hbm, 123, rfl⟩
abbrev main_v62 : Ref sig .tc := ⟨.hbm, 124, rfl⟩
abbrev main_cst_5 : Ref sig .tc := ⟨.hbm, 125, rfl⟩
abbrev main_v63 : Ref sig .tc := ⟨.hbm, 126, rfl⟩
abbrev main_v64 : Ref sig .tc := ⟨.hbm, 127, rfl⟩
abbrev main_c_6 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_cst_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_cst_1 : Ref sig .tc := ⟨.hbm, 139, rfl⟩
abbrev main_call3_v8 : Ref sig .tc := ⟨.hbm, 140, rfl⟩
abbrev main_call3_cst_2 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_v12 : Ref sig .tc := ⟨.hbm, 145, rfl⟩
abbrev main_call3_cst_3 : Ref sig .tc := ⟨.hbm, 146, rfl⟩
abbrev main_call3_v13 : Ref sig .tc := ⟨.hbm, 147, rfl⟩
abbrev main_call3_cst_4 : Ref sig .tc := ⟨.hbm, 148, rfl⟩
abbrev main_call3_call0_v0 : Ref sig .tc := ⟨.hbm, 149, rfl⟩
abbrev main_call3_call0_v1 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_cst_7 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_cst_1 : Ref sig .tc := ⟨.hbm, 176, rfl⟩
abbrev main_call4_call0_v0 : Ref sig .tc := ⟨.hbm, 177, rfl⟩
abbrev main_call4_call0_v1 : Ref sig .tc := ⟨.hbm, 178, rfl⟩
abbrev main_call4_v4 : Ref sig .tc := ⟨.hbm, 179, rfl⟩
abbrev main_call4_v5 : Ref sig .tc := ⟨.hbm, 180, rfl⟩
abbrev main_call4_cst_2 : Ref sig .tc := ⟨.hbm, 181, rfl⟩
abbrev main_call4_v6 : Ref sig .tc := ⟨.hbm, 182, rfl⟩
abbrev main_call4_v7 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_cst_8 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_cst_9 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_cst_10 : Ref sig .tc := ⟨.hbm, 217, rfl⟩
abbrev main_call5_v0 : Ref sig .tc := ⟨.hbm, 218, rfl⟩
abbrev main_call5_v1 : Ref sig .tc := ⟨.hbm, 219, rfl⟩
abbrev main_v114 : Ref sig .tc := ⟨.hbm, 220, rfl⟩
abbrev main_v115 : Ref sig .tc := ⟨.hbm, 221, rfl⟩
abbrev main_values_11 : Ref sig .tc := ⟨.hbm, 222, rfl⟩
abbrev main_indices_12 : Ref sig .tc := ⟨.hbm, 223, rfl⟩
abbrev main_v116 : Ref sig .tc := ⟨.hbm, 224, rfl⟩
abbrev main_v117 : Ref sig .tc := ⟨.hbm, 225, rfl⟩
abbrev main_c_13 : Ref sig .tc := ⟨.hbm, 226, rfl⟩
abbrev main_v118 : Ref sig .tc := ⟨.hbm, 227, rfl⟩
abbrev main_v119 : Ref sig .tc := ⟨.hbm, 228, rfl⟩
abbrev main_c_14 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_call6_cst : Ref sig .tc := ⟨.hbm, 245, rfl⟩
abbrev main_call6_v0 : Ref sig .tc := ⟨.hbm, 246, rfl⟩
abbrev main_call6_v1 : Ref sig .tc := ⟨.hbm, 247, rfl⟩
abbrev main_call6_cst_0 : Ref sig .tc := ⟨.hbm, 248, rfl⟩
abbrev main_call6_v2 : Ref sig .tc := ⟨.hbm, 249, rfl⟩
abbrev main_call6_v3 : Ref sig .tc := ⟨.hbm, 250, rfl⟩
abbrev main_call6_cst_1 : Ref sig .tc := ⟨.hbm, 251, rfl⟩
abbrev main_call6_call0_v0 : Ref sig .tc := ⟨.hbm, 252, rfl⟩
abbrev main_call6_call0_v1 : Ref sig .tc := ⟨.hbm, 253, rfl⟩
abbrev main_call6_v4 : Ref sig .tc := ⟨.hbm, 254, rfl⟩
abbrev main_call6_v5 : Ref sig .tc := ⟨.hbm, 255, rfl⟩
abbrev main_call6_cst_2 : Ref sig .tc := ⟨.hbm, 256, rfl⟩
abbrev main_call6_v6 : Ref sig .tc := ⟨.hbm, 257, rfl⟩
abbrev main_call6_v7 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_call7_cst : Ref sig .tc := ⟨.hbm, 268, rfl⟩
abbrev main_call7_v0 : Ref sig .tc := ⟨.hbm, 269, rfl⟩
abbrev main_call7_v1 : Ref sig .tc := ⟨.hbm, 270, rfl⟩
abbrev main_call7_cst_0 : Ref sig .tc := ⟨.hbm, 271, rfl⟩
abbrev main_call7_v2 : Ref sig .tc := ⟨.hbm, 272, rfl⟩
abbrev main_call7_v3 : Ref sig .tc := ⟨.hbm, 273, rfl⟩
abbrev main_call7_cst_1 : Ref sig .tc := ⟨.hbm, 274, rfl⟩
abbrev main_call7_call0_v0 : Ref sig .tc := ⟨.hbm, 275, rfl⟩
abbrev main_call7_call0_v1 : Ref sig .tc := ⟨.hbm, 276, rfl⟩
abbrev main_call7_v4 : Ref sig .tc := ⟨.hbm, 277, rfl⟩
abbrev main_call7_v5 : Ref sig .tc := ⟨.hbm, 278, rfl⟩
abbrev main_call7_cst_2 : Ref sig .tc := ⟨.hbm, 279, rfl⟩
abbrev main_call7_v6 : Ref sig .tc := ⟨.hbm, 280, rfl⟩
abbrev main_call7_v7 : Ref sig .tc := ⟨.hbm, 281, rfl⟩
abbrev main_v144 : Ref sig .tc := ⟨.hbm, 282, rfl⟩
abbrev main_v145 : Ref sig .tc := ⟨.hbm, 283, rfl⟩
abbrev main_v146 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_cst_15 : Ref sig .tc := ⟨.hbm, 291, rfl⟩
abbrev main_v153 : Ref sig .tc := ⟨.hbm, 292, rfl⟩
abbrev main_cst_16 : Ref sig .tc := ⟨.hbm, 293, rfl⟩
abbrev main_v154 : Ref sig .tc := ⟨.hbm, 294, rfl⟩
abbrev main_v155 : Ref sig .tc := ⟨.hbm, 295, rfl⟩
abbrev main_cst_17 : Ref sig .tc := ⟨.hbm, 296, rfl⟩
abbrev main_v156 : Ref sig .tc := ⟨.hbm, 297, rfl⟩
abbrev main_v157 : Ref sig .tc := ⟨.hbm, 298, rfl⟩
abbrev main_c_18 : Ref sig .tc := ⟨.hbm, 299, rfl⟩
abbrev main_call8_cst : Ref sig .tc := ⟨.hbm, 300, rfl⟩
abbrev main_call8_v0 : Ref sig .tc := ⟨.hbm, 301, rfl⟩
abbrev main_call8_v1 : Ref sig .tc := ⟨.hbm, 302, rfl⟩
abbrev main_call8_cst_0 : Ref sig .tc := ⟨.hbm, 303, rfl⟩
abbrev main_call8_v2 : Ref sig .tc := ⟨.hbm, 304, rfl⟩
abbrev main_call8_v3 : Ref sig .tc := ⟨.hbm, 305, rfl⟩
abbrev main_call8_v4 : Ref sig .tc := ⟨.hbm, 306, rfl⟩
abbrev main_call8_v5 : Ref sig .tc := ⟨.hbm, 307, rfl⟩
abbrev main_call8_v6 : Ref sig .tc := ⟨.hbm, 308, rfl⟩
abbrev main_call8_v7 : Ref sig .tc := ⟨.hbm, 309, rfl⟩
abbrev main_call8_cst_1 : Ref sig .tc := ⟨.hbm, 310, rfl⟩
abbrev main_call8_v8 : Ref sig .tc := ⟨.hbm, 311, rfl⟩
abbrev main_call8_cst_2 : Ref sig .tc := ⟨.hbm, 312, rfl⟩
abbrev main_call8_v9 : Ref sig .tc := ⟨.hbm, 313, rfl⟩
abbrev main_call8_v10 : Ref sig .tc := ⟨.hbm, 314, rfl⟩
abbrev main_call8_v11 : Ref sig .tc := ⟨.hbm, 315, rfl⟩
abbrev main_call8_v12 : Ref sig .tc := ⟨.hbm, 316, rfl⟩
abbrev main_call8_cst_3 : Ref sig .tc := ⟨.hbm, 317, rfl⟩
abbrev main_call8_v13 : Ref sig .tc := ⟨.hbm, 318, rfl⟩
abbrev main_call8_cst_4 : Ref sig .tc := ⟨.hbm, 319, rfl⟩
abbrev main_call8_call0_v0 : Ref sig .tc := ⟨.hbm, 320, rfl⟩
abbrev main_call8_call0_v1 : Ref sig .tc := ⟨.hbm, 321, rfl⟩
abbrev main_v158 : Ref sig .tc := ⟨.hbm, 322, rfl⟩
abbrev main_v159 : Ref sig .tc := ⟨.hbm, 323, rfl⟩
abbrev main_v160 : Ref sig .tc := ⟨.hbm, 324, rfl⟩
abbrev main_cst_19 : Ref sig .tc := ⟨.hbm, 325, rfl⟩
abbrev main_v161 : Ref sig .tc := ⟨.hbm, 326, rfl⟩
abbrev main_v162 : Ref sig .tc := ⟨.hbm, 327, rfl⟩
abbrev main_v163 : Ref sig .tc := ⟨.hbm, 328, rfl⟩
abbrev main_v164 : Ref sig .tc := ⟨.hbm, 329, rfl⟩
abbrev main_v165 : Ref sig .tc := ⟨.hbm, 330, rfl⟩
abbrev main_v166 : Ref sig .tc := ⟨.hbm, 331, rfl⟩
abbrev main_v167 : Ref sig .tc := ⟨.hbm, 332, rfl⟩
abbrev main_v168 : Ref sig .tc := ⟨.hbm, 333, rfl⟩
abbrev main_v169 : Ref sig .tc := ⟨.hbm, 334, rfl⟩
abbrev main_v170 : Ref sig .tc := ⟨.hbm, 335, rfl⟩
abbrev main_v171 : Ref sig .tc := ⟨.hbm, 336, rfl⟩
abbrev main_v172 : Ref sig .tc := ⟨.hbm, 337, rfl⟩
abbrev main_v173 : Ref sig .tc := ⟨.hbm, 338, rfl⟩
abbrev main_v174 : Ref sig .tc := ⟨.hbm, 339, rfl⟩
abbrev main_v175 : Ref sig .tc := ⟨.hbm, 340, rfl⟩
abbrev main_call9_cst : Ref sig .tc := ⟨.hbm, 341, rfl⟩
abbrev main_call9_v0 : Ref sig .tc := ⟨.hbm, 342, rfl⟩
abbrev main_call9_v1 : Ref sig .tc := ⟨.hbm, 343, rfl⟩
abbrev main_call9_cst_0 : Ref sig .tc := ⟨.hbm, 344, rfl⟩
abbrev main_call9_v2 : Ref sig .tc := ⟨.hbm, 345, rfl⟩
abbrev main_call9_v3 : Ref sig .tc := ⟨.hbm, 346, rfl⟩
abbrev main_call9_cst_1 : Ref sig .tc := ⟨.hbm, 347, rfl⟩
abbrev main_call9_call0_v0 : Ref sig .tc := ⟨.hbm, 348, rfl⟩
abbrev main_call9_call0_v1 : Ref sig .tc := ⟨.hbm, 349, rfl⟩
abbrev main_call9_v4 : Ref sig .tc := ⟨.hbm, 350, rfl⟩
abbrev main_call9_v5 : Ref sig .tc := ⟨.hbm, 351, rfl⟩
abbrev main_call9_cst_2 : Ref sig .tc := ⟨.hbm, 352, rfl⟩
abbrev main_call9_v6 : Ref sig .tc := ⟨.hbm, 353, rfl⟩
abbrev main_call9_v7 : Ref sig .tc := ⟨.hbm, 354, rfl⟩
abbrev main_v176 : Ref sig .tc := ⟨.hbm, 355, rfl⟩
abbrev main_v177 : Ref sig .tc := ⟨.hbm, 356, rfl⟩
abbrev main_v178 : Ref sig .tc := ⟨.hbm, 357, rfl⟩
abbrev main_v179 : Ref sig .tc := ⟨.hbm, 358, rfl⟩
abbrev main_v180 : Ref sig .tc := ⟨.hbm, 359, rfl⟩
abbrev main_v181 : Ref sig .tc := ⟨.hbm, 360, rfl⟩
abbrev main_v182 : Ref sig .tc := ⟨.hbm, 361, rfl⟩
abbrev main_v183 : Ref sig .tc := ⟨.hbm, 362, rfl⟩
abbrev main_v184 : Ref sig .tc := ⟨.hbm, 363, rfl⟩
abbrev main_v185 : Ref sig .tc := ⟨.hbm, 364, rfl⟩
abbrev main_v186 : Ref sig .tc := ⟨.hbm, 365, rfl⟩
abbrev main_v187 : Ref sig .tc := ⟨.hbm, 366, rfl⟩
abbrev main_v188 : Ref sig .tc := ⟨.hbm, 367, rfl⟩
abbrev main_v189 : Ref sig .tc := ⟨.hbm, 368, rfl⟩
abbrev main_v190 : Ref sig .tc := ⟨.hbm, 369, rfl⟩
abbrev main_cst_20 : Ref sig .tc := ⟨.hbm, 370, rfl⟩
abbrev main_v191 : Ref sig .tc := ⟨.hbm, 371, rfl⟩
abbrev main_v192 : Ref sig .tc := ⟨.hbm, 372, rfl⟩
abbrev main_v193 : Ref sig .tc := ⟨.hbm, 373, rfl⟩
abbrev main_v194 : Ref sig .tc := ⟨.hbm, 374, rfl⟩
abbrev main_v195 : Ref sig .tc := ⟨.hbm, 375, rfl⟩
abbrev main_v196 : Ref sig .tc := ⟨.hbm, 376, rfl⟩
abbrev main_v197 : Ref sig .tc := ⟨.hbm, 377, rfl⟩
abbrev main_v198 : Ref sig .tc := ⟨.hbm, 378, rfl⟩
abbrev main_cst_21 : Ref sig .tc := ⟨.hbm, 379, rfl⟩
abbrev main_v199 : Ref sig .tc := ⟨.hbm, 380, rfl⟩
abbrev main_v200 : Ref sig .tc := ⟨.hbm, 381, rfl⟩
abbrev main_v201 : Ref sig .tc := ⟨.hbm, 382, rfl⟩
abbrev main_v202 : Ref sig .tc := ⟨.hbm, 383, rfl⟩
abbrev main_v203 : Ref sig .tc := ⟨.hbm, 384, rfl⟩
abbrev main_v204 : Ref sig .tc := ⟨.hbm, 385, rfl⟩
abbrev main_v205 : Ref sig .tc := ⟨.hbm, 386, rfl⟩
abbrev main_v206 : Ref sig .tc := ⟨.hbm, 387, rfl⟩
abbrev main_cst_22 : Ref sig .tc := ⟨.hbm, 388, rfl⟩
abbrev main_call10_v0 : Ref sig .tc := ⟨.hbm, 389, rfl⟩
abbrev main_call10_v1 : Ref sig .tc := ⟨.hbm, 390, rfl⟩
abbrev main_v207 : Ref sig .tc := ⟨.hbm, 391, rfl⟩
abbrev main_v208 : Ref sig .tc := ⟨.hbm, 392, rfl⟩
abbrev main_values_23 : Ref sig .tc := ⟨.hbm, 393, rfl⟩
abbrev main_indices_24 : Ref sig .tc := ⟨.hbm, 394, rfl⟩
abbrev main_v209 : Ref sig .tc := ⟨.hbm, 395, rfl⟩
abbrev main_v210 : Ref sig .tc := ⟨.hbm, 396, rfl⟩
abbrev main_c_25 : Ref sig .tc := ⟨.hbm, 397, rfl⟩
abbrev main_v211 : Ref sig .tc := ⟨.hbm, 398, rfl⟩
abbrev main_v212 : Ref sig .tc := ⟨.hbm, 399, rfl⟩
abbrev main_c_26 : Ref sig .tc := ⟨.hbm, 400, rfl⟩
abbrev main_v213 : Ref sig .tc := ⟨.hbm, 401, rfl⟩
abbrev main_v214 : Ref sig .tc := ⟨.hbm, 402, rfl⟩
abbrev main_v215 : Ref sig .tc := ⟨.hbm, 403, rfl⟩
abbrev main_v216 : Ref sig .tc := ⟨.hbm, 404, rfl⟩
abbrev main_v217 : Ref sig .tc := ⟨.hbm, 405, rfl⟩
abbrev main_v218 : Ref sig .tc := ⟨.hbm, 406, rfl⟩
abbrev main_v219 : Ref sig .tc := ⟨.hbm, 407, rfl⟩
abbrev main_v220 : Ref sig .tc := ⟨.hbm, 408, rfl⟩
abbrev main_v221 : Ref sig .tc := ⟨.hbm, 409, rfl⟩
abbrev main_v222 : Ref sig .tc := ⟨.hbm, 410, rfl⟩
abbrev main_v223 : Ref sig .tc := ⟨.hbm, 411, rfl⟩
abbrev main_v224 : Ref sig .tc := ⟨.hbm, 412, rfl⟩
abbrev main_v225 : Ref sig .tc := ⟨.hbm, 413, rfl⟩
abbrev main_v226 : Ref sig .tc := ⟨.hbm, 414, rfl⟩
abbrev main_v227 : Ref sig .tc := ⟨.hbm, 415, rfl⟩
abbrev main_call11_cst : Ref sig .tc := ⟨.hbm, 416, rfl⟩
abbrev main_call11_v0 : Ref sig .tc := ⟨.hbm, 417, rfl⟩
abbrev main_call11_v1 : Ref sig .tc := ⟨.hbm, 418, rfl⟩
abbrev main_call11_cst_0 : Ref sig .tc := ⟨.hbm, 419, rfl⟩
abbrev main_call11_v2 : Ref sig .tc := ⟨.hbm, 420, rfl⟩
abbrev main_call11_v3 : Ref sig .tc := ⟨.hbm, 421, rfl⟩
abbrev main_call11_cst_1 : Ref sig .tc := ⟨.hbm, 422, rfl⟩
abbrev main_call11_call0_v0 : Ref sig .tc := ⟨.hbm, 423, rfl⟩
abbrev main_call11_call0_v1 : Ref sig .tc := ⟨.hbm, 424, rfl⟩
abbrev main_call11_v4 : Ref sig .tc := ⟨.hbm, 425, rfl⟩
abbrev main_call11_v5 : Ref sig .tc := ⟨.hbm, 426, rfl⟩
abbrev main_call11_cst_2 : Ref sig .tc := ⟨.hbm, 427, rfl⟩
abbrev main_call11_v6 : Ref sig .tc := ⟨.hbm, 428, rfl⟩
abbrev main_call11_v7 : Ref sig .tc := ⟨.hbm, 429, rfl⟩
abbrev main_v228 : Ref sig .tc := ⟨.hbm, 430, rfl⟩
abbrev main_v229 : Ref sig .tc := ⟨.hbm, 431, rfl⟩
abbrev main_v230 : Ref sig .tc := ⟨.hbm, 432, rfl⟩
abbrev main_v231 : Ref sig .tc := ⟨.hbm, 433, rfl⟩
abbrev main_v232 : Ref sig .tc := ⟨.hbm, 434, rfl⟩
abbrev main_v233 : Ref sig .tc := ⟨.hbm, 435, rfl⟩
abbrev main_v234 : Ref sig .tc := ⟨.hbm, 436, rfl⟩
abbrev main_v235 : Ref sig .tc := ⟨.hbm, 437, rfl⟩
abbrev main_v236 : Ref sig .tc := ⟨.hbm, 438, rfl⟩
abbrev main_call12_cst : Ref sig .tc := ⟨.hbm, 439, rfl⟩
abbrev main_call12_v0 : Ref sig .tc := ⟨.hbm, 440, rfl⟩
abbrev main_call12_v1 : Ref sig .tc := ⟨.hbm, 441, rfl⟩
abbrev main_call12_cst_0 : Ref sig .tc := ⟨.hbm, 442, rfl⟩
abbrev main_call12_v2 : Ref sig .tc := ⟨.hbm, 443, rfl⟩
abbrev main_call12_v3 : Ref sig .tc := ⟨.hbm, 444, rfl⟩
abbrev main_call12_cst_1 : Ref sig .tc := ⟨.hbm, 445, rfl⟩
abbrev main_call12_call0_v0 : Ref sig .tc := ⟨.hbm, 446, rfl⟩
abbrev main_call12_call0_v1 : Ref sig .tc := ⟨.hbm, 447, rfl⟩
abbrev main_call12_v4 : Ref sig .tc := ⟨.hbm, 448, rfl⟩
abbrev main_call12_v5 : Ref sig .tc := ⟨.hbm, 449, rfl⟩
abbrev main_call12_cst_2 : Ref sig .tc := ⟨.hbm, 450, rfl⟩
abbrev main_call12_v6 : Ref sig .tc := ⟨.hbm, 451, rfl⟩
abbrev main_call12_v7 : Ref sig .tc := ⟨.hbm, 452, rfl⟩
abbrev main_v237 : Ref sig .tc := ⟨.hbm, 453, rfl⟩
abbrev main_v238 : Ref sig .tc := ⟨.hbm, 454, rfl⟩
abbrev main_v239 : Ref sig .tc := ⟨.hbm, 455, rfl⟩
abbrev main_v240 : Ref sig .tc := ⟨.hbm, 456, rfl⟩
abbrev main_v241 : Ref sig .tc := ⟨.hbm, 457, rfl⟩
abbrev main_v242 : Ref sig .tc := ⟨.hbm, 458, rfl⟩
abbrev main_v243 : Ref sig .tc := ⟨.hbm, 459, rfl⟩
abbrev main_v244 : Ref sig .tc := ⟨.hbm, 460, rfl⟩
abbrev main_v245 : Ref sig .tc := ⟨.hbm, 461, rfl⟩
abbrev main_cst_27 : Ref sig .tc := ⟨.hbm, 462, rfl⟩
abbrev main_v246 : Ref sig .tc := ⟨.hbm, 463, rfl⟩
abbrev main_cst_28 : Ref sig .tc := ⟨.hbm, 464, rfl⟩
abbrev main_v247 : Ref sig .tc := ⟨.hbm, 465, rfl⟩
abbrev main_v248 : Ref sig .tc := ⟨.hbm, 466, rfl⟩
abbrev main_cst_29 : Ref sig .tc := ⟨.hbm, 467, rfl⟩
abbrev main_v249 : Ref sig .tc := ⟨.hbm, 468, rfl⟩
abbrev main_v250 : Ref sig .tc := ⟨.hbm, 469, rfl⟩
abbrev main_c_30 : Ref sig .tc := ⟨.hbm, 470, rfl⟩
abbrev main_call13_cst : Ref sig .tc := ⟨.hbm, 471, rfl⟩
abbrev main_call13_v0 : Ref sig .tc := ⟨.hbm, 472, rfl⟩
abbrev main_call13_v1 : Ref sig .tc := ⟨.hbm, 473, rfl⟩
abbrev main_call13_cst_0 : Ref sig .tc := ⟨.hbm, 474, rfl⟩
abbrev main_call13_v2 : Ref sig .tc := ⟨.hbm, 475, rfl⟩
abbrev main_call13_v3 : Ref sig .tc := ⟨.hbm, 476, rfl⟩
abbrev main_call13_v4 : Ref sig .tc := ⟨.hbm, 477, rfl⟩
abbrev main_call13_v5 : Ref sig .tc := ⟨.hbm, 478, rfl⟩
abbrev main_call13_v6 : Ref sig .tc := ⟨.hbm, 479, rfl⟩
abbrev main_call13_v7 : Ref sig .tc := ⟨.hbm, 480, rfl⟩
abbrev main_call13_cst_1 : Ref sig .tc := ⟨.hbm, 481, rfl⟩
abbrev main_call13_v8 : Ref sig .tc := ⟨.hbm, 482, rfl⟩
abbrev main_call13_cst_2 : Ref sig .tc := ⟨.hbm, 483, rfl⟩
abbrev main_call13_v9 : Ref sig .tc := ⟨.hbm, 484, rfl⟩
abbrev main_call13_v10 : Ref sig .tc := ⟨.hbm, 485, rfl⟩
abbrev main_call13_v11 : Ref sig .tc := ⟨.hbm, 486, rfl⟩
abbrev main_call13_v12 : Ref sig .tc := ⟨.hbm, 487, rfl⟩
abbrev main_call13_cst_3 : Ref sig .tc := ⟨.hbm, 488, rfl⟩
abbrev main_call13_v13 : Ref sig .tc := ⟨.hbm, 489, rfl⟩
abbrev main_call13_cst_4 : Ref sig .tc := ⟨.hbm, 490, rfl⟩
abbrev main_call13_call0_v0 : Ref sig .tc := ⟨.hbm, 491, rfl⟩
abbrev main_call13_call0_v1 : Ref sig .tc := ⟨.hbm, 492, rfl⟩
abbrev main_v251 : Ref sig .tc := ⟨.hbm, 493, rfl⟩
abbrev main_v252 : Ref sig .tc := ⟨.hbm, 494, rfl⟩
abbrev main_v253 : Ref sig .tc := ⟨.hbm, 495, rfl⟩
abbrev main_cst_31 : Ref sig .tc := ⟨.hbm, 496, rfl⟩
abbrev main_v254 : Ref sig .tc := ⟨.hbm, 497, rfl⟩
abbrev main_v255 : Ref sig .tc := ⟨.hbm, 498, rfl⟩
abbrev main_v256 : Ref sig .tc := ⟨.hbm, 499, rfl⟩
abbrev main_v257 : Ref sig .tc := ⟨.hbm, 500, rfl⟩
abbrev main_v258 : Ref sig .tc := ⟨.hbm, 501, rfl⟩
abbrev main_v259 : Ref sig .tc := ⟨.hbm, 502, rfl⟩
abbrev main_v260 : Ref sig .tc := ⟨.hbm, 503, rfl⟩
abbrev main_v261 : Ref sig .tc := ⟨.hbm, 504, rfl⟩
abbrev main_v262 : Ref sig .tc := ⟨.hbm, 505, rfl⟩
abbrev main_v263 : Ref sig .tc := ⟨.hbm, 506, rfl⟩
abbrev main_v264 : Ref sig .tc := ⟨.hbm, 507, rfl⟩
abbrev main_v265 : Ref sig .tc := ⟨.hbm, 508, rfl⟩
abbrev main_v266 : Ref sig .tc := ⟨.hbm, 509, rfl⟩
abbrev main_v267 : Ref sig .tc := ⟨.hbm, 510, rfl⟩
abbrev main_v268 : Ref sig .tc := ⟨.hbm, 511, rfl⟩
abbrev main_call14_cst : Ref sig .tc := ⟨.hbm, 512, rfl⟩
abbrev main_call14_v0 : Ref sig .tc := ⟨.hbm, 513, rfl⟩
abbrev main_call14_v1 : Ref sig .tc := ⟨.hbm, 514, rfl⟩
abbrev main_call14_cst_0 : Ref sig .tc := ⟨.hbm, 515, rfl⟩
abbrev main_call14_v2 : Ref sig .tc := ⟨.hbm, 516, rfl⟩
abbrev main_call14_v3 : Ref sig .tc := ⟨.hbm, 517, rfl⟩
abbrev main_call14_cst_1 : Ref sig .tc := ⟨.hbm, 518, rfl⟩
abbrev main_call14_call0_v0 : Ref sig .tc := ⟨.hbm, 519, rfl⟩
abbrev main_call14_call0_v1 : Ref sig .tc := ⟨.hbm, 520, rfl⟩
abbrev main_call14_v4 : Ref sig .tc := ⟨.hbm, 521, rfl⟩
abbrev main_call14_v5 : Ref sig .tc := ⟨.hbm, 522, rfl⟩
abbrev main_call14_cst_2 : Ref sig .tc := ⟨.hbm, 523, rfl⟩
abbrev main_call14_v6 : Ref sig .tc := ⟨.hbm, 524, rfl⟩
abbrev main_call14_v7 : Ref sig .tc := ⟨.hbm, 525, rfl⟩
abbrev main_v269 : Ref sig .tc := ⟨.hbm, 526, rfl⟩
abbrev main_v270 : Ref sig .tc := ⟨.hbm, 527, rfl⟩
abbrev main_v271 : Ref sig .tc := ⟨.hbm, 528, rfl⟩
abbrev main_v272 : Ref sig .tc := ⟨.hbm, 529, rfl⟩
abbrev main_v273 : Ref sig .tc := ⟨.hbm, 530, rfl⟩
abbrev main_v274 : Ref sig .tc := ⟨.hbm, 531, rfl⟩
abbrev main_v275 : Ref sig .tc := ⟨.hbm, 532, rfl⟩
abbrev main_v276 : Ref sig .tc := ⟨.hbm, 533, rfl⟩
abbrev main_v277 : Ref sig .tc := ⟨.hbm, 534, rfl⟩
abbrev main_v278 : Ref sig .tc := ⟨.hbm, 535, rfl⟩
abbrev main_v279 : Ref sig .tc := ⟨.hbm, 536, rfl⟩
abbrev main_v280 : Ref sig .tc := ⟨.hbm, 537, rfl⟩
abbrev main_v281 : Ref sig .tc := ⟨.hbm, 538, rfl⟩
abbrev main_v282 : Ref sig .tc := ⟨.hbm, 539, rfl⟩
abbrev main_v283 : Ref sig .tc := ⟨.hbm, 540, rfl⟩
abbrev main_v284 : Ref sig .tc := ⟨.hbm, 541, rfl⟩
abbrev main_v285 : Ref sig .tc := ⟨.hbm, 542, rfl⟩
abbrev main_v286 : Ref sig .tc := ⟨.hbm, 543, rfl⟩
abbrev main_v287 : Ref sig .tc := ⟨.hbm, 544, rfl⟩
abbrev main_v288 : Ref sig .tc := ⟨.hbm, 545, rfl⟩
abbrev main_v289 : Ref sig .tc := ⟨.hbm, 546, rfl⟩
abbrev main_v290 : Ref sig .tc := ⟨.hbm, 547, rfl⟩
abbrev main_v291 : Ref sig .tc := ⟨.hbm, 548, rfl⟩
abbrev main_v292 : Ref sig .tc := ⟨.hbm, 549, rfl⟩
abbrev main_v293 : Ref sig .tc := ⟨.hbm, 550, rfl⟩
abbrev main_v294 : Ref sig .tc := ⟨.hbm, 551, rfl⟩
abbrev main_cst_32 : Ref sig .tc := ⟨.hbm, 552, rfl⟩
abbrev main_call15_v0 : Ref sig .tc := ⟨.hbm, 553, rfl⟩
abbrev main_call15_v1 : Ref sig .tc := ⟨.hbm, 554, rfl⟩
abbrev main_call15_v2 : Ref sig .tc := ⟨.hbm, 555, rfl⟩
abbrev main_call15_v3 : Ref sig .tc := ⟨.hbm, 556, rfl⟩
abbrev main_v295 : Ref sig .tc := ⟨.hbm, 557, rfl⟩
abbrev main_cst_33 : Ref sig .tc := ⟨.hbm, 558, rfl⟩
abbrev main_v296 : Ref sig .tc := ⟨.hbm, 559, rfl⟩
abbrev main_v297 : Ref sig .tc := ⟨.hbm, 560, rfl⟩
abbrev main_v298 : Ref sig .tc := ⟨.hbm, 561, rfl⟩
abbrev main_v299 : Ref sig .tc := ⟨.hbm, 562, rfl⟩
abbrev main_v300 : Ref sig .tc := ⟨.hbm, 563, rfl⟩
abbrev main_call16_cst : Ref sig .tc := ⟨.hbm, 564, rfl⟩
abbrev main_call16_v0 : Ref sig .tc := ⟨.hbm, 565, rfl⟩
abbrev main_call16_v1 : Ref sig .tc := ⟨.hbm, 566, rfl⟩
abbrev main_call16_cst_0 : Ref sig .tc := ⟨.hbm, 567, rfl⟩
abbrev main_call16_v2 : Ref sig .tc := ⟨.hbm, 568, rfl⟩
abbrev main_call16_v3 : Ref sig .tc := ⟨.hbm, 569, rfl⟩
abbrev main_call16_cst_1 : Ref sig .tc := ⟨.hbm, 570, rfl⟩
abbrev main_call16_call0_v0 : Ref sig .tc := ⟨.hbm, 571, rfl⟩
abbrev main_call16_call0_v1 : Ref sig .tc := ⟨.hbm, 572, rfl⟩
abbrev main_call16_v4 : Ref sig .tc := ⟨.hbm, 573, rfl⟩
abbrev main_call16_v5 : Ref sig .tc := ⟨.hbm, 574, rfl⟩
abbrev main_call16_cst_2 : Ref sig .tc := ⟨.hbm, 575, rfl⟩
abbrev main_call16_v6 : Ref sig .tc := ⟨.hbm, 576, rfl⟩
abbrev main_call16_v7 : Ref sig .tc := ⟨.hbm, 577, rfl⟩
abbrev main_v301 : Ref sig .tc := ⟨.hbm, 578, rfl⟩
abbrev main_v302 : Ref sig .tc := ⟨.hbm, 579, rfl⟩
abbrev main_v303 : Ref sig .tc := ⟨.hbm, 580, rfl⟩
abbrev main_v304 : Ref sig .tc := ⟨.hbm, 581, rfl⟩
abbrev main_v305 : Ref sig .tc := ⟨.hbm, 582, rfl⟩
abbrev main_call17_cst : Ref sig .tc := ⟨.hbm, 583, rfl⟩
abbrev main_call17_v0 : Ref sig .tc := ⟨.hbm, 584, rfl⟩
abbrev main_call17_v1 : Ref sig .tc := ⟨.hbm, 585, rfl⟩
abbrev main_call17_cst_0 : Ref sig .tc := ⟨.hbm, 586, rfl⟩
abbrev main_call17_v2 : Ref sig .tc := ⟨.hbm, 587, rfl⟩
abbrev main_call17_v3 : Ref sig .tc := ⟨.hbm, 588, rfl⟩
abbrev main_call17_cst_1 : Ref sig .tc := ⟨.hbm, 589, rfl⟩
abbrev main_call17_call0_v0 : Ref sig .tc := ⟨.hbm, 590, rfl⟩
abbrev main_call17_call0_v1 : Ref sig .tc := ⟨.hbm, 591, rfl⟩
abbrev main_call17_v4 : Ref sig .tc := ⟨.hbm, 592, rfl⟩
abbrev main_call17_v5 : Ref sig .tc := ⟨.hbm, 593, rfl⟩
abbrev main_call17_cst_2 : Ref sig .tc := ⟨.hbm, 594, rfl⟩
abbrev main_call17_v6 : Ref sig .tc := ⟨.hbm, 595, rfl⟩
abbrev main_call17_v7 : Ref sig .tc := ⟨.hbm, 596, rfl⟩
abbrev main_v306 : Ref sig .tc := ⟨.hbm, 597, rfl⟩
abbrev main_v307 : Ref sig .tc := ⟨.hbm, 598, rfl⟩
abbrev main_v308 : Ref sig .tc := ⟨.hbm, 599, rfl⟩
abbrev main_v309 : Ref sig .tc := ⟨.hbm, 600, rfl⟩
abbrev main_v310 : Ref sig .tc := ⟨.hbm, 601, rfl⟩

abbrev nD : Nat := 1
abbrev τ : Topo := Topo.v7x

variable {F : FTy → Type} [FloatOps F]
-- ==== Proof.Words.lean ====
/-
  The scalar side of the pooling loop, once for every group of rows `[s, e)`: the floor divisions by 64, the bounds of the
  counted loop over whole blocks and of the empty loop behind it, and the row offsets of the blocks read.
-/
module

public import proofs.«01_k».proof.Proof.Gen.KernelIdeal
public import proofs.«01_k».proof.Proof.Gen.Kernel
public import Idealize.ShloMosaic.Lib.Affine
public import Idealize.ShloMosaic.Lib.WordArith
public import Idealize.ShloMosaic.Lib.LoopRemainder

@[expose] public section

namespace PoolWords

open Idealize.ShloMosaic Idealize.ShloMosaic.Affine

/-- The sign of a word, as a difference of two comparisons with zero. -/
def sgn (w : BitVec 32) : BitVec 32 :=
  Scalar.subi (Scalar.extui (Scalar.cmpi .sgt w 0#32)) (Scalar.extui (Scalar.cmpi .slt w 0#32))

/-- Floor division by 64: the truncated quotient, less one where the signs differ and the remainder is not zero. -/
def fdiv (w : BitVec 32) : BitVec 32 :=
  Scalar.select (Scalar.andi (Scalar.cmpi .ne (sgn w) (sgn 64#32)) (Scalar.cmpi .ne (Scalar.remsi w 64#32) 0#32))
    (Scalar.subi (Scalar.divsi w 64#32) 1#32) (Scalar.divsi w 64#32)

/-- The block after the group's first one: where the loop over whole blocks starts. -/
def lo (s : BitVec 32) : BitVec 32 := Scalar.addi (fdiv s) 1#32

/-- The block count up to row `e`, less one. -/
def hi (e : BitVec 32) : BitVec 32 := Scalar.subi (fdiv (Scalar.subi (Scalar.addi e 64#32) 1#32)) 1#32

/-- The group's last block, or block 0 where there is none. -/
def lastBlk (e : BitVec 32) : BitVec 32 := Scalar.maxsi (hi e) 0#32

/-- The loop over the whole blocks of group `[s, e)`. -/
@[reducible] def blkLoop (s e : BitVec 32) : Scf.Loop 32 :=
  ⟨lo s, Scalar.addi (lo s) (Scalar.muli (Scalar.divsi (Scalar.subi (hi e) (lo s)) 1#32) 1#32), 1#32⟩

/-- The loop behind it, which makes no trip. -/
@[reducible] def tailLoop (s e : BitVec 32) : Scf.Loop 32 :=
  ⟨Scalar.addi (lo s) (Scalar.muli (Scalar.divsi (Scalar.subi (hi e) (lo s)) 1#32) 1#32),
   Scalar.addi (lo s) (Scalar.subi (hi e) (lo s)), 1#32⟩

/-- The offsets of the 64 rows of block `b`. -/
def offs (b : BitVec 32) : Fin 2 → Nat := ![(Scalar.indexCast (Scalar.muli b 64#32)).toNat, 0]

/-- A literal word, as a number. -/
theorem lit (n : Nat) (h : n < 2 ^ 31 := by decide) : IsInt (BitVec.ofNat 32 n) n := ofNat n ⟨rfl, h⟩

/-- A word of at most 10000 is its own number. -/
theorem isInt_of_le {w : BitVec 32} (h : w.toNat ≤ 10000) : IsInt w w.toNat := by
  have := word w
  rwa [BitVec.toInt_eq_toNat_of_lt (by omega)] at this

/-- The unsigned reading of a word known as a natural number. -/
theorem toNat_of_isInt {w : BitVec 32} {n : Nat} (h : IsInt w n) : w.toNat = n := by
  unfold IsInt at h
  have h1 := w.isLt
  rw [BitVec.toInt_eq_toNat_cond] at h
  split at h <;> omega

/-- A word's number, restated. -/
theorem isInt_eq {w : BitVec 32} {a b : Int} (h : IsInt w a) (e : a = b) : IsInt w b := e ▸ h

/-- Floor division of a word that is not negative. -/
theorem fdiv_isInt {w : BitVec 32} {n : Int} (h : IsInt w n) (h0 : 0 ≤ n) (h1 : n < 2 ^ 31) : IsInt (fdiv w) (n / 64) := by
  have hq : IsInt (Scalar.divsi w 64#32) (n / 64) := Affine.divsi h (lit 64) ⟨rfl, h0, by decide⟩
  have hs64 : IsInt (sgn 64#32) 1 :=
    Affine.subi (extui_holds (sgt_holds (lit 64) (lit 0) (by decide)) rfl) (extui_fails (slt_fails (lit 64) (lit 0) (by decide)) rfl) (by decide)
  have hlt : Affine.Fails (Scalar.cmpi .slt w 0#32) := slt_fails h (lit 0) (by simp; omega)
  have hc : Affine.Fails (Scalar.andi (Scalar.cmpi .ne (sgn w) (sgn 64#32)) (Scalar.cmpi .ne (Scalar.remsi w 64#32) 0#32)) := by
    rcases Int.lt_or_eq_of_le h0 with hp | hz
    · have : IsInt (sgn w) 1 := Affine.subi (extui_holds (sgt_holds h (lit 0) (by simpa using hp)) rfl) (extui_fails hlt rfl) (by decide)
      exact andi_fails_left (ne_fails this hs64 rfl) (cmpi_term _ (word _) (word _))
    · have hr : IsInt (Scalar.remsi w 64#32) 0 := Affine.remsi h (lit 64) ⟨by simp [← hz], h0, by decide⟩
      exact andi_fails_right (cmpi_term _ (word _) (word _)) (ne_fails hr (lit 0) rfl)
  exact select_fails hc (word _) hq rfl

section Group
variable {s e : BitVec 32}

/-- The first whole block, as a number. -/
theorem lo_isInt (hs : s.toNat ≤ 10000) : IsInt (lo s) ((s.toNat / 64 + 1 : Nat)) :=
  Affine.addi (fdiv_isInt (isInt_of_le hs) (by omega) (by omega)) (lit 1) ⟨by simp, by omega, by omega⟩

/-- The block past the last whole one, as a number. -/
theorem hi_isInt (he : e.toNat ≤ 10000) : IsInt (hi e) (((e.toNat + 63) / 64 : Nat) - 1 : Int) := by
  have h1 := Affine.addi (e := (e.toNat : Int) + 64) (isInt_of_le he) (lit 64) ⟨rfl, by omega, by omega⟩
  have h2 := Affine.subi (e := (e.toNat : Int) + 63) h1 (lit 1) ⟨by simp; omega, by omega, by omega⟩
  exact Affine.subi (fdiv_isInt h2 (by omega) (by omega)) (lit 1) ⟨by simp, by omega, by omega⟩

/-- The loop's upper bound, as a number. -/
theorem blkLoop_ub_isInt (hs : s.toNat ≤ 10000) (he : e.toNat ≤ 10000) :
    IsInt (blkLoop s e).ub (((e.toNat + 63) / 64 : Nat) - 1 : Int) := by
  show IsInt (Scalar.addi (lo s) (Scalar.muli (Scalar.divsi (Scalar.subi (hi e) (lo s)) 1#32) 1#32)) _
  rw [Scalar.muli_divsi_one]
  have h1 := lo_isInt hs
  have h2 := hi_isInt he
  exact Affine.addi h1 (Affine.subi h2 h1 ⟨rfl, by omega, by omega⟩) ⟨by omega, by omega, by omega⟩

/-- The trips of the loop over whole blocks: the blocks strictly between the first and the last. -/
theorem blkLoop_trips (hs : s.toNat ≤ 10000) (he : e.toNat ≤ 10000) :
    (blkLoop s e).trips = (e.toNat + 63) / 64 - 1 - (s.toNat / 64 + 1) := by
  show Scf.trips (lo s) (blkLoop s e).ub 1#32 = _
  have h1 := lo_isInt hs
  have h2 := blkLoop_ub_isInt hs he
  unfold IsInt at h1 h2
  rw [Scf.trips, h1, h2, show (1#32 : BitVec 32).toInt = 1 from rfl]
  omega

/-- The loop over whole blocks is well formed. -/
theorem blkLoop_ok (hs : s.toNat ≤ 10000) (he : e.toNat ≤ 10000) : (blkLoop s e).OK :=
  Affine.ok (lo_isInt hs) (blkLoop_ub_isInt hs he) (lit 1) ⟨by decide, by simp; omega⟩

/-- The offset of a block, as a row and a column. -/
theorem offs_eq {b : BitVec 32} {n : Nat} (h : IsInt b n) (hn : n ≤ 10000) : offs b = ![64 * n, 0] := by
  have h1 : IsInt (Scalar.indexCast (Scalar.muli b 64#32)) ((64 * n : Nat)) :=
    Affine.indexCast (Affine.muli h (lit 64) ⟨by push_cast; omega, by omega, by omega⟩)
  unfold offs; rw [toNat_of_isInt h1]

/-- The rows that trip `k` reads start at the block after the first, plus `k`. -/
theorem offs_trip (hs : s.toNat ≤ 10000) (he : e.toNat ≤ 10000) (k : Fin (blkLoop s e).trips) :
    offs (Scf.iv (lo s) 1#32 k) = ![64 * (s.toNat / 64 + 1 + k.val), 0] := by
  have hk := lt_of_lt_of_eq k.isLt (blkLoop_trips hs he)
  exact offs_eq (Affine.iv (lo_isInt hs) (lit 1) k.val ⟨by push_cast; omega, by omega, by omega⟩) (by omega)

/-- The offset of the group's first block. -/
theorem offs_first (hs : s.toNat ≤ 10000) : offs (fdiv s) = ![64 * (s.toNat / 64), 0] :=
  offs_eq (isInt_eq (fdiv_isInt (isInt_of_le hs) (by omega) (by omega)) (by simp)) (by omega)

/-- The offset of the group's last block. -/
theorem offs_last (he : e.toNat ≤ 10000) : offs (lastBlk e) = ![64 * ((e.toNat + 63) / 64 - 1), 0] :=
  offs_eq (Affine.maxsi (hi_isInt he) (lit 0) (by omega)) (by omega)

/-- A block that ends within 10128 rows is inside the scratch. -/
theorem inb_of {o : Fin 2 → Nat} {n : Nat} (h : o = ![n, 0]) (hn : n + 64 ≤ 10128) :
    ∀ a, o a + (⟨2, ![64, 128]⟩ : Shape).size a ≤ (⟨2, ![10128, 128]⟩ : Shape).size a := by
  subst h; intro a; fin_cases a
  · exact hn
  · exact le_refl _

/-- Each whole block is inside the scratch. -/
theorem inb_trip (hs : s.toNat ≤ 10000) (he : e.toNat ≤ 10000) (k : Fin (blkLoop s e).trips) :
    ∀ a, offs (Scf.iv (lo s) 1#32 k) a + (⟨2, ![64, 128]⟩ : Shape).size a ≤ (⟨2, ![10128, 128]⟩ : Shape).size a := by
  have hk := lt_of_lt_of_eq k.isLt (blkLoop_trips hs he)
  exact inb_of (offs_trip hs he k) (by omega)

/-- The group's first block is inside the scratch. -/
theorem inb_first (hs : s.toNat ≤ 10000) :
    ∀ a, offs (fdiv s) a + (⟨2, ![64, 128]⟩ : Shape).size a ≤ (⟨2, ![10128, 128]⟩ : Shape).size a :=
  inb_of (offs_first hs) (by omega)

/-- The group's last block is inside the scratch. -/
theorem inb_last (he : e.toNat ≤ 10000) :
    ∀ a, offs (lastBlk e) a + (⟨2, ![64, 128]⟩ : Shape).size a ≤ (⟨2, ![10128, 128]⟩ : Shape).size a :=
  inb_of (offs_last he) (by omega)

/-- The loop over what is left is well formed. -/
theorem tailLoop_ok : (tailLoop s e).OK := Scf.rem_ok _ _

end Group

/-- The row number 0 is a row bound. -/
theorem none_le : (0#32 : BitVec 32).toNat ≤ 10000 := by decide
/-- The row count 10000 is a row bound. -/
theorem all_le : (10000#32 : BitVec 32).toNat ≤ 10000 := by decide

end PoolWords

namespace Cert.KernelIdeal
open PoolWords Idealize.ShloMosaic

/-- The first group's side condition, for a bound of at most 10000. -/
theorem chk1 {a : BitVec 32} (ha : a.toNat ≤ 10000) : k0_chk1 a :=
  ⟨blkLoop_ok none_le ha, inb_trip (s := 0#32) none_le ha, tailLoop_ok (s := 0#32) (e := a),
   fun k => (Scf.rem_no_trip _ _ k).elim, inb_last ha, inb_first ha⟩
/-- A middle group's side condition. -/
theorem chk2 {a b : BitVec 32} (ha : a.toNat ≤ 10000) (hb : b.toNat ≤ 10000) : k0_chk2 a b :=
  ⟨blkLoop_ok ha hb, inb_trip ha hb, tailLoop_ok (s := a) (e := b), fun k => (Scf.rem_no_trip _ _ k).elim, inb_last hb, inb_first hb⟩
/-- The same of the next group: its loads are inside the scratch. -/
theorem chk3 {a b : BitVec 32} (ha : a.toNat ≤ 10000) (hb : b.toNat ≤ 10000) : k0_chk3 a b := chk2 ha hb
/-- The same of the next group: its loads are inside the scratch. -/
theorem chk4 {a b : BitVec 32} (ha : a.toNat ≤ 10000) (hb : b.toNat ≤ 10000) : k0_chk4 a b := chk2 ha hb
/-- The same of the next group: its loads are inside the scratch. -/
theorem chk5 {a b : BitVec 32} (ha : a.toNat ≤ 10000) (hb : b.toNat ≤ 10000) : k0_chk5 a b := chk2 ha hb
/-- The same of the next group: its loads are inside the scratch. -/
theorem chk6 {a b : BitVec 32} (ha : a.toNat ≤ 10000) (hb : b.toNat ≤ 10000) : k0_chk6 a b := chk2 ha hb
/-- The last two groups' side condition. -/
theorem chk7 {a b : BitVec 32} (ha : a.toNat ≤ 10000) (hb : b.toNat ≤ 10000) : k0_chk7 a b :=
  ⟨blkLoop_ok ha hb, inb_trip ha hb, tailLoop_ok (s := a) (e := b), fun k => (Scf.rem_no_trip _ _ k).elim, inb_last hb,
   blkLoop_ok hb all_le, inb_trip hb all_le, tailLoop_ok (s := b) (e := 10000#32), fun k => (Scf.rem_no_trip _ _ k).elim,
   inb_first hb⟩

end Cert.KernelIdeal
-- ==== Proof.Counts.lean ====
/-
  The seven group bounds the kernel counts: word `g` is how many of the 10000 batch numbers lie below `g`.
-/
module

public import proofs.«01_k».proof.Proof.Words
public import proofs.«01_k».proof.Proof.Gen.KernelIdeal.Skeleton
public import Idealize.ShloMosaic.Lib.WordSum
public import Idealize.ShloMosaic.Lib.ValueIdxCore
public import Idealize.ShloMosaic.Lib.Pipeline.Value

@[expose] public section

namespace PoolWords

open Idealize.ShloMosaic Idealize.ShloMosaic.ValueIdx Cert.KernelIdeal Cert.KernelIdeal.Gen

/-- How many entries of `v` are below `g`, as the kernel sums it: the comparison bits widened to words and added. -/
noncomputable def cnt (g : BitVec 32) (v : IVec S10000 32) : BitVec 32 :=
  extractAt ![0, 0] (shapeCast S1x1 (multiReductionI .add [1] S1
    (shapeCast S1x10000 (extui 32 (cmpi .slt v (broadcast S10000 g)) natLt_1_32) shapeCasts_S10000_S1x10000) 0#32
    reduces_S1x10000_S1 rfl) shapeCasts_S1_S1x1) inpos_S1x1_p0_0

/-- A one-bit word widened is at most one. -/
theorem extui_le_one (b : BitVec 1) : (b.setWidth 32).toNat ≤ 1 := by
  have := b.isLt
  rw [BitVec.toNat_setWidth]; omega

/-- The widened comparison bit at column `i` of the one row. -/
theorem bits_apply (g : BitVec 32) (v : IVec S10000 32) (r : Fin 1) (i : Fin 10000) :
    (shapeCast S1x10000 (extui 32 (cmpi .slt v (broadcast S10000 g)) natLt_1_32) shapeCasts_S10000_S1x10000 (ix2 r i)).toNat
      = if (v (ix1 i)).slt g then 1 else 0 := by
  rw [shapeCast_apply _ _ (ix2 r i) (ix1 i) (by
    have := r.isLt
    rw [Shape.rowMajor_val_one, Shape.rowMajor_val_two]
    show i.val = r.val * 10000 + i.val
    omega)]
  show ((IntOp.cmpi .slt (v (ix1 i)) g).setWidth 32).toNat = _
  unfold IntOp.cmpi
  cases h : (v (ix1 i)).slt g <;> simp [h]

/-- The count is the number of entries below `g`. -/
theorem cnt_toNat (g : BitVec 32) (v : IVec S10000 32) :
    (cnt g v).toNat = (Finset.univ.filter fun i : Fin 10000 => (v (ix1 i)).slt g = true).card := by
  have hsum : ∀ j : S1.Idx, ∑ i ∈ Finset.univ.filter (fun i => reduces_S1x10000_S1.drop i = j),
      (shapeCast S1x10000 (extui 32 (cmpi .slt v (broadcast S10000 g)) natLt_1_32) shapeCasts_S10000_S1x10000 i).toNat
        = (Finset.univ.filter fun i : Fin 10000 => (v (ix1 i)).slt g = true).card := by
    intro j
    rw [Finset.filter_true_of_mem fun i _ => ?_]
    · rw [sum_idx2, Fin.sum_univ_one, Finset.card_filter]
      exact Finset.sum_congr rfl fun i _ => bits_apply g v 0 i
    · funext a
      have h1 := (reduces_S1x10000_S1.drop i a).isLt
      have h2 := (j a).isLt
      match a with
      | ⟨0, _⟩ => exact Fin.ext (by
          have e : S1.size 0 = 1 := rfl
          change _ < S1.size 0 at h1 h2
          omega)
  have hle := Finset.card_le_univ (Finset.univ.filter fun i : Fin 10000 => (v (ix1 i)).slt g = true)
  rw [Fintype.card_fin] at hle
  unfold cnt extractAt shapeCast
  exact (WordSum.toNat_multiReductionI_add _ _ _ _ (lt_of_eq_of_lt (hsum _) (by omega))).trans (hsum _)

/-- The count is at most 10000. -/
theorem cnt_le (g : BitVec 32) (v : IVec S10000 32) : (cnt g v).toNat ≤ 10000 := by
  rw [cnt_toNat]
  exact (Finset.card_le_univ _).trans (by simp)

end PoolWords
-- ==== Proof.Body.lean ====
/-
  One run of the kernel body on given contents: it never reads outside its arrays, whatever the graph ids, and ends with the contents named here.
-/
module

public import proofs.«01_k».proof.Proof.Counts
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.LoopRemainder
public import Idealize.ShloMosaic.Lib.Tactic
public import Idealize.ShloMosaic.Lib.WritesUnit

@[expose] public section

noncomputable section

namespace Cert.KernelIdeal.Hand

open Cert.KernelIdeal Cert.KernelIdeal.Gen PoolWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- The count of ids below 1, as the body reads it, is at most 10000. -/
theorem w3_le (v : Vec F S10000 .i32) : (extractAt ![0, 0] (k0_pay3 v) inpos_S1x1_p0_0).toNat ≤ 10000 := cnt_le 1#32 v
/-- The count of ids below 2, as the body reads it, is at most 10000. -/
theorem w4_le (v : Vec F S10000 .i32) : (extractAt ![0, 0] (k0_pay4 v) inpos_S1x1_p0_0).toNat ≤ 10000 := cnt_le 2#32 v
/-- The count of ids below 3, as the body reads it, is at most 10000. -/
theorem w6_le (v : Vec F S10000 .i32) : (extractAt ![0, 0] (k0_pay6 (k0_pay5 v)) inpos_S1x1_p0_0).toNat ≤ 10000 := cnt_le 3#32 v
/-- The count of ids below 4, as the body reads it, is at most 10000. -/
theorem w7_le (v : Vec F S10000 .i32) : (extractAt ![0, 0] (k0_pay7 v) inpos_S1x1_p0_0).toNat ≤ 10000 := cnt_le 4#32 v
/-- The count of ids below 5, as the body reads it, is at most 10000. -/
theorem w8_le (v : Vec F S10000 .i32) : (extractAt ![0, 0] (k0_pay8 v) inpos_S1x1_p0_0).toNat ≤ 10000 := cnt_le 5#32 v
/-- The count of ids below 6, as the body reads it, is at most 10000. -/
theorem w9_le (v : Vec F S10000 .i32) : (extractAt ![0, 0] (k0_pay9 v) inpos_S1x1_p0_0).toNat ≤ 10000 := cnt_le 6#32 v
/-- The count of ids below 7, as the body reads it, is at most 10000. -/
theorem w10_le (v : Vec F S10000 .i32) : (extractAt ![0, 0] (k0_pay10 v) inpos_S1x1_p0_0).toNat ≤ 10000 := cnt_le 7#32 v

/-- Reading a buffer back after one store over the whole of a rank-2 memref gives the stored vector. -/
theorem read_store_full {sp : Space} {s : Shape} {e : EltTy} (v : View sig .tc sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w :=
  funext fun y => View.read_writes_cons_unit_of_mem v f inb w [] y y rfl fun a => by have := inb a; omega

set_option maxHeartbeats 4000000 in
/-- The kernel body on whole memrefs runs to the end: the twelve inputs come back as they were, the scratch holds
    something, and the output's buffer holds the contents this definition names. -/
def kernelRun (c : Dev nD) (arg0 : Memref sig .tc .vmem S3x10000 .f32) (harg0 : arg0.IsWhole) (arg1 : Memref sig .tc .vmem S10000 .i32) (harg1 : arg1.IsWhole) (arg2 : Memref sig .tc .vmem S3x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S64x32 .f32) (harg8 : arg8.IsWhole) (arg9 : Memref sig .tc .vmem S32 .f32) (harg9 : arg9.IsWhole) (arg10 : Memref sig .tc .vmem S32x512 .f32) (harg10 : arg10.IsWhole) (arg11 : Memref sig .tc .vmem S512 .f32) (harg11 : arg11.IsWhole) (arg12 : Memref sig .tc .vmem S8x512 .f32) (harg12 : arg12.IsWhole) (arg13 : Memref sig .tc .vmem S10128x128 .f32) (harg13 : arg13.IsWhole)
    (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    { out : Buf (Elt F) (arg12.view.loc (c : Thread nD τ)) // ∀ K : PUnit → sProp 𝕄, iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
        ∗ (iprop((arg12.view.loc (c : Thread nD τ) ↦[arg12.view.set]{fullShare} out) ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ f, arg13.view.loc (c : Thread nD τ) ↦[arg13.view.set]{fullShare} f)) -∗ K ⟨⟩))
      ⊢ wp frame (wpE (defs₀ (F := F)) Variants.none c none) Set.univ
          (cc0__fwd_kernel arg0 harg0 arg1 harg1 arg2 harg2 arg3 harg3 arg4 harg4 arg5 harg5 arg6 harg6 arg7 harg7 arg8 harg8 arg9 harg9 arg10 harg10 arg11 harg11 arg12 harg12 arg13 harg13) K } := by
  refine ⟨?_, fun K => ?run⟩
  case run =>
    simp only [cc0__fwd_kernel_eq_skeleton]; unfold cc0__fwd_kernel_skel
    iintro ⟨H0, H1, H2, H3, H4, H5, H6, H7, H8, H9, H10, H11, H12, H13, Hk⟩
    sl_exec (disch := (first | (guard_target = k0_chk1 _; exact chk1 (w3_le _)) | (guard_target = k0_chk2 _ _; exact chk2 (w3_le _) (w4_le _)) | (guard_target = k0_chk3 _ _; exact chk3 (w4_le _) (w6_le _)) | (guard_target = k0_chk4 _ _; exact chk4 (w6_le _) (w7_le _)) | (guard_target = k0_chk5 _ _; exact chk5 (w7_le _) (w8_le _)) | (guard_target = k0_chk6 _ _; exact chk6 (w8_le _) (w9_le _)) | (guard_target = k0_chk7 _ _; exact chk7 (w9_le _) (w10_le _)) ))
    sl_step
    iapply Hk
    isplitl [H12]; · iexact H12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H13

end Cert.KernelIdeal.Hand

end
-- ==== Proof.Groups.lean ====
/-
  The vector side of the pooling loop, once for every group of rows `[s, e)`: what a 64-row read of the scratch gives, the
  running maximum over the group's whole blocks, and the two masked edge blocks. Rows 10000 and up of the scratch are never
  stored; they are masked away, so that a group's result depends on the stored matrix only.
-/
module

public import proofs.«01_k».proof.Proof.Counts
public import Idealize.ShloMosaic.Lib.ValueIdxCore
public import Idealize.ShloMosaic.Lib.VecWindow
public import Idealize.ShloMosaic.Lib.WritesUnit
public import Idealize.ShloMosaic.Lib.Pipeline.Value
public import Idealize.ShloMosaic.Lib.Tactic

@[expose] public section

noncomputable section

namespace PoolWords

open Cert.KernelIdeal Cert.KernelIdeal.Facts₀ Cert.KernelIdeal.Facts Idealize.ShloMosaic
open Idealize.ShloMosaic.Affine hiding addi

variable {F : FTy → Type} [FloatOps F]

/-- 64 rows of 128 columns, from a matrix given row by row: rows `64 b … 64 b + 63`. -/
def rowBlk (X : ℕ → Fin 128 → F .f32) (b : ℕ) : FVec F S64x128 .f32 := fun j => X (64 * b + (j (0 : Fin 2)).val) (j (1 : Fin 2))

/-- A matrix of 10000 rows, continued by zeros. -/
def pad (R : FVec F S10000x128 .f32) : ℕ → Fin 128 → F .f32 :=
  fun i d => if h : i < 10000 then R (ValueIdx.ix2 ⟨i, h⟩ d) else Scalar.ofBits .f32 0x00000000#32

/-- The scratch's 10128 rows, continued by zeros. -/
def scr (X : FVec F S10128x128 .f32) : ℕ → Fin 128 → F .f32 :=
  fun i d => if h : i < 10128 then X (ValueIdx.ix2 ⟨i, h⟩ d) else Scalar.ofBits .f32 0x00000000#32

/-- The block that holds −∞ everywhere. -/
def ninf : FVec F S64x128 .f32 := broadcast S64x128 (Scalar.ofBits .f32 0xFF800000#32)

/-- The running maximum of `n` whole blocks from block `b₀` on. -/
def whole (X : ℕ → Fin 128 → F .f32) (b₀ : ℕ) : ℕ → FVec F S64x128 .f32
  | 0 => ninf
  | n + 1 => maximumf (whole X b₀ n) (rowBlk X (b₀ + n))

/-- Which rows of block `b` lie in `[s, e)`. -/
def rowMask (s e b : BitVec 32) : IVec S64x128 1 :=
  andi (cmpi .sge (addi (broadcast S64x128 (Scalar.muli b 64#32)) (iota .tc S64x128 32 [0] iota_S64x128_d0_w32)) (broadcast S64x128 s))
    (cmpi .slt (addi (broadcast S64x128 (Scalar.muli b 64#32)) (iota .tc S64x128 32 [0] iota_S64x128_d0_w32)) (broadcast S64x128 e))

/-- The maximum over the rows of a running block, as one row. -/
def colMax (A : FVec F S64x128 .f32) : FVec F S1x128 .f32 :=
  shapeCast S1x128 (multiReduction .maximumf [0] S128 A 0xFF800000#32 reduces_S64x128_S128 (.inl rfl) rfl) shapeCasts_S128_S1x128

/-- Folds the two edge blocks `B` and `C` of group `[s, e)` into the running block `A`. -/
def edges (s e : BitVec 32) (A B C : FVec F S64x128 .f32) : FVec F S1x128 .f32 :=
  colMax (maximumf (maximumf A (select (rowMask s e (fdiv s)) B ninf)) (select (rowMask s e (lastBlk e)) C ninf))

/-- The pooled row of group `[s, e)` of a matrix given row by row. -/
def pooled (X : ℕ → Fin 128 → F .f32) (s e : BitVec 32) : FVec F S1x128 .f32 :=
  edges s e (whole X (s.toNat / 64 + 1) ((e.toNat + 63) / 64 - 1 - (s.toNat / 64 + 1)))
    (rowBlk X (s.toNat / 64)) (rowBlk X ((e.toNat + 63) / 64 - 1))

/-- A 64-row load at a row offset reads that block. -/
theorem readAt_blk {sig : RefSig} {sp : Space} (v : View sig .tc sp S10128x128 .f32) (f : v.ty.Contents (Elt F)) {off : Fin 2 → ℕ} {b : ℕ}
    (inb : ∀ a, off a + S64x128.size a ≤ S10128x128.size a) (h : off = ![64 * b, 0]) :
    v.readAt (Elt F) (Rect.unit (s := S10128x128) off S64x128.size inb).toLoadRect f = rowBlk (scr (v.read (Elt F) f)) b := by
  subst h
  funext j
  have h0 : 64 * b + 64 ≤ 10128 := inb 0
  have hj : (j (0 : Fin 2)).val < 64 := (j (0 : Fin 2)).isLt
  show v.read (Elt F) f _ = (if h : 64 * b + (j (0 : Fin 2)).val < 10128 then _ else _)
  rw [dif_pos (by omega)]
  refine congrArg (v.read (Elt F) f) (funext fun a => ?_)
  fin_cases a
  · exact Fin.ext (show 64 * b + 1 * (j (0 : Fin 2)).val = 64 * b + (j (0 : Fin 2)).val by omega)
  · exact Fin.ext (show 0 + 1 * (j (1 : Fin 2)).val = (j (1 : Fin 2)).val by omega)

/-- Two matrices agree on the rows below 10000. -/
def Agree (X Y : ℕ → Fin 128 → F .f32) : Prop := ∀ i, i < 10000 → ∀ d, X i d = Y i d

/-- After the store of a 10000-row matrix the scratch's rows below 10000 are that matrix's. -/
theorem agree_store {sig : RefSig} {sp : Space} (v : View sig .tc sp S10128x128 .f32) (f : v.ty.Contents (Elt F))
    (inb : ∀ a, (![0, 0] : Fin 2 → ℕ) a + S10000x128.size a ≤ S10128x128.size a) (R : FVec F S10000x128 .f32) :
    Agree (scr (v.read (Elt F) (v.writes (Elt F) f [⟨Rect.unit ![0, 0] S10000x128.size inb, R⟩]))) (pad R) := by
  intro i hi d
  unfold scr pad
  rw [dif_pos (by omega), dif_pos hi]
  refine View.read_writes_cons_unit_of_mem v f inb R [] _ (ValueIdx.ix2 ⟨i, hi⟩ d) rfl fun a => ?_
  fin_cases a
  · exact (Nat.zero_add _).symm
  · exact (Nat.zero_add _).symm

/-- Blocks inside the first 10000 rows agree where the matrices do. -/
theorem rowBlk_agree {X Y : ℕ → Fin 128 → F .f32} (h : Agree X Y) {b : ℕ} (hb : 64 * b + 64 ≤ 10000) : rowBlk X b = rowBlk Y b := by
  funext j
  have hj : (j (0 : Fin 2)).val < 64 := (j (0 : Fin 2)).isLt
  exact h _ (by omega) _

/-- So do running maxima of such blocks. -/
theorem whole_agree {X Y : ℕ → Fin 128 → F .f32} (h : Agree X Y) (b₀ n : ℕ) (hb : 64 * (b₀ + n) ≤ 10000) : whole X b₀ n = whole Y b₀ n := by
  induction n with
  | zero => rfl
  | succ n ih => rw [whole, whole, ih (by omega), rowBlk_agree h (by omega)]

/-- The two counted loops of a group, the second without a trip, leave the running maximum of the whole blocks. -/
theorem loops_eq {X : ℕ → Fin 128 → F .f32} {b₀ n' : ℕ} (f g : ℕ → FVec F S64x128 .f32) (n m : ℕ) (hn : n = n') (hm : m = 0)
    (hf0 : f 0 = ninf) (hf : ∀ k, k < n → f (k + 1) = maximumf (f k) (rowBlk X (b₀ + k))) (hg0 : g 0 = f n) :
    g m = whole X b₀ n' := by
  subst hn hm
  rw [hg0]
  have : ∀ k, k ≤ n → f k = whole X b₀ k := by
    intro k hk
    induction k with
    | zero => exact hf0
    | succ k ih => rw [hf k hk, ih (by omega), whole]
  exact this n le_rfl

/-- The row number a masked block compares. -/
theorem row_isInt {b : BitVec 32} {n i : ℕ} (hb : IsInt b n) (hn : n ≤ 10000) (hi : i < 64) :
    IsInt (Scalar.addi (Scalar.muli b 64#32) (BitVec.ofNat 32 i)) ((64 * n + i : ℕ)) :=
  Affine.addi (e := ((64 * n + i : ℕ) : ℤ)) (Affine.muli (e := ((64 * n : ℕ) : ℤ)) hb (lit 64) ⟨by push_cast; omega, by omega, by omega⟩)
    (ofNat i ⟨rfl, by omega⟩) ⟨by push_cast; omega, by omega, by omega⟩

/-- The mask of block `b` holds exactly at the rows of `[s, e)`. -/
theorem rowMask_iff {s e b : BitVec 32} {n : ℕ} (hs : s.toNat ≤ 10000) (he : e.toNat ≤ 10000) (hb : IsInt b n) (hn : n ≤ 10000)
    (j : S64x128.Idx) : rowMask s e b j = 1#1 ↔ s.toNat ≤ 64 * n + (j (0 : Fin 2)).val ∧ 64 * n + (j (0 : Fin 2)).val < e.toNat := by
  have hj : (j (0 : Fin 2)).val < 64 := (j (0 : Fin 2)).isLt
  have hr := row_isInt hb hn hj
  have he' : rowMask s e b j = Scalar.andi (Scalar.cmpi .sge (Scalar.addi (Scalar.muli b 64#32) (BitVec.ofNat 32 (j (0 : Fin 2)).val)) s)
      (Scalar.cmpi .slt (Scalar.addi (Scalar.muli b 64#32) (BitVec.ofNat 32 (j (0 : Fin 2)).val)) e) := by
    rw [← iota_single_apply .tc S64x128 32 0 iota_S64x128_d0_w32 j]; rfl
  rw [he']
  by_cases h1 : s.toNat ≤ 64 * n + (j (0 : Fin 2)).val
  · by_cases h2 : 64 * n + (j (0 : Fin 2)).val < e.toNat
    · exact ⟨fun _ => ⟨h1, h2⟩, fun _ => andi_holds (sge_holds hr (isInt_of_le hs) (by exact_mod_cast h1)) (slt_holds hr (isInt_of_le he) (by exact_mod_cast h2))⟩
    · refine ⟨fun h => absurd h ?_, fun h => absurd h.2 h2⟩
      exact andi_fails_right (cmpi_term _ hr (isInt_of_le hs)) (slt_fails hr (isInt_of_le he) (by exact_mod_cast h2))
  · refine ⟨fun h => absurd h ?_, fun h => absurd h.1 h1⟩
    exact andi_fails_left (sge_fails hr (isInt_of_le hs) (by exact_mod_cast h1)) (cmpi_term _ hr (isInt_of_le he))

/-- A masked block does not depend on the rows from 10000 on. -/
theorem masked_agree {X Y : ℕ → Fin 128 → F .f32} (h : Agree X Y) {s e b : BitVec 32} {n : ℕ} (hs : s.toNat ≤ 10000) (he : e.toNat ≤ 10000)
    (hb : IsInt b n) (hn : n ≤ 10000) : select (rowMask s e b) (rowBlk X n) ninf = select (rowMask s e b) (rowBlk Y n) ninf := by
  funext j
  rw [ValueIdx.select_apply, ValueIdx.select_apply]
  unfold Scalar.select
  split
  · rename_i hm
    exact h _ (by have := ((rowMask_iff hs he hb hn j).mp hm).2; omega) _
  · rfl

/-- The block a group starts in, as a number. -/
theorem first_isInt {s : BitVec 32} (hs : s.toNat ≤ 10000) : IsInt (fdiv s) ((s.toNat / 64 : ℕ)) :=
  isInt_eq (fdiv_isInt (isInt_of_le hs) (by omega) (by omega)) (by omega)

/-- The block a group ends in, as a number. -/
theorem last_isInt {e : BitVec 32} (he : e.toNat ≤ 10000) : Affine.IsInt (lastBlk e) (((e.toNat + 63) / 64 - 1 : ℕ)) :=
  Affine.maxsi (hi_isInt he) (lit 0) (by omega)

/-- The group's pooled row, from what its loops and its two edge loads gave: whatever the scratch held before the store. -/
theorem edges_eq {s e : BitVec 32} (hs : s.toNat ≤ 10000) (he : e.toNat ≤ 10000) {X Y Z W : ℕ → Fin 128 → F .f32} {A B C : FVec F S64x128 .f32}
    (hX : Agree X W) (hY : Agree Y W) (hZ : Agree Z W)
    (hA : A = whole X (s.toNat / 64 + 1) ((e.toNat + 63) / 64 - 1 - (s.toNat / 64 + 1)))
    (hB : B = rowBlk Y (s.toNat / 64)) (hC : C = rowBlk Z ((e.toNat + 63) / 64 - 1)) :
    edges s e A B C = pooled W s e := by
  subst hA hB hC
  unfold pooled edges
  rw [masked_agree hY hs he (first_isInt hs) (by omega), masked_agree hZ hs he (last_isInt he) (by omega)]
  by_cases hle : (e.toNat + 63) / 64 - 1 ≤ s.toNat / 64 + 1
  · rw [Nat.sub_eq_zero_of_le hle]; rfl
  · rw [whole_agree hX _ _ (by omega)]

end PoolWords

end
-- ==== Proof.Out.lean ====
/-
  What the kernel body leaves in its output: the run's own expression is the pooled rows of the eight groups, one below the
  other, through the three dense layers, and does not depend on what the scratch held before.
-/
module

public import proofs.«01_k».proof.Proof.Body
public import proofs.«01_k».proof.Proof.Groups
public import Idealize.ShloMosaic.Lib.VecWindow

@[expose] public section

noncomputable section

namespace Cert.KernelIdeal.Hand

open Cert.KernelIdeal Cert.KernelIdeal.Gen PoolWords
open Idealize.ShloMosaic Idealize.ShloMosaic.TcCoe

variable {F : FTy → Type} [FloatOps F]

/-- One dense layer's affine part on eight rows of 128. -/
def lin1 (p : FVec F S8x128 .f32) (w : Vec F S128x64 .f32) (b : Vec F S64 .f32) : FVec F S8x64 .f32 :=
  addf (matmul dot_S8x128_S128x64_S8x64_1_0_0_1_n_n none p w (constant S8x64 .f32 0x00000000#32))
    (broadcastTo S8x64 (shapeCast S1x64 b shapeCasts_S64_S1x64) broadcasts_S1x64_S8x64)

/-- The second layer's affine part, on eight rows of 64. -/
def lin2 (p : FVec F S8x64 .f32) (w : Vec F S64x32 .f32) (b : Vec F S32 .f32) : FVec F S8x32 .f32 :=
  addf (matmul dot_S8x64_S64x32_S8x32_1_0_0_1_n_n none p w (constant S8x32 .f32 0x00000000#32))
    (broadcastTo S8x32 (shapeCast S1x32 b shapeCasts_S32_S1x32) broadcasts_S1x32_S8x32)

/-- The third layer's, on eight rows of 32. -/
def lin3 (p : FVec F S8x32 .f32) (w : Vec F S32x512 .f32) (b : Vec F S512 .f32) : FVec F S8x512 .f32 :=
  addf (matmul dot_S8x32_S32x512_S8x512_1_0_0_1_n_n none p w (constant S8x512 .f32 0x00000000#32))
    (broadcastTo S8x512 (shapeCast S1x512 b shapeCasts_S512_S1x512) broadcasts_S1x512_S8x512)

/-- The kernel's activation: `v` where it is positive, else `exp (min v 0) − 1`. -/
def act {s : Shape} (v : FVec F s .f32) : FVec F s .f32 :=
  select (cmpf .ogt v (broadcast s (Scalar.ofBits .f32 0x00000000#32))) v
    (subf (exp (minimumf v (broadcast s (Scalar.ofBits .f32 0x00000000#32)))) (broadcast s (Scalar.ofBits .f32 0x3F800000#32)))

/-- Eight rows, one below the other. -/
def stack (g0 g1 g2 g3 g4 g5 g6 g7 : FVec F S1x128 .f32) : FVec F S8x128 .f32 :=
  concatenate S8x128 0 [⟨S1x128, g0⟩, ⟨S1x128, g1⟩, ⟨S1x128, g2⟩, ⟨S1x128, g3⟩, ⟨S1x128, g4⟩, ⟨S1x128, g5⟩, ⟨S1x128, g6⟩, ⟨S1x128, g7⟩]
    concatenates_S1x128_S1x128_S1x128_S1x128_S1x128_S1x128_S1x128_S1x128_S8x128_d0

/-- The 10000 rows the kernel pools: the transposed points against the product of the two matrices, plus the folded bias. -/
def rows (x0 : Vec F S3x10000 .f32) (x2 : Vec F S3x128 .f32) (x3 : Vec F S128 .f32) (x4 : Vec F S128x128 .f32) (x5 : Vec F S128 .f32) :
    FVec F S10000x128 .f32 := k0_pay2 x2 x4 x3 x4 x5 x0

/-- The three dense layers on the eight pooled rows. -/
def head (p : FVec F S8x128 .f32) (x6 : Vec F S128x64 .f32) (x7 : Vec F S64 .f32) (x8 : Vec F S64x32 .f32) (x9 : Vec F S32 .f32)
    (x10 : Vec F S32x512 .f32) (x11 : Vec F S512 .f32) : FVec F S8x512 .f32 :=
  lin3 (act (lin2 (act (lin1 p x6 x7)) x8 x9)) x10 x11

/-- The kernel's result from its twelve operands. -/
def fwd (x0 : Vec F S3x10000 .f32) (x1 : Vec F S10000 .i32) (x2 : Vec F S3x128 .f32) (x3 : Vec F S128 .f32) (x4 : Vec F S128x128 .f32) (x5 : Vec F S128 .f32) (x6 : Vec F S128x64 .f32) (x7 : Vec F S64 .f32) (x8 : Vec F S64x32 .f32) (x9 : Vec F S32 .f32) (x10 : Vec F S32x512 .f32) (x11 : Vec F S512 .f32) : FVec F S8x512 .f32 :=
  head (stack
      (pooled (pad (rows x0 x2 x3 x4 x5)) 0#32 (cnt 1#32 x1)) (pooled (pad (rows x0 x2 x3 x4 x5)) (cnt 1#32 x1) (cnt 2#32 x1))
      (pooled (pad (rows x0 x2 x3 x4 x5)) (cnt 2#32 x1) (cnt 3#32 x1)) (pooled (pad (rows x0 x2 x3 x4 x5)) (cnt 3#32 x1) (cnt 4#32 x1))
      (pooled (pad (rows x0 x2 x3 x4 x5)) (cnt 4#32 x1) (cnt 5#32 x1)) (pooled (pad (rows x0 x2 x3 x4 x5)) (cnt 5#32 x1) (cnt 6#32 x1))
      (pooled (pad (rows x0 x2 x3 x4 x5)) (cnt 6#32 x1) (cnt 7#32 x1)) (pooled (pad (rows x0 x2 x3 x4 x5)) (cnt 7#32 x1) 10000#32))
    x6 x7 x8 x9 x10 x11

variable [∀ e, Nonempty (Elt F e)]

/-- The loop over what is left after the last full trip never runs. -/
theorem tail_trips (s e : BitVec 32) : (tailLoop s e).trips = 0 :=
  Nat.eq_zero_of_not_pos fun h => (Scf.rem_no_trip _ _ ⟨0, h⟩).elim

/-- The last group's edge blocks, the stacking and the first two layers. -/
theorem pay50_eq (w : BitVec 32) (a b c d e f g : FVec F S1x128 .f32) (A B C : FVec F S64x128 .f32) (x6 : Vec F S128x64 .f32)
    (x7 : Vec F S64 .f32) (x8 : Vec F S64x32 .f32) (x9 : Vec F S32 .f32) :
    k0_pay50 w a b c d e f g A 156#32 (rowMask w 10000#32 (fdiv w)) B (Scalar.ofBits .f32 0xFF800000#32) C x6 x7 x8 x9
      = lin2 (act (lin1 (stack a b c d e f g (edges w 10000#32 A B C)) x6 x7)) x8 x9 := by
  have h : lastBlk 10000#32 = 156#32 := by decide
  unfold edges
  rw [h]
  rfl

/-- The activation and the third layer. -/
theorem pay1_eq (p : FVec F S8x32 .f32) (x10 : Vec F S32x512 .f32) (x11 : Vec F S512 .f32) :
    k0_pay1 p (cmpf .ogt p (broadcast S8x32 (Scalar.ofBits .f32 0x00000000#32))) (Scalar.ofBits .f32 0x00000000#32) x10 x11
      = lin3 (act p) x10 x11 := rfl

section Run

variable (c : Dev nD) (arg0 : Memref sig .tc .vmem S3x10000 .f32) (harg0 : arg0.IsWhole) (arg1 : Memref sig .tc .vmem S10000 .i32) (harg1 : arg1.IsWhole) (arg2 : Memref sig .tc .vmem S3x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S64x32 .f32) (harg8 : arg8.IsWhole) (arg9 : Memref sig .tc .vmem S32 .f32) (harg9 : arg9.IsWhole) (arg10 : Memref sig .tc .vmem S32x512 .f32) (harg10 : arg10.IsWhole) (arg11 : Memref sig .tc .vmem S512 .f32) (harg11 : arg11.IsWhole) (arg12 : Memref sig .tc .vmem S8x512 .f32) (harg12 : arg12.IsWhole) (arg13 : Memref sig .tc .vmem S10128x128 .f32) (harg13 : arg13.IsWhole)
    (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ)))

    (x0 : Vec F S3x10000 .f32) (x1 : Vec F S10000 .i32) (x2 : Vec F S3x128 .f32) (x3 : Vec F S128 .f32) (x4 : Vec F S128x128 .f32) (x5 : Vec F S128 .f32)
    (h0 : arg0.view.readAt (Elt F) (Rect.unit ![0, 0] S3x10000.size inb_S3x10000_S3x10000_0_0).toLoadRect f0 = x0)
    (h1 : arg1.view.readAt (Elt F) (Rect.unit ![0] S10000.size inb_S10000_S10000_0).toLoadRect f1 = x1)
    (h2 : arg2.view.readAt (Elt F) (Rect.unit ![0, 0] S3x128.size inb_S3x128_S3x128_0_0).toLoadRect f2 = x2)
    (h3 : arg3.view.readAt (Elt F) (Rect.unit ![0] S128.size inb_S128_S128_0).toLoadRect f3 = x3)
    (h4 : arg4.view.readAt (Elt F) (Rect.unit ![0, 0] S128x128.size inb_S128x128_S128x128_0_0).toLoadRect f4 = x4)
    (h5 : arg5.view.readAt (Elt F) (Rect.unit ![0] S128.size inb_S128_S128_0).toLoadRect f5 = x5)

include h0 h1 h2 h3 h4 h5

/-- The first group's row. -/
theorem row0 : kernelRun.sl.r_3 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13
    = pooled (pad (rows x0 x2 x3 x4 x5)) 0#32 (cnt 1#32 x1) := by
  subst h0 h1 h2 h3 h4 h5
  unfold kernelRun.sl.r_3
  refine edges_eq none_le (w3_le _) (agree_store arg13.view f13 inb_S10128x128_S10000x128_0_0 _) (agree_store arg13.view _ inb_S10128x128_S10000x128_0_0 _)
    (agree_store arg13.view f13 inb_S10128x128_S10000x128_0_0 _) ?_ (readAt_blk _ _ _ (offs_first none_le)) (readAt_blk _ _ _ (offs_last (w3_le _)))
  unfold kernelRun.sl.r_2
  refine loops_eq _ _ _ _ (blkLoop_trips none_le (w3_le _)) (tail_trips _ _) ?z ?_ (st_k0_t2_zero ..)
  case z => rfl
  intro k hk
  refine (st_k0_t1_succ (k := ⟨k, hk⟩) ..).trans ?_
  unfold tripR_k0_t1 trip_k0_t1
  exact congrArg (maximumf _) (readAt_blk _ _ _ (offs_trip none_le (w3_le _) ⟨k, hk⟩))

/-- The second group's row. -/
theorem row1 : kernelRun.sl.r_6 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13
    = pooled (pad (rows x0 x2 x3 x4 x5)) (cnt 1#32 x1) (cnt 2#32 x1) := by
  subst h0 h1 h2 h3 h4 h5
  unfold kernelRun.sl.r_6
  refine edges_eq (w3_le _) (w4_le _) (agree_store arg13.view f13 inb_S10128x128_S10000x128_0_0 _) (agree_store arg13.view f13 inb_S10128x128_S10000x128_0_0 _)
    (agree_store arg13.view f13 inb_S10128x128_S10000x128_0_0 _) ?_ (readAt_blk _ _ _ (offs_first (w3_le _))) (readAt_blk _ _ _ (offs_last (w4_le _)))
  unfold kernelRun.sl.r_4
  refine loops_eq _ _ _ _ (blkLoop_trips (w3_le _) (w4_le _)) (tail_trips _ _) ?z ?_ (st_k0_t4_zero ..)
  case z => rfl
  intro k hk
  refine (st_k0_t3_succ (k := ⟨k, hk⟩) ..).trans ?_
  unfold tripR_k0_t3 trip_k0_t3
  exact congrArg (maximumf _) (readAt_blk _ _ _ (offs_trip (w3_le _) (w4_le _) ⟨k, hk⟩))

/-- The third group's row. -/
theorem row2 : kernelRun.sl.r_9 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13
    = pooled (pad (rows x0 x2 x3 x4 x5)) (cnt 2#32 x1) (cnt 3#32 x1) := by
  subst h0 h1 h2 h3 h4 h5
  unfold kernelRun.sl.r_9
  refine edges_eq (w4_le _) (w6_le _) (agree_store arg13.view f13 inb_S10128x128_S10000x128_0_0 _) (agree_store arg13.view f13 inb_S10128x128_S10000x128_0_0 _)
    (agree_store arg13.view f13 inb_S10128x128_S10000x128_0_0 _) ?_ (readAt_blk _ _ _ (offs_first (w4_le _))) (readAt_blk _ _ _ (offs_last (w6_le _)))
  refine loops_eq _ _ _ _ (blkLoop_trips (w4_le _) (w6_le _)) (tail_trips _ _) ?z ?_ (st_k0_t6_zero ..)
  case z => rfl
  intro k hk
  refine (st_k0_t5_succ (k := ⟨k, hk⟩) ..).trans ?_
  unfold tripR_k0_t5 trip_k0_t5
  exact congrArg (maximumf _) (readAt_blk _ _ _ (offs_trip (w4_le _) (w6_le _) ⟨k, hk⟩))

/-- The fourth group's row. -/
theorem row3 : kernelRun.sl.r_12 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13
    = pooled (pad (rows x0 x2 x3 x4 x5)) (cnt 3#32 x1) (cnt 4#32 x1) := by
  subst h0 h1 h2 h3 h4 h5
  unfold kernelRun.sl.r_12
  refine edges_eq (w6_le _) (w7_le _) (agree_store arg13.view f13 inb_S10128x128_S10000x128_0_0 _) (agree_store arg13.view f13 inb_S10128x128_S10000x128_0_0 _)
    (agree_store arg13.view f13 inb_S10128x128_S10000x128_0_0 _) ?_ (readAt_blk _ _ _ (offs_first (w6_le _))) (readAt_blk _ _ _ (offs_last (w7_le _)))
  refine loops_eq _ _ _ _ (blkLoop_trips (w6_le _) (w7_le _)) (tail_trips _ _) ?z ?_ (st_k0_t8_zero ..)
  case z => rfl
  intro k hk
  refine (st_k0_t7_succ (k := ⟨k, hk⟩) ..).trans ?_
  unfold tripR_k0_t7 trip_k0_t7
  exact congrArg (maximumf _) (readAt_blk _ _ _ (offs_trip (w6_le _) (w7_le _) ⟨k, hk⟩))

/-- The fifth group's row. -/
theorem row4 : kernelRun.sl.r_13 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13
    = pooled (pad (rows x0 x2 x3 x4 x5)) (cnt 4#32 x1) (cnt 5#32 x1) := by
  subst h0 h1 h2 h3 h4 h5
  unfold kernelRun.sl.r_13
  refine edges_eq (w7_le _) (w8_le _) (agree_store arg13.view f13 inb_S10128x128_S10000x128_0_0 _) (agree_store arg13.view f13 inb_S10128x128_S10000x128_0_0 _)
    (agree_store arg13.view f13 inb_S10128x128_S10000x128_0_0 _) ?_ (readAt_blk _ _ _ (offs_first (w7_le _))) (readAt_blk _ _ _ (offs_last (w8_le _)))
  refine loops_eq _ _ _ _ (blkLoop_trips (w7_le _) (w8_le _)) (tail_trips _ _) ?z ?_ (st_k0_t10_zero ..)
  case z => rfl
  intro k hk
  refine (st_k0_t9_succ (k := ⟨k, hk⟩) ..).trans ?_
  unfold tripR_k0_t9 trip_k0_t9
  exact congrArg (maximumf _) (readAt_blk _ _ _ (offs_trip (w7_le _) (w8_le _) ⟨k, hk⟩))

/-- The sixth group's row. -/
theorem row5 : kernelRun.sl.r_15 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13
    = pooled (pad (rows x0 x2 x3 x4 x5)) (cnt 5#32 x1) (cnt 6#32 x1) := by
  subst h0 h1 h2 h3 h4 h5
  unfold kernelRun.sl.r_15
  refine edges_eq (w8_le _) (w9_le _) (agree_store arg13.view f13 inb_S10128x128_S10000x128_0_0 _) (agree_store arg13.view f13 inb_S10128x128_S10000x128_0_0 _)
    (agree_store arg13.view f13 inb_S10128x128_S10000x128_0_0 _) ?_ (readAt_blk _ _ _ (offs_first (w8_le _))) (readAt_blk _ _ _ (offs_last (w9_le _)))
  refine loops_eq _ _ _ _ (blkLoop_trips (w8_le _) (w9_le _)) (tail_trips _ _) ?z ?_ (st_k0_t12_zero ..)
  case z => rfl
  intro k hk
  refine (st_k0_t11_succ (k := ⟨k, hk⟩) ..).trans ?_
  unfold tripR_k0_t11 trip_k0_t11
  exact congrArg (maximumf _) (readAt_blk _ _ _ (offs_trip (w8_le _) (w9_le _) ⟨k, hk⟩))

/-- The seventh group's row. -/
theorem row6 : kernelRun.sl.r_18 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13
    = pooled (pad (rows x0 x2 x3 x4 x5)) (cnt 6#32 x1) (cnt 7#32 x1) := by
  subst h0 h1 h2 h3 h4 h5
  unfold kernelRun.sl.r_18
  refine edges_eq (w9_le _) (w10_le _) (agree_store arg13.view f13 inb_S10128x128_S10000x128_0_0 _) (agree_store arg13.view f13 inb_S10128x128_S10000x128_0_0 _)
    (agree_store arg13.view f13 inb_S10128x128_S10000x128_0_0 _) ?_ (readAt_blk _ _ _ (offs_first (w9_le _))) (readAt_blk _ _ _ (offs_last (w10_le _)))
  unfold kernelRun.sl.r_16
  refine loops_eq _ _ _ _ (blkLoop_trips (w9_le _) (w10_le _)) (tail_trips _ _) ?z ?_ (st_k0_t14_zero ..)
  case z => rfl
  intro k hk
  refine (st_k0_t13_succ (k := ⟨k, hk⟩) ..).trans ?_
  unfold tripR_k0_t13 trip_k0_t13
  exact congrArg (maximumf _) (readAt_blk _ _ _ (offs_trip (w9_le _) (w10_le _) ⟨k, hk⟩))

/-- The eighth group's row. -/
theorem row7 : edges (cnt 7#32 x1) 10000#32 (kernelRun.sl.r_19 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
      (kernelRun.sl.v672 c arg0 arg1 arg2 arg3 arg4 arg5 arg13 f0 f1 f2 f3 f4 f5 f13) (kernelRun.sl.v686 c arg0 arg2 arg3 arg4 arg5 arg13 f0 f2 f3 f4 f5 f13)
    = pooled (pad (rows x0 x2 x3 x4 x5)) (cnt 7#32 x1) 10000#32 := by
  subst h0 h1 h2 h3 h4 h5
  refine edges_eq (w10_le _) all_le (agree_store arg13.view f13 inb_S10128x128_S10000x128_0_0 _) (agree_store arg13.view f13 inb_S10128x128_S10000x128_0_0 _)
    (agree_store arg13.view _ inb_S10128x128_S10000x128_0_0 _) ?_ (readAt_blk _ _ _ (offs_first (w10_le _))) (readAt_blk _ _ _ (offs_last all_le))
  unfold kernelRun.sl.r_19
  refine loops_eq _ _ _ _ (blkLoop_trips (w10_le _) all_le) (tail_trips _ _) ?z ?_ (st_k0_t16_zero ..)
  case z => rfl
  intro k hk
  refine (st_k0_t15_succ (k := ⟨k, hk⟩) ..).trans ?_
  unfold tripR_k0_t15 trip_k0_t15
  exact congrArg (maximumf _) (readAt_blk _ _ _ (offs_trip (w10_le _) all_le ⟨k, hk⟩))

omit h0 h1 h2 h3 h4 h5

set_option maxHeartbeats 2000000 in
/-- Reading the output window after the body gives `fwd` of what the input windows hold. -/
theorem kernelRun_out (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) (f11 : Buf (Elt F) (arg11.view.loc (c : Thread nD τ)))
    (f12 : Buf (Elt F) (arg12.view.loc (c : Thread nD τ))) :
    arg12.view.read (Elt F) (kernelRun (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f6 f7 f8 f9 f10 f11 f12 f13).1
      = fwd (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) := by
  have h0 := View.readAt_full arg0.view f0 inb_S3x10000_S3x10000_0_0
  have h1 := View.readAt_full arg1.view f1 inb_S10000_S10000_0
  have h2 := View.readAt_full arg2.view f2 inb_S3x128_S3x128_0_0
  have h3 := View.readAt_full arg3.view f3 inb_S128_S128_0
  have h4 := View.readAt_full arg4.view f4 inb_S128x128_S128x128_0_0
  have h5 := View.readAt_full arg5.view f5 inb_S128_S128_0
  have h6 := View.readAt_full arg6.view f6 inb_S128x64_S128x64_0_0
  have h7 := View.readAt_full arg7.view f7 inb_S64_S64_0
  have h8 := View.readAt_full arg8.view f8 inb_S64x32_S64x32_0_0
  have h9 := View.readAt_full arg9.view f9 inb_S32_S32_0
  have h10 := View.readAt_full arg10.view f10 inb_S32x512_S32x512_0_0
  have h11 := View.readAt_full arg11.view f11 inb_S512_S512_0
  refine (read_store_full arg12.view f12 _ _).trans ?_
  refine Eq.trans (b := head (stack (kernelRun.sl.r_3 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
    (kernelRun.sl.r_6 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
    (kernelRun.sl.r_9 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
    (kernelRun.sl.r_12 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
    (kernelRun.sl.r_13 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
    (kernelRun.sl.r_15 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
    (kernelRun.sl.r_18 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
    (edges (cnt 7#32 (arg1.view.readAt (Elt F) (Rect.unit ![0] S10000.size inb_S10000_S10000_0).toLoadRect f1)) 10000#32 (kernelRun.sl.r_19 (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13)
      (kernelRun.sl.v672 c arg0 arg1 arg2 arg3 arg4 arg5 arg13 f0 f1 f2 f3 f4 f5 f13) (kernelRun.sl.v686 c arg0 arg2 arg3 arg4 arg5 arg13 f0 f2 f3 f4 f5 f13)))
    (arg6.view.readAt (Elt F) (Rect.unit ![0, 0] S128x64.size inb_S128x64_S128x64_0_0).toLoadRect f6)
    (arg7.view.readAt (Elt F) (Rect.unit ![0] S64.size inb_S64_S64_0).toLoadRect f7)
    (arg8.view.readAt (Elt F) (Rect.unit ![0, 0] S64x32.size inb_S64x32_S64x32_0_0).toLoadRect f8)
    (arg9.view.readAt (Elt F) (Rect.unit ![0] S32.size inb_S32_S32_0).toLoadRect f9)
    (arg10.view.readAt (Elt F) (Rect.unit ![0, 0] S32x512.size inb_S32x512_S32x512_0_0).toLoadRect f10)
    (arg11.view.readAt (Elt F) (Rect.unit ![0] S512.size inb_S512_S512_0).toLoadRect f11))
    ?_ ?_
  · unfold kernelRun.sl.r_21 kernelRun.sl.r_22 k0_pay51
    exact (congrArg (fun P => k0_pay1 P (cmpf .ogt P (broadcast S8x32 (Scalar.ofBits .f32 0x00000000#32))) _ _ _) (pay50_eq _ _ _ _ _ _ _ _ _ _ _ _ _ _ _)).trans (pay1_eq _ _ _)
  rw [h1, row0 c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 _ _ _ _ _ _ h0 h1 h2 h3 h4 h5,
    row1 c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 _ _ _ _ _ _ h0 h1 h2 h3 h4 h5,
    row2 c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 _ _ _ _ _ _ h0 h1 h2 h3 h4 h5,
    row3 c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 _ _ _ _ _ _ h0 h1 h2 h3 h4 h5,
    row4 c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 _ _ _ _ _ _ h0 h1 h2 h3 h4 h5,
    row5 c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 _ _ _ _ _ _ h0 h1 h2 h3 h4 h5,
    row6 c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 _ _ _ _ _ _ h0 h1 h2 h3 h4 h5,
    row7 c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 _ _ _ _ _ _ h0 h1 h2 h3 h4 h5,
    h6, h7, h8, h9, h10, h11]
  unfold fwd
  rfl

end Run

end Cert.KernelIdeal.Hand

end
-- ==== Proof.Launched.lean ====
/-
  The launch of the one kernel call: the body's triple at the pipeline's single point, the run of the whole program from it,
  and from the run that the arguments end unchanged and every semaphore counter at zero.
-/
module

public import proofs.«01_k».proof.Proof.Out
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- The body's triple over owned memrefs: the inputs come back as they were, the output window holds `fwd` of them, and the
    scratch something. -/
theorem body_triple (c : Dev nD) (arg0 : Memref sig .tc .vmem S3x10000 .f32) (harg0 : arg0.IsWhole) (arg1 : Memref sig .tc .vmem S10000 .i32) (harg1 : arg1.IsWhole) (arg2 : Memref sig .tc .vmem S3x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S64x32 .f32) (harg8 : arg8.IsWhole) (arg9 : Memref sig .tc .vmem S32 .f32) (harg9 : arg9.IsWhole) (arg10 : Memref sig .tc .vmem S32x512 .f32) (harg10 : arg10.IsWhole) (arg11 : Memref sig .tc .vmem S512 .f32) (harg11 : arg11.IsWhole) (arg12 : Memref sig .tc .vmem S8x512 .f32) (harg12 : arg12.IsWhole) (arg13 : Memref sig .tc .vmem S10128x128 .f32) (harg13 : arg13.IsWhole)
    (x0 : Vec F S3x10000 .f32) (x1 : Vec F S10000 .i32) (x2 : Vec F S3x128 .f32) (x3 : Vec F S128 .f32) (x4 : Vec F S128x128 .f32) (x5 : Vec F S128 .f32) (x6 : Vec F S128x64 .f32) (x7 : Vec F S64 .f32) (x8 : Vec F S64x32 .f32) (x9 : Vec F S32 .f32) (x10 : Vec F S32x512 .f32) (x11 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ f, arg13.view.loc (c : Thread nD τ) ↦[arg13.view.set]{fullShare} f)
        ∗ (iprop(owns (c : Thread nD τ) arg12 fullShare (fwd x0 x1 x2 x3 x4 x5 x6 x7 x8 x9 x10 x11) ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg13.view.loc (c : Thread nD τ) ↦[arg13.view.set]{fullShare} f)) -∗ K ⟨⟩))
      ⊢ wp frame (wpE (defs₀ (F := F)) Variants.none c none) Set.univ (cc0__fwd_kernel arg0 harg0 arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%d12, %f12, -, H12⟩, ⟨%f13, H13⟩, Hk⟩
  subst h0 h1 h2 h3 h4 h5 h6 h7 h8 h9 h10 h11
  iapply ((kernelRun (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f6 f7 f8 f9 f10 f11 f12 f13).2 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H12, H0, H1, H2, H3, H4, H5, H6, H7, H8, H9, H10, H11, H13⟩
  iapply Hk
  isplitl [H12]
  · iexists _; isplitr
    swap; · iexact H12
    ipureintro
    exact kernelRun_out c arg0 harg0 arg1 harg1 arg2 harg2 arg3 harg3 arg4 harg4 arg5 harg5 arg6 harg6 arg7 harg7 arg8 harg8 arg9 harg9 arg10 harg10 arg11 harg11 arg12 harg12 arg13 harg13 f0 f1 f2 f3 f4 f5 f13 f6 f7 f8 f9 f10 f11 f12
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexact H13

variable (m : (ℓ : Loc nD τ sig) → Buf (Elt F) ℓ) (ρ : Dev nD → PrngReg)

/-- The call's proof data: every input window keeps its block, the output window ends at `fwd` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => fwd (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- Each window's array starts as the run found it. -/
theorem arr_eq (c : Dev nD) (w : Fin cfg0.W) : (dats m 0 c).A w = V m c (Pipeline.arrRef spec0 w) := by dsimp only [dats]

/-- The body leaves operand window 0 as it was. -/
theorem after_0 (c : Dev nD) (t : Fin cfg0.N) : (dats m 0 c).after 0 t = iblk m c 0 t := by dsimp only [dats]
/-- The body leaves operand window 1 as it was. -/
theorem after_1 (c : Dev nD) (t : Fin cfg0.N) : (dats m 0 c).after 1 t = iblk m c 1 t := by dsimp only [dats]
/-- The body leaves operand window 2 as it was. -/
theorem after_2 (c : Dev nD) (t : Fin cfg0.N) : (dats m 0 c).after 2 t = iblk m c 2 t := by dsimp only [dats]
/-- The body leaves operand window 3 as it was. -/
theorem after_3 (c : Dev nD) (t : Fin cfg0.N) : (dats m 0 c).after 3 t = iblk m c 3 t := by dsimp only [dats]
/-- The body leaves operand window 4 as it was. -/
theorem after_4 (c : Dev nD) (t : Fin cfg0.N) : (dats m 0 c).after 4 t = iblk m c 4 t := by dsimp only [dats]
/-- The body leaves operand window 5 as it was. -/
theorem after_5 (c : Dev nD) (t : Fin cfg0.N) : (dats m 0 c).after 5 t = iblk m c 5 t := by dsimp only [dats]
/-- The body leaves operand window 6 as it was. -/
theorem after_6 (c : Dev nD) (t : Fin cfg0.N) : (dats m 0 c).after 6 t = iblk m c 6 t := by dsimp only [dats]
/-- The body leaves operand window 7 as it was. -/
theorem after_7 (c : Dev nD) (t : Fin cfg0.N) : (dats m 0 c).after 7 t = iblk m c 7 t := by dsimp only [dats]
/-- The body leaves operand window 8 as it was. -/
theorem after_8 (c : Dev nD) (t : Fin cfg0.N) : (dats m 0 c).after 8 t = iblk m c 8 t := by dsimp only [dats]
/-- The body leaves operand window 9 as it was. -/
theorem after_9 (c : Dev nD) (t : Fin cfg0.N) : (dats m 0 c).after 9 t = iblk m c 9 t := by dsimp only [dats]
/-- The body leaves operand window 10 as it was. -/
theorem after_10 (c : Dev nD) (t : Fin cfg0.N) : (dats m 0 c).after 10 t = iblk m c 10 t := by dsimp only [dats]
/-- The body leaves operand window 11 as it was. -/
theorem after_11 (c : Dev nD) (t : Fin cfg0.N) : (dats m 0 c).after 11 t = iblk m c 11 t := by dsimp only [dats]
/-- The output window holds the kernel's function of its twelve operands' blocks. -/
theorem after_12 (c : Dev nD) (t : Fin cfg0.N) : (dats m 0 c).after 12 t = fwd (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- The body finds operand window 0 holding its block. -/
theorem before_0 (c : Dev nD) (t : Fin cfg0.N) (d) : (dats m 0 c).before 0 t d = iblk m c 0 t :=
  before0_0_of m (dats m 0 c) (arr_eq m c 0) (after_0 m c) t d
/-- The body finds operand window 1 holding its block. -/
theorem before_1 (c : Dev nD) (t : Fin cfg0.N) (d) : (dats m 0 c).before 1 t d = iblk m c 1 t :=
  before0_1_of m (dats m 0 c) (arr_eq m c 1) (after_1 m c) t d
/-- The body finds operand window 2 holding its block. -/
theorem before_2 (c : Dev nD) (t : Fin cfg0.N) (d) : (dats m 0 c).before 2 t d = iblk m c 2 t :=
  before0_2_of m (dats m 0 c) (arr_eq m c 2) (after_2 m c) t d
/-- The body finds operand window 3 holding its block. -/
theorem before_3 (c : Dev nD) (t : Fin cfg0.N) (d) : (dats m 0 c).before 3 t d = iblk m c 3 t :=
  before0_3_of m (dats m 0 c) (arr_eq m c 3) (after_3 m c) t d
/-- The body finds operand window 4 holding its block. -/
theorem before_4 (c : Dev nD) (t : Fin cfg0.N) (d) : (dats m 0 c).before 4 t d = iblk m c 4 t :=
  before0_4_of m (dats m 0 c) (arr_eq m c 4) (after_4 m c) t d
/-- The body finds operand window 5 holding its block. -/
theorem before_5 (c : Dev nD) (t : Fin cfg0.N) (d) : (dats m 0 c).before 5 t d = iblk m c 5 t :=
  before0_5_of m (dats m 0 c) (arr_eq m c 5) (after_5 m c) t d
/-- The body finds operand window 6 holding its block. -/
theorem before_6 (c : Dev nD) (t : Fin cfg0.N) (d) : (dats m 0 c).before 6 t d = iblk m c 6 t :=
  before0_6_of m (dats m 0 c) (arr_eq m c 6) (after_6 m c) t d
/-- The body finds operand window 7 holding its block. -/
theorem before_7 (c : Dev nD) (t : Fin cfg0.N) (d) : (dats m 0 c).before 7 t d = iblk m c 7 t :=
  before0_7_of m (dats m 0 c) (arr_eq m c 7) (after_7 m c) t d
/-- The body finds operand window 8 holding its block. -/
theorem before_8 (c : Dev nD) (t : Fin cfg0.N) (d) : (dats m 0 c).before 8 t d = iblk m c 8 t :=
  before0_8_of m (dats m 0 c) (arr_eq m c 8) (after_8 m c) t d
/-- The body finds operand window 9 holding its block. -/
theorem before_9 (c : Dev nD) (t : Fin cfg0.N) (d) : (dats m 0 c).before 9 t d = iblk m c 9 t :=
  before0_9_of m (dats m 0 c) (arr_eq m c 9) (after_9 m c) t d
/-- The body finds operand window 10 holding its block. -/
theorem before_10 (c : Dev nD) (t : Fin cfg0.N) (d) : (dats m 0 c).before 10 t d = iblk m c 10 t :=
  before0_10_of m (dats m 0 c) (arr_eq m c 10) (after_10 m c) t d
/-- The body finds operand window 11 holding its block. -/
theorem before_11 (c : Dev nD) (t : Fin cfg0.N) (d) : (dats m 0 c).before 11 t d = iblk m c 11 t :=
  before0_11_of m (dats m 0 c) (arr_eq m c 11) (after_11 m c) t d

/-- The scratch buffer whole is the scratch memref's cells. -/
theorem scratch_eq (c : Dev nD) (f : Buf (Elt F) ((c : Thread nD τ).loc cc0_scratch0)) :
    (((c : Thread nD τ).loc cc0_scratch0 ↦{fullShare} f : sProp 𝕄))
      = ((Memref.whole cc0_scratch0).view.loc (c : Thread nD τ) ↦[(Memref.whole cc0_scratch0).view.set]{fullShare} f) := by
  have h : (Memref.whole cc0_scratch0).view.set = Finset.univ := by rw [Memref.view_whole, View.set_whole]
  rw [h]

/-- What the body is given at point `t`. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at the call's point: the scratch comes out of the invariant for the run and goes back after it. -/
theorem body_at (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9, before_10, before_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12]
  unfold Pipeline.ΦA
  rw [scopedRest0_eq]
  simp only [scratch_eq]
  iintro ⟨⟨⟨%f, HS⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_triple c _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS]; · iexists _; iexact HS
  iintro ⟨H12, H0, H1, H2, H3, H4, H5, H6, H7, H8, H9, H10, H11, ⟨%g, HS⟩⟩
  isplitl [HS Hp]
  · isplitl [HS]
    · iexists g
      iexact HS
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The label of the body names the body at that grid point. -/
theorem row_at (t : Fin cfg0.N) : defs₀ (F := F) .tc cfg0.body (cfg0.bodyArgs t (cfg0.slots t)) = bodyAt0 t := by
  unfold defs₀; rw [Defs.onTc_tc]

/-- The body does at each grid point what the launch asks of it. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- Every run of the program ends with the call's arrays as the proof data says and the semaphore counters at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_eq m) (hΦ := fun _ _ => rfl)

/-- The arguments end as they began. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
   frame_of m ρ (dats m) (arr_eq m) ((θ_run defs _ _).mono (fun _ h => h.1) (run_quiet m ρ))

/-- The arguments end as they began and the semaphore counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
   θ_run_and (args_kept m ρ) ((θ_run defs _ _).mono (fun _ h => h.2) (run_quiet m ρ))

end Cert.KernelIdeal.Hand

end
-- ==== Proof.SameText.lean ====
/-
  The bit-level program and the ideal one are the same text over one float type each: read over `Bits`, the second is the first.
  So what is proved of the text for every float type holds of both.
-/
module

public import proofs.«01_k».proof.Proof.Launched
public import proofs.«01_k».proof.Proof.Gen.Kernel.Frame
public import proofs.«01_k».proof.Defs

@[expose] public section

noncomputable section

namespace Cert.Kernel.Hand

open Idealize.ShloMosaic Idealize.ShloMosaic.TcCoe Idealize.SL.Sem

set_option maxHeartbeats 4000000 in
set_option maxRecDepth 100000 in
/-- The kernels' table. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  have : l = 0 := by omega
  subst this
  rfl

/-- The table with the pipeline's entries. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

/-- The main program. -/
theorem main_eq : Cert.Kernel.main (F := Bits) = Cert.KernelIdeal.main (F := Bits) := rfl

/-- Any statement about the runs of one holds of the other. -/
theorem run_of (m : (ℓ : Loc Cert.KernelIdeal.nD Cert.KernelIdeal.τ Cert.KernelIdeal.sig) → Buf (Elt Bits) ℓ)
    (g : Dev Cert.KernelIdeal.nD → PrngReg) (Q)
    (h : θ_run (Cert.KernelIdeal.defs (F := Bits)) (onTc (τ := Cert.KernelIdeal.τ) (Cert.KernelIdeal.main (F := Bits))) ⟨m, fun _ => 0, g⟩ Q) :
    θ_run (Cert.Kernel.defs (F := Bits)) (onTc (τ := Cert.Kernel.τ) (Cert.Kernel.main (F := Bits))) ⟨m, fun _ => 0, g⟩ Q := by
  rw [defs_eq, main_eq]
  exact h

end Cert.Kernel.Hand

end
-- ==== Proof.Ends.lean ====
/-
  Where the run leaves the result: the one output array holds `fwd` of the transposed points and the other eleven operands.
-/
module

public import proofs.«01_k».proof.Proof.Launched
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F] [∀ e, Nonempty (Elt F e)]
variable (m : (ℓ : Loc nD τ sig) → Buf (Elt F) ℓ) (ρ : Dev nD → PrngReg)

/-- A block at index zero starts at the array's origin. -/
theorem from_origin {i n y : Nat} (h : i = 0) : i * n + y = y := by
  rw [h, Nat.zero_mul, Nat.zero_add]

/-- The block of window 0 is the transposed table of points. -/
theorem blk0 (c : Dev nD) : iblk m c 0 t0_0
    = transpose S3x10000 [1, 0] (m ((c : Thread nD τ).loc main_arg0)) transposes_S10000x3_S3x10000_1_0 := by
  funext y
  blk_ext [iblk, V]
  all_goals exact from_origin rfl

/-- The block of window 1 is operand 1, whole. -/
theorem blk1 (c : Dev nD) : iblk m c 1 t0_0 = m ((c : Thread nD τ).loc main_arg1) := by
  funext y
  refine Eq.trans ?_ (congrFun (V_main_arg1 m c) y)
  blk_ext [iblk]
  all_goals exact from_origin rfl

/-- The block of window 2 is operand 2, whole. -/
theorem blk2 (c : Dev nD) : iblk m c 2 t0_0 = m ((c : Thread nD τ).loc main_arg2) := by
  funext y
  refine Eq.trans ?_ (congrFun (V_main_arg2 m c) y)
  blk_ext [iblk]
  all_goals exact from_origin rfl

/-- The block of window 3 is operand 3, whole. -/
theorem blk3 (c : Dev nD) : iblk m c 3 t0_0 = m ((c : Thread nD τ).loc main_arg3) := by
  funext y
  refine Eq.trans ?_ (congrFun (V_main_arg3 m c) y)
  blk_ext [iblk]
  all_goals exact from_origin rfl

/-- The block of window 4 is operand 15, whole. -/
theorem blk4 (c : Dev nD) : iblk m c 4 t0_0 = m ((c : Thread nD τ).loc main_arg15) := by
  funext y
  refine Eq.trans ?_ (congrFun (V_main_arg15 m c) y)
  blk_ext [iblk]
  all_goals exact from_origin rfl

/-- The block of window 5 is operand 16, whole. -/
theorem blk5 (c : Dev nD) : iblk m c 5 t0_0 = m ((c : Thread nD τ).loc main_arg16) := by
  funext y
  refine Eq.trans ?_ (congrFun (V_main_arg16 m c) y)
  blk_ext [iblk]
  all_goals exact from_origin rfl

/-- The block of window 6 is operand 17, whole. -/
theorem blk6 (c : Dev nD) : iblk m c 6 t0_0 = m ((c : Thread nD τ).loc main_arg17) := by
  funext y
  refine Eq.trans ?_ (congrFun (V_main_arg17 m c) y)
  blk_ext [iblk]
  all_goals exact from_origin rfl

/-- The block of window 7 is operand 18, whole. -/
theorem blk7 (c : Dev nD) : iblk m c 7 t0_0 = m ((c : Thread nD τ).loc main_arg18) := by
  funext y
  refine Eq.trans ?_ (congrFun (V_main_arg18 m c) y)
  blk_ext [iblk]
  all_goals exact from_origin rfl

/-- The block of window 8 is operand 19, whole. -/
theorem blk8 (c : Dev nD) : iblk m c 8 t0_0 = m ((c : Thread nD τ).loc main_arg19) := by
  funext y
  refine Eq.trans ?_ (congrFun (V_main_arg19 m c) y)
  blk_ext [iblk]
  all_goals exact from_origin rfl

/-- The block of window 9 is operand 20, whole. -/
theorem blk9 (c : Dev nD) : iblk m c 9 t0_0 = m ((c : Thread nD τ).loc main_arg20) := by
  funext y
  refine Eq.trans ?_ (congrFun (V_main_arg20 m c) y)
  blk_ext [iblk]
  all_goals exact from_origin rfl

/-- The block of window 10 is operand 21, whole. -/
theorem blk10 (c : Dev nD) : iblk m c 10 t0_0 = m ((c : Thread nD τ).loc main_arg21) := by
  funext y
  refine Eq.trans ?_ (congrFun (V_main_arg21 m c) y)
  blk_ext [iblk]
  all_goals exact from_origin rfl

/-- The block of window 11 is operand 22, whole. -/
theorem blk11 (c : Dev nD) : iblk m c 11 t0_0 = m ((c : Thread nD τ).loc main_arg22) := by
  funext y
  refine Eq.trans ?_ (congrFun (V_main_arg22 m c) y)
  blk_ext [iblk]
  all_goals exact from_origin rfl

/-- What the launch computes from the memory it starts on. -/
def result (c : Dev nD) : FVec F S8x512 .f32 :=
  fwd (transpose S3x10000 [1, 0] (m ((c : Thread nD τ).loc main_arg0)) transposes_S10000x3_S3x10000_1_0)
    (m ((c : Thread nD τ).loc main_arg1))
    (m ((c : Thread nD τ).loc main_arg2))
    (m ((c : Thread nD τ).loc main_arg3))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))

/-- After the only grid point the output array is the result. -/
theorem arr_result (c : Dev nD) : (dats m 0 c).arrAt 12 cfg0.N = result m c := by
  refine (dats m 0 c).arrAt_eq_of_after_last 12 t0_0 (by decide +kernel) _ fun j => ?_
  rw [after_12, blk0, blk1, blk2, blk3, blk4, blk5, blk6, blk7, blk8, blk9, blk10, blk11]
  blk_simp
  rfl

/-- Every run ends with the result in the output array, the operands kept, and no count left on a semaphore. -/
theorem ends : θ_run defs (onTc (τ := τ) main) ⟨m, fun _ => 0, ρ⟩
    (fun r => ∀ c : Dev nD, r.2.mem ((c : Thread nD τ).loc main_v1) = result m c) := by
  refine (θ_run defs (onTc (τ := τ) main) ⟨m, fun _ => 0, ρ⟩).mono (fun r h c => ?_) (run_quiet m ρ)
  exact ((h.1 c).1 12).trans (arr_result m c)

end Cert.KernelIdeal.Hand

end
-- ==== Proof.Frames.lean ====
/-
  What is shared by the claims about how the programs end: the side conditions of the precondition, and the reference's run.
-/
module

public import proofs.«01_k».proof.Pre_inputs
public import proofs.«01_k».proof.Proof.Gen.ReferenceIdeal.Run
public import Idealize.ShloMosaic.Lib.Quiescent
public import Idealize.ShloMosaic.Lib.Claim

@[expose] public section

noncomputable section

/-- The shapes named by the precondition fit together. -/
theorem Cert.Pre_inputs.Hand.facts : Cert.Pre_inputs.Facts where
  bcast_S_S3 := by decide
  reducesTo_S3_S_d0 := by decide
  h_S_ := by decide
  slices_S10000_S9999_0 := by decide
  slices_S10000_S9999_1 := by decide
  reducesTo_S9999_S_d0 := by decide
  bcast_S_S10000 := by decide
  reducesTo_S10000_S_d0 := by decide
  bcast_S_S10000x3 := by decide
  reducesTo_S10000x3_S_d0_1 := by decide
  bcast_S_S3x128 := by decide
  reducesTo_S3x128_S_d0_1 := by decide
  bcast_S_S128x128 := by decide
  reducesTo_S128x128_S_d0_1 := by decide

namespace Cert.ReferenceIdeal.Hand

open Cert.ReferenceIdeal Cert.ReferenceIdeal.Gen
open Idealize.ShloMosaic Idealize.SL.Sem

variable {F : FTy → Type} [FloatOps F]

/-- The reference has no semaphores, so none holds a count. -/
theorem no_counts (s : MemSt nD τ sig (Elt F)) : s.sem = fun _ => 0 := sem_eq_zero_of_no_sems rfl s

end Cert.ReferenceIdeal.Hand

end
-- ==== Proof.Reference.lean ====
/-
  The reference over the extended reals, its gates zero: the three layers add nothing, and what is left is the lift, the readout, the
  maximum of each group and the dense head.
-/
module

public import proofs.«01_k».proof.Proof.Frames
public import Idealize.ShloMosaic.PureOps.Ideal.Laws
public import Idealize.ShloMosaic.Lib.ValueIdx
public import Idealize.ShloMosaic.Lib.IdealHost

@[expose] public section

noncomputable section

namespace Cert.ReferenceIdeal.Hand

open Cert.ReferenceIdeal Cert.ReferenceIdeal.Gen
open Idealize.ShloMosaic Idealize.ShloMosaic.TcCoe Idealize.ShloMosaic.ValueIdx Idealize.SL.Sem

/-- The lift of the points to 128 features. -/
def lift (x : FVec Ideal S10000x3 .f32) (w : FVec Ideal S3x128 .f32) (b : FVec Ideal S128 .f32) : FVec Ideal S10000x128 .f32 :=
  addf (Host.dotGeneral dot_S10000x3_S3x128_S10000x128_1_0_0_1_n_n none x w)
    (broadcastInDim S10000x128 ![0, 1] bcast_S1x128_S10000x128_0_1 (broadcastInDim S1x128 ![1] bcast_S128_S1x128_1 b))

/-- The readout of the features. -/
def readout (h : FVec Ideal S10000x128 .f32) (w : FVec Ideal S128x128 .f32) (b : FVec Ideal S128 .f32) : FVec Ideal S10000x128 .f32 :=
  addf (Host.dotGeneral dot_S10000x128_S128x128_S10000x128_1_0_0_1_n_n none h w)
    (broadcastInDim S10000x128 ![0, 1] bcast_S1x128_S10000x128_0_1 (broadcastInDim S1x128 ![1] bcast_S128_S1x128_1 b))

/-- Each group's maximum: over all rows, those of other groups standing as −∞. -/
def groupMax (v : IVec S10000 32) (r : FVec Ideal S10000x128 .f32) : FVec Ideal S8x128 .f32 :=
  Host.reduce FloatOps.maximumf
    (select
      (broadcastInDim S10000x8x128 ![0, 1, 2] bcast_S10000x8x1_S10000x8x128_0_1_2
        (broadcastInDim S10000x8x1 ![0, 1] bcast_S10000x8_S10000x8x1_0_1
          (cmpi .eq
            (broadcastInDim S10000x8 ![0, 1] bcast_S10000x1_S10000x8_0_1 (broadcastInDim S10000x1 ![0] bcast_S10000_S10000x1_0 v))
            (broadcastInDim S10000x8 ![0, 1] bcast_S1x8_S10000x8_0_1 (broadcastInDim S1x8 ![1] bcast_S8_S1x8_1 (iotaInDim S8 32 0))))))
      (broadcastInDim S10000x8x128 ![0, 1, 2] bcast_S10000x1x128_S10000x8x128_0_1_2
        (broadcastInDim S10000x1x128 ![0, 2] bcast_S10000x128_S10000x1x128_0_2 r))
      (broadcastInDim S10000x8x128 ![] bcast_S_S10000x8x128 (id (constant S_ .f32 0xFF800000#32))))
    (constant S_ .f32 0xFF800000#32) reducesTo_S10000x8x128_S8x128_d0 h_S_

/-- The activation: `v` where positive, else one times `exp v − 1`. -/
def elu {s : Shape} (hb : S_.BroadcastsInDim s (![] : Fin 0 → Fin s.rank)) (v : FVec Ideal s .f32) : FVec Ideal s .f32 :=
  select (cmpf .ogt v (broadcastInDim s ![] hb (constant S_ .f32 0x00000000#32))) v
    (mulf (broadcastInDim s ![] hb (constant S_ .f32 0x3F800000#32))
      (Host.expm1 (select (cmpf .ogt v (broadcastInDim s ![] hb (constant S_ .f32 0x00000000#32)))
        (broadcastInDim s ![] hb (id (constant S_ .f32 0x00000000#32))) v)))

/-- The first dense layer's affine part. -/
def dense1 (p : FVec Ideal S8x128 .f32) (w : FVec Ideal S128x64 .f32) (b : FVec Ideal S64 .f32) : FVec Ideal S8x64 .f32 :=
  addf (Host.dotGeneral dot_S8x128_S128x64_S8x64_1_0_0_1_n_n none p w)
    (broadcastInDim S8x64 ![0, 1] bcast_S1x64_S8x64_0_1 (broadcastInDim S1x64 ![1] bcast_S64_S1x64_1 b))

/-- The second's. -/
def dense2 (p : FVec Ideal S8x64 .f32) (w : FVec Ideal S64x32 .f32) (b : FVec Ideal S32 .f32) : FVec Ideal S8x32 .f32 :=
  addf (Host.dotGeneral dot_S8x64_S64x32_S8x32_1_0_0_1_n_n none p w)
    (broadcastInDim S8x32 ![0, 1] bcast_S1x32_S8x32_0_1 (broadcastInDim S1x32 ![1] bcast_S32_S1x32_1 b))

/-- The third's. -/
def dense3 (p : FVec Ideal S8x32 .f32) (w : FVec Ideal S32x512 .f32) (b : FVec Ideal S512 .f32) : FVec Ideal S8x512 .f32 :=
  addf (Host.dotGeneral dot_S8x32_S32x512_S8x512_1_0_0_1_n_n none p w)
    (broadcastInDim S8x512 ![0, 1] bcast_S1x512_S8x512_0_1 (broadcastInDim S1x512 ![1] bcast_S512_S1x512_1 b))

/-- The network without its layers. -/
def net (x : FVec Ideal S10000x3 .f32) (v : IVec S10000 32) (w : FVec Ideal S3x128 .f32) (b : FVec Ideal S128 .f32)
    (w0 : FVec Ideal S128x128 .f32) (b0 : FVec Ideal S128 .f32) (w1 : FVec Ideal S128x64 .f32) (b1 : FVec Ideal S64 .f32)
    (w2 : FVec Ideal S64x32 .f32) (b2 : FVec Ideal S32 .f32) (w3 : FVec Ideal S32x512 .f32) (b3 : FVec Ideal S512 .f32) :
    FVec Ideal S8x512 .f32 :=
  dense3 (elu bcast_S_S8x32 (dense2 (elu bcast_S_S8x64 (dense1 (groupMax v (readout (lift x w b) w0 b0)) w1 b1)) w2 b2)) w3 b3

/-- The gates are zero. -/
def Shut (α : FVec Ideal S3 .f32) : Prop := ∀ j, α j = 0

/-- What a zero gate multiplies adds nothing. -/
theorem gated {α : FVec Ideal S3 .f32} (hα : Shut α) {k : Fin 1 → ℕ} (hs : S3.Slices k S1) (hc : S1.ShapeCasts S_)
    (H Z : FVec Ideal S10000x128 .f32) :
    addf H (mulf (broadcastInDim S10000x128 ![] bcast_S_S10000x128 (shapeCast S_ (extractStridedSlice S1 k α hs) hc)) Z) = H := by
  funext j
  have e : broadcastInDim S10000x128 ![] bcast_S_S10000x128 (shapeCast S_ (extractStridedSlice S1 k α hs) hc) j = 0 := hα _
  rw [addf_apply, mulf_apply, e]
  show H j + (0 : EReal) * Z j = H j
  rw [zero_mul]
  exact add_zero (M := EReal) _

variable (V : Valuation τ sig (Elt Ideal))

/-- The features after the first layer are the lift. -/
theorem after_first (h : Shut (V (Proc.devRef .tc main_arg14))) : Value.res_main_v96 V = Value.res_main_v3 V := by
  unfold Value.res_main_v96
  exact gated h _ _ _ _

/-- So are those after the second. -/
theorem after_second (h : Shut (V (Proc.devRef .tc main_arg14))) : Value.res_main_v189 V = Value.res_main_v3 V := by
  unfold Value.res_main_v189
  exact (gated h _ _ _ _).trans (after_first V h)

/-- The first dense layer reads the groups' maxima of the readout of the lift. -/
theorem hidden (h : Shut (V (Proc.devRef .tc main_arg14))) : Value.res_main_v300 V
    = dense1 (groupMax (V (Proc.devRef .tc main_arg1)) (readout (lift (V (Proc.devRef .tc main_arg0)) (V (Proc.devRef .tc main_arg2))
        (V (Proc.devRef .tc main_arg3))) (V (Proc.devRef .tc main_arg15)) (V (Proc.devRef .tc main_arg16))))
      (V (Proc.devRef .tc main_arg17)) (V (Proc.devRef .tc main_arg18)) := by
  have e := fun hs hc Z => (gated h (k := ![2]) hs hc (Value.res_main_v189 V) Z).trans (after_second V h)
  unfold Value.res_main_v300
  rw [e]
  rfl

variable (m : (ℓ : Loc nD τ sig) → Buf (Elt Ideal) ℓ) (ρ : Dev nD → PrngReg)

/-- What the reference's result is on a memory whose gates are zero. -/
def netOf (c : Dev nD) : FVec Ideal S8x512 .f32 :=
  net (m ((c : Thread nD τ).loc main_arg0)) (m ((c : Thread nD τ).loc main_arg1)) (m ((c : Thread nD τ).loc main_arg2)) (m ((c : Thread nD τ).loc main_arg3)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-- Every run of the reference on such a memory ends with it in the result array. -/
theorem ends (h : ∀ c : Dev nD, Shut (m ((c : Thread nD τ).loc main_arg14))) :
    θ_run defs (onTc (τ := τ) (main (F := Ideal))) ⟨m, fun _ => 0, ρ⟩
      (fun r => ∀ c : Dev nD, r.2.mem ((c : Thread nD τ).loc main_v310) = netOf m c) := by
  refine θ_run_mono (Value.run m ρ) fun r hr c => (hr c).1.trans ?_
  have e : Value.res_main_v300 (StableHlo.launchContents m c) = _ := hidden (StableHlo.launchContents m c) (h c)
  unfold Value.res_main_v305
  rw [e]
  rfl

end Cert.ReferenceIdeal.Hand

end
-- ==== Proof.Layers.lean ====
/-
  The dense head: the kernel's three layers and the reference's are the same functions over the extended reals.
-/
module

public import proofs.«01_k».proof.Proof.Out
public import proofs.«01_k».proof.Proof.Reference
public import Idealize.ShloMosaic.Lib.KernelVsHost

@[expose] public section

noncomputable section

namespace Cert.Meet

open Idealize.ShloMosaic Idealize.ShloMosaic.TcCoe Idealize.ShloMosaic.ValueIdx

/-- A vector laid along each of `m` rows, by way of a one-row matrix on both sides. -/
theorem along_rows {α : Type} {m n : ℕ} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hc : (⟨1, ![n]⟩ : Shape).BroadcastsInDim ⟨2, ![1, n]⟩ ![1]) (hd : (⟨2, ![1, n]⟩ : Shape).BroadcastsInDim ⟨2, ![m, n]⟩ ![0, 1]) :
    broadcastTo ⟨2, ![m, n]⟩ (shapeCast ⟨2, ![1, n]⟩ x h1) hb = broadcastInDim ⟨2, ![m, n]⟩ ![0, 1] hd (broadcastInDim ⟨2, ![1, n]⟩ ![1] hc x) := by
  have hs : shapeCast ⟨2, ![1, n]⟩ x h1 = broadcastInDim ⟨2, ![1, n]⟩ ![1] hc x := by
    funext i
    refine (shapeCast_apply x h1 i (ix1 (i 1 : Fin n)) ?_).trans (broadcastInDim_apply ![1] hc x i (ix1 (i 1 : Fin n)) ?_).symm
    · rw [Shape.rowMajor_val_two, Shape.rowMajor_val_one]
      have : (i 0).val < 1 := (i 0).isLt
      show (i 1).val = (i 0).val * n + (i 1).val
      rw [show (i 0).val = 0 by omega]
      omega
    · intro a
      match a with
      | ⟨0, _⟩ =>
        have : (i 1).val < n := (i 1).isLt
        show (i 1).val = if n = 1 then 0 else (i 1).val
        split <;> omega
  rw [hs]
  funext i
  refine (broadcastTo_apply _ hb i (ix2 (0 : Fin 1) (i 1 : Fin n)) ?_).trans (broadcastInDim_apply ![0, 1] hd _ i (ix2 (0 : Fin 1) (i 1 : Fin n)) ?_).symm
  all_goals
    intro a
    have : (i 1).val < n := (i 1).isLt
    match a with
    | ⟨0, _⟩ => rfl
    | ⟨1, _⟩ =>
      show (i 1).val = if n = 1 then 0 else (i 1).val
      split <;> omega

open Cert.KernelIdeal.Hand Cert.ReferenceIdeal.Hand

/-- The first layers agree. -/
theorem first_layer (p : FVec Ideal Cert.KernelIdeal.S8x128 .f32) (w : FVec Ideal Cert.KernelIdeal.S128x64 .f32)
    (b : FVec Ideal Cert.KernelIdeal.S64 .f32) : lin1 p w b = dense1 p w b :=
  congrArg₂ addf (matmul_zero_eq_dotGeneral _ _ _ _) (along_rows b _ _ _ _)

/-- The second layers agree. -/
theorem second_layer (p : FVec Ideal Cert.KernelIdeal.S8x64 .f32) (w : FVec Ideal Cert.KernelIdeal.S64x32 .f32)
    (b : FVec Ideal Cert.KernelIdeal.S32 .f32) : lin2 p w b = dense2 p w b :=
  congrArg₂ addf (matmul_zero_eq_dotGeneral _ _ _ _) (along_rows b _ _ _ _)

/-- The third layers agree. -/
theorem third_layer (p : FVec Ideal Cert.KernelIdeal.S8x32 .f32) (w : FVec Ideal Cert.KernelIdeal.S32x512 .f32)
    (b : FVec Ideal Cert.KernelIdeal.S512 .f32) : lin3 p w b = dense3 p w b :=
  congrArg₂ addf (matmul_zero_eq_dotGeneral _ _ _ _) (along_rows b _ _ _ _)

/-- The activations agree: where `v` is not positive, `min v 0` is `v`. -/
theorem act_eq_elu {s : Shape} (hb : Cert.ReferenceIdeal.S_.BroadcastsInDim s (![] : Fin 0 → Fin s.rank)) (v : FVec Ideal s .f32) :
    act v = elu hb v := by
  funext j
  have z : Ideal.ofBits .f32 0x00000000#32 = 0 := by simp [Ideal.ofBits, Ideal.ieee]
  show Scalar.select (Ideal.cmp .ogt (v j) (Ideal.ofBits .f32 0x00000000#32)) (v j)
      (Ideal.exp (min (v j) (Ideal.ofBits .f32 0x00000000#32)) - Ideal.ofBits .f32 0x3F800000#32)
    = Scalar.select (Ideal.cmp .ogt (v j) (Ideal.ofBits .f32 0x00000000#32)) (v j)
      (Ideal.ofBits .f32 0x3F800000#32 * (Ideal.exp (Scalar.select (Ideal.cmp .ogt (v j) (Ideal.ofBits .f32 0x00000000#32))
        (Ideal.ofBits .f32 0x00000000#32) (v j)) - 1))
  rw [z, Ideal.ofBits_one_f32, one_mul]
  by_cases h : (0 : EReal) < v j
  · rw [show Ideal.cmp .ogt (v j) 0 = 1#1 by simp [Ideal.cmp, h]]
    rfl
  · rw [show Ideal.cmp .ogt (v j) 0 = 0#1 by simp [Ideal.cmp, h]]
    rw [min_eq_left (not_lt.1 h)]
    rfl

/-- The two heads agree on equal pooled rows. -/
theorem head_eq (p : FVec Ideal Cert.KernelIdeal.S8x128 .f32) (w1 : FVec Ideal Cert.KernelIdeal.S128x64 .f32)
    (b1 : FVec Ideal Cert.KernelIdeal.S64 .f32) (w2 : FVec Ideal Cert.KernelIdeal.S64x32 .f32) (b2 : FVec Ideal Cert.KernelIdeal.S32 .f32)
    (w3 : FVec Ideal Cert.KernelIdeal.S32x512 .f32) (b3 : FVec Ideal Cert.KernelIdeal.S512 .f32) :
    head p w1 b1 w2 b2 w3 b3
      = dense3 (elu Cert.ReferenceIdeal.Gen.bcast_S_S8x32 (dense2 (elu Cert.ReferenceIdeal.Gen.bcast_S_S8x64 (dense1 p w1 b1)) w2 b2)) w3 b3 := by
  unfold head
  rw [first_layer, act_eq_elu Cert.ReferenceIdeal.Gen.bcast_S_S8x64, second_layer, act_eq_elu Cert.ReferenceIdeal.Gen.bcast_S_S8x32, third_layer]

end Cert.Meet

end
-- ==== Proof.PoolValue.lean ====
/-
  A pooled row over the extended reals: block by block under the masks, it is the least upper bound of the group's rows.
-/
module

public import proofs.«01_k».proof.Proof.Groups
public import Idealize.ShloMosaic.PureOps.Ideal.Laws
public import Idealize.ShloMosaic.Lib.ValueIdx
public import Idealize.ShloMosaic.Lib.Pipeline.Value

@[expose] public section

noncomputable section

namespace Cert.KernelIdeal.Hand

open Cert.KernelIdeal Cert.KernelIdeal.Gen PoolWords
open Idealize.ShloMosaic Idealize.ShloMosaic.TcCoe Idealize.ShloMosaic.ValueIdx

/-- The word of −∞ reads as the least extended real. -/
theorem ofBits_ninf : Ideal.ofBits .f32 0xFF800000#32 = ⊥ := by simp [Ideal.ofBits, Ideal.ieee]

/-- The least value is below every bound. -/
theorem ninf_apply (j : S64x128.Idx) : ninf (F := Ideal) j = ⊥ := ofBits_ninf

/-- `c` bounds a column's maximum exactly when it bounds the column's 64 entries. -/
theorem colMax_le (A : FVec Ideal S64x128 .f32) (z : Fin 1) (d : Fin 128) (c : EReal) :
    colMax A (ix2 z d) ≤ c ↔ ∀ r : Fin 64, A (ix2 r d) ≤ c := by
  have e : colMax A (ix2 z d) = multiReduction .maximumf [0] S128 A 0xFF800000#32 reduces_S64x128_S128 (.inl rfl) rfl (ix1 d) := by
    unfold colMax
    refine shapeCast_apply _ _ _ (ix1 d) ?_
    rw [Shape.rowMajor_val_two, Shape.rowMajor_val_one]
    show d.val = z.val * 128 + d.val
    omega
  have l : ∀ r : Fin 64, (A ∘ reduces_S64x128_S128.lift (ix1 d)) r = A (ix2 r d) := fun r => congrArg A (by
    funext a
    match a with
    | ⟨0, _⟩ => rfl
    | ⟨1, _⟩ => rfl)
  refine iff_of_eq (congrArg (· ≤ c) (e.trans (Ideal.multiReduction_maximumf_single A _ _ _ _ _))) |>.trans ?_
  refine (Finset.fold_max_le _).trans ?_
  constructor
  · exact fun h r => (l r).symm.le.trans (h.2 r (Finset.mem_univ _))
  · intro h
    refine ⟨?_, fun r _ => ?_⟩
    · show Ideal.ofBits .f32 0xFF800000#32 ≤ c
      rw [ofBits_ninf]
      exact bot_le
    · exact (l r).le.trans (h r)

/-- `c` bounds the running maximum of whole blocks exactly when it bounds each block's entry. -/
theorem whole_le (X : ℕ → Fin 128 → EReal) (b₀ n : ℕ) (r : Fin 64) (d : Fin 128) (c : EReal) :
    whole (F := Ideal) X b₀ n (ix2 r d) ≤ c ↔ ∀ k, k < n → X (64 * (b₀ + k) + r.val) d ≤ c := by
  induction n with
  | zero => exact ⟨fun _ k hk => absurd hk (Nat.not_lt_zero k), fun _ => (ninf_apply _).le.trans bot_le⟩
  | succ n ih =>
    rw [whole, maximumf_apply]
    refine max_le_iff.trans ((and_congr_left' ih).trans ?_)
    constructor
    · intro h k hk
      rcases Nat.lt_succ_iff_lt_or_eq.1 hk with hk | rfl
      · exact h.1 k hk
      · exact h.2
    · exact fun h => ⟨fun k hk => h k (by omega), h n (by omega)⟩

/-- `c` bounds a masked block's entry exactly when it bounds the block's own entry wherever the row lies in the group. -/
theorem masked_le (X : ℕ → Fin 128 → EReal) {s e b : BitVec 32} {n : ℕ} (hs : s.toNat ≤ 10000) (he : e.toNat ≤ 10000)
    (hb : Affine.IsInt b n) (hn : n ≤ 10000) (r : Fin 64) (d : Fin 128) (c : EReal) :
    select (rowMask s e b) (rowBlk (F := Ideal) X n) ninf (ix2 r d) ≤ c
      ↔ (s.toNat ≤ 64 * n + r.val ∧ 64 * n + r.val < e.toNat → X (64 * n + r.val) d ≤ c) := by
  have hm := rowMask_iff hs he hb hn (ix2 r d)
  rw [select_apply]
  unfold Scalar.select
  split
  · next h => exact ⟨fun h' _ => h', fun h' => h' (hm.1 h)⟩
  · next h => exact ⟨fun _ h' => absurd (hm.2 h') h, fun _ => (ninf_apply _).le.trans bot_le⟩

/-- `c` bounds a pooled entry exactly when it bounds the column's entries at the group's rows. -/
theorem pooled_le (X : ℕ → Fin 128 → EReal) {s e : BitVec 32} (hs : s.toNat ≤ 10000) (he : e.toNat ≤ 10000) (z : Fin 1)
    (d : Fin 128) (c : EReal) :
    pooled (F := Ideal) X s e (ix2 z d) ≤ c ↔ ∀ i, s.toNat ≤ i → i < e.toNat → X i d ≤ c := by
  unfold pooled edges
  rw [colMax_le]
  refine (forall_congr' fun r => max_le_iff.trans (and_congr (max_le_iff.trans (and_congr (whole_le X _ _ r d c)
      (masked_le X hs he (first_isInt hs) (by omega) r d c))) (masked_le X hs he (last_isInt he) (by omega) r d c))).trans ⟨fun h i h1 h2 => ?_, fun h r => ⟨⟨fun k hk => h _ ?_ ?_, fun hr => h _ hr.1 hr.2⟩, fun hr => h _ hr.1 hr.2⟩⟩
  · obtain ⟨⟨hw, hf⟩, hl⟩ := h ⟨i % 64, Nat.mod_lt _ (by decide)⟩
    dsimp only at hw hf hl
    by_cases c1 : i / 64 = s.toNat / 64
    · have e1 : 64 * (s.toNat / 64) + i % 64 = i := by omega
      rw [e1] at hf
      exact hf ⟨h1, h2⟩
    · by_cases c2 : i / 64 = (e.toNat + 63) / 64 - 1
      · have e1 : 64 * ((e.toNat + 63) / 64 - 1) + i % 64 = i := by omega
        rw [e1] at hl
        exact hl ⟨h1, h2⟩
      · have := hw (i / 64 - (s.toNat / 64 + 1)) (by omega)
        have e1 : 64 * (s.toNat / 64 + 1 + (i / 64 - (s.toNat / 64 + 1))) + i % 64 = i := by omega
        rwa [e1] at this
  · have := r.isLt
    omega
  · have := r.isLt
    omega

end Cert.KernelIdeal.Hand

end
-- ==== Proof.Segments.lean ====
/-
  The groups as intervals of rows: for graph ids in order and in [0, 8) the counts bound each group exactly.
-/
module

public import proofs.«01_k».proof.Proof.Counts

@[expose] public section

noncomputable section

namespace Cert.KernelIdeal.Hand

open Cert.KernelIdeal Cert.KernelIdeal.Gen PoolWords
open Idealize.ShloMosaic Idealize.ShloMosaic.ValueIdx

/-- A property that holds below wherever it holds, of `n` numbers: it holds of `i` exactly when more than `i` numbers have it. -/
theorem lt_card_iff {n : ℕ} (P : Fin n → Prop) [DecidablePred P] (hP : ∀ i j, i ≤ j → P j → P i) (i : Fin n) :
    i.val < (Finset.univ.filter P).card ↔ P i := by
  constructor
  · intro h
    by_contra hi
    have hs : Finset.univ.filter P ⊆ Finset.Iio i := fun j hj =>
      Finset.mem_Iio.2 (lt_of_not_ge fun hij => hi (hP i j hij (Finset.mem_filter.1 hj).2))
    have := Finset.card_le_card hs
    rw [Fin.card_Iio] at this
    omega
  · intro h
    have hs : Finset.Iic i ⊆ Finset.univ.filter P := fun j hj =>
      Finset.mem_filter.2 ⟨Finset.mem_univ _, hP j i (Finset.mem_Iic.1 hj) h⟩
    have := Finset.card_le_card hs
    rw [Fin.card_Iic] at this
    omega

/-- Graph ids that never decrease. -/
def Ordered (v : IVec S10000 32) : Prop := ∀ i j : Fin 10000, i ≤ j → (v (ix1 i)).toInt ≤ (v (ix1 j)).toInt

/-- Graph ids in [0, 8). -/
def Ranged (v : IVec S10000 32) : Prop := ∀ i : Fin 10000, 0 ≤ (v (ix1 i)).toInt ∧ (v (ix1 i)).toInt < 8

/-- Of ordered ids, those below `g` are the first `cnt g v`. -/
theorem lt_cnt_iff {v : IVec S10000 32} (hv : Ordered v) (g : BitVec 32) (i : Fin 10000) :
    i.val < (cnt g v).toNat ↔ (v (ix1 i)).toInt < g.toInt := by
  rw [cnt_toNat, ← BitVec.slt_iff_toInt_lt]
  refine lt_card_iff (fun i => (v (ix1 i)).slt g = true) (fun i j hij h => ?_) i
  rw [BitVec.slt_iff_toInt_lt] at h ⊢
  exact lt_of_le_of_lt (hv i j hij) h

/-- Where group `g` starts: the number of ids below it. -/
def start (v : IVec S10000 32) (g : Fin 8) : BitVec 32 := if g.val = 0 then 0#32 else cnt (BitVec.ofNat 32 g.val) v

/-- Where group `g` stops: where the next starts, or the end of the table. -/
def stop (v : IVec S10000 32) (g : Fin 8) : BitVec 32 := if g.val = 7 then 10000#32 else cnt (BitVec.ofNat 32 (g.val + 1)) v

/-- No group starts past the table. -/
theorem start_le (v : IVec S10000 32) (g : Fin 8) : (start v g).toNat ≤ 10000 := by
  unfold start
  split
  · decide
  · exact cnt_le _ v

/-- No group stops past the table. -/
theorem stop_le (v : IVec S10000 32) (g : Fin 8) : (stop v g).toNat ≤ 10000 := by
  unfold stop
  split
  · decide
  · exact cnt_le _ v

/-- A row lies in the interval of group `g` exactly when its id is `g`. -/
theorem group_iff {v : IVec S10000 32} (hv : Ordered v) (hr : Ranged v) (g : Fin 8) (i : Fin 10000) :
    ((start v g).toNat ≤ i.val ∧ i.val < (stop v g).toNat) ↔ v (ix1 i) = BitVec.ofNat 32 g.val := by
  have lit : ∀ n : ℕ, n ≤ 8 → (BitVec.ofNat 32 n).toInt = n := fun n hn => by interval_cases n <;> rfl
  have hg := g.isLt
  have hi := hr i
  have h1 : (start v g).toNat ≤ i.val ↔ (g.val : ℤ) ≤ (v (ix1 i)).toInt := by
    unfold start
    split
    · next h => exact ⟨fun _ => by omega, fun _ => Nat.zero_le _⟩
    · rw [← not_lt, lt_cnt_iff hv, lit _ (by omega), not_lt]
  have h2 : i.val < (stop v g).toNat ↔ (v (ix1 i)).toInt < (g.val : ℤ) + 1 := by
    unfold stop
    split
    · next h => exact ⟨fun _ => by omega, fun _ => i.isLt⟩
    · rw [lt_cnt_iff hv, lit _ (by omega)]
      push_cast
      rfl
  rw [h1, h2, ← BitVec.toInt_inj, lit _ (by omega)]
  omega

end Cert.KernelIdeal.Hand

end
-- ==== Proof.GroupMax.lean ====
/-
  The reference's group maxima, read entry by entry, and their agreement with the kernel's pooled rows.
-/
module

public import proofs.«01_k».proof.Proof.Reference
public import proofs.«01_k».proof.Proof.PoolValue
public import proofs.«01_k».proof.Proof.Segments
public import proofs.«01_k».proof.Proof.Out
public import Idealize.ShloMosaic.Lib.Pointwise
public import Idealize.ShloMosaic.Lib.Pointwise.Reduce

@[expose] public section

noncomputable section

namespace Cert.ReferenceIdeal.Hand

open Cert.ReferenceIdeal Cert.ReferenceIdeal.Gen
open Idealize.ShloMosaic

/-- `c` bounds a group's maximum in a column exactly when it bounds the column's entries at the group's rows. -/
theorem groupMax_le (v : IVec S10000 32) (r : FVec Ideal S10000x128 .f32) (g : Fin 8) (d : Fin 128) (c : EReal) :
    groupMax v r (ix2 g d) ≤ c ↔ ∀ i : Fin 10000, v (ix1 i) = BitVec.ofNat 32 g.val → r (ix2 i d) ≤ c := by
  have hb : Ideal.ofBits .f32 0xFF800000#32 = ⊥ := by simp [Ideal.ofBits, Ideal.ieee]
  unfold groupMax
  pointwise
  refine (Finset.fold_max_le _).trans ⟨fun h i hi => ?_, fun h => ⟨hb.le.trans bot_le, fun i _ => ?_⟩⟩
  · have := h.2 i (Finset.mem_univ _)
    rw [hi] at this
    simpa [IntOp.cmpi, Scalar.select] using this
  · by_cases hi : v (ix1 i) = BitVec.ofNat 32 g.val
    · rw [hi]
      simpa [IntOp.cmpi, Scalar.select] using h i hi
    · have e : IntOp.cmpi .eq (v (ix1 i)) (BitVec.ofNat 32 g.val) = 0#1 := by
        show BitVec.ofBool (v (ix1 i) == BitVec.ofNat 32 g.val) = 0#1
        rw [beq_false_of_ne hi]
        rfl
      rw [e]
      exact hb.le.trans bot_le

end Cert.ReferenceIdeal.Hand

namespace Cert.KernelIdeal.Hand

open Cert.KernelIdeal Cert.KernelIdeal.Gen PoolWords
open Idealize.ShloMosaic

/-- Row `g` of eight rows one below the other is the `g`-th of them. -/
theorem stack_apply (f : Fin 8 → FVec Ideal S1x128 .f32) (g : Fin 8) (d : Fin 128) :
    stack (f 0) (f 1) (f 2) (f 3) (f 4) (f 5) (f 6) (f 7) (ix2 g d) = f g (ix2 0 d) := by
  unfold stack
  pointwise
  fin_cases g <;> rfl

/-- The eight pooled rows of a matrix under ordered graph ids in [0, 8) are the reference's group maxima. -/
theorem stack_eq {v : IVec S10000 32} (hv : Ordered v) (hr : Ranged v) (R : FVec Ideal S10000x128 .f32) :
    stack (pooled (pad R) 0#32 (cnt 1#32 v)) (pooled (pad R) (cnt 1#32 v) (cnt 2#32 v)) (pooled (pad R) (cnt 2#32 v) (cnt 3#32 v))
      (pooled (pad R) (cnt 3#32 v) (cnt 4#32 v)) (pooled (pad R) (cnt 4#32 v) (cnt 5#32 v)) (pooled (pad R) (cnt 5#32 v) (cnt 6#32 v))
      (pooled (pad R) (cnt 6#32 v) (cnt 7#32 v)) (pooled (pad R) (cnt 7#32 v) 10000#32)
    = Cert.ReferenceIdeal.Hand.groupMax v R := by
  funext j
  rw [ValueIdx.eq_ix2 j]
  refine (stack_apply (fun g => pooled (pad R) (start v g) (stop v g)) (j 0) (j 1)).trans ?_
  refine eq_of_forall_ge_iff fun c => ((pooled_le (pad R) (start_le v _) (stop_le v _) 0 (j 1) c).trans ?_).trans
    (Cert.ReferenceIdeal.Hand.groupMax_le v R (j 0) (j 1) c).symm
  constructor
  · intro h i hi
    have hg := (group_iff hv hr (j 0) i).2 hi
    have := h i.val hg.1 hg.2
    unfold PoolWords.pad at this
    rwa [dif_pos i.isLt] at this
  · intro h i h1 h2
    have hi : i < 10000 := lt_of_lt_of_le h2 (stop_le v _)
    unfold PoolWords.pad
    rw [dif_pos hi]
    exact h ⟨i, hi⟩ ((group_iff hv hr (j 0) ⟨i, hi⟩).1 ⟨h1, h2⟩)

end Cert.KernelIdeal.Hand

end
-- ==== Proof.RowsValue.lean ====
/-
  The rows that are pooled: contracting the two matrices before touching the points gives the reference's rows, where the points and
  the two matrices are finite; the biases need not be.
-/
module

public import proofs.«01_k».proof.Proof.Out
public import proofs.«01_k».proof.Proof.Reference
public import Idealize.ShloMosaic.Lib.Pointwise

@[expose] public section

noncomputable section

namespace Cert.Meet

open Idealize.ShloMosaic Cert.KernelIdeal.Hand Cert.ReferenceIdeal.Hand

/-- A finite factor distributes over a sum of which one term is finite. -/
theorem add_mul_finite (a r : ℝ) (b : EReal) : ((a : EReal) + b) * r = a * r + b * r := by
  induction b using EReal.rec with
  | coe b => norm_cast; exact add_mul a b r
  | top =>
    rw [EReal.coe_add_top]
    rcases lt_trichotomy r 0 with h | rfl | h
    · rw [EReal.top_mul_coe_of_neg h, EReal.add_bot]
    · simp
    · rw [EReal.top_mul_coe_of_pos h, ← EReal.coe_mul, EReal.coe_add_top]
  | bot =>
    rw [EReal.add_bot]
    rcases lt_trichotomy r 0 with h | rfl | h
    · rw [EReal.bot_mul_coe_of_neg h, ← EReal.coe_mul, EReal.coe_add_top]
    · simp
    · rw [EReal.bot_mul_coe_of_pos h, EReal.add_bot]

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One entry of the reassociated product with its biases, over any extents. -/
theorem reassociate {K N : ℕ} (x : Fin K → ℝ) (w : Fin K → Fin N → ℝ) (r : Fin N → ℝ) (b : Fin N → EReal) (b0 : EReal) :
    ∑ k, (x k : EReal) * ∑ j, (w k j : EReal) * (r j : EReal) + (∑ j, b j * (r j : EReal) + b0)
      = ∑ j, (∑ k, (x k : EReal) * (w k j : EReal) + b j) * (r j : EReal) + b0 := by
  have h1 : ∀ j, (∑ k, (x k : EReal) * (w k j : EReal) + b j) * (r j : EReal)
      = ((∑ k, x k * w k j) * r j : ℝ) + b j * (r j : EReal) := fun j => by
    have e : ∑ k, (x k : EReal) * (w k j : EReal) = ((∑ k, x k * w k j : ℝ) : EReal) := by
      rw [coe_sum]
      exact Finset.sum_congr rfl fun k _ => (EReal.coe_mul _ _).symm
    rw [e, add_mul_finite, EReal.coe_mul]
  have h2 : ∀ k, (x k : EReal) * ∑ j, (w k j : EReal) * (r j : EReal) = ((x k * ∑ j, w k j * r j : ℝ) : EReal) := fun k => by
    rw [EReal.coe_mul, coe_sum]
    exact congrArg _ (Finset.sum_congr rfl fun j _ => (EReal.coe_mul _ _).symm)
  rw [Finset.sum_congr rfl fun k _ => h2 k, Finset.sum_congr rfl fun j _ => h1 j, Finset.sum_add_distrib, ← coe_sum, ← coe_sum, add_assoc]
  congr 2
  simp only [Finset.mul_sum, Finset.sum_mul]
  rw [Finset.sum_comm]
  exact Finset.sum_congr rfl fun j _ => Finset.sum_congr rfl fun k _ => (mul_assoc _ _ _).symm

/-- Every entry is a real number. -/
def Finite {s : Shape} (x : FVec Ideal s .f32) : Prop := ∃ f : s.Idx → ℝ, x = fun i => (f i : EReal)

/-- The rows agree. -/
theorem rows_eq {x : FVec Ideal Cert.KernelIdeal.S10000x3 .f32} {w : FVec Ideal Cert.KernelIdeal.S3x128 .f32}
    {w0 : FVec Ideal Cert.KernelIdeal.S128x128 .f32} (hx : Finite x) (hw : Finite w) (hw0 : Finite w0)
    (b b0 : FVec Ideal Cert.KernelIdeal.S128 .f32) (ht : Cert.KernelIdeal.S10000x3.Transposes [1, 0] Cert.KernelIdeal.S3x10000) (i : Fin 10000) (d : Fin 128) :
    rows (transpose Cert.KernelIdeal.S3x10000 [1, 0] x ht) w b w0 b0 (ix2 i d) = readout (lift x w b) w0 b0 (ix2 i d) := by
  obtain ⟨fx, rfl⟩ := hx
  obtain ⟨fw, rfl⟩ := hw
  obtain ⟨f0, rfl⟩ := hw0
  unfold rows Cert.KernelIdeal.Gen.k0_pay2 readout lift
  pointwise
  exact reassociate (fun k => fx (ix2 i k)) (fun k j => fw (ix2 k j)) (fun j => f0 (ix2 j d)) (fun j => b (ix1 j)) (b0 (ix1 d))

end Cert.Meet

end
-- ==== Proof.Given.lean ====
/-
  What the precondition says, in plain terms: the gates are zero, the graph ids are in order and in [0, 8), and the points and the two
  matrices of the reassociated product are finite.
-/
module

public import proofs.«01_k».proof.Proof.Frames
public import proofs.«01_k».proof.Proof.Segments
public import proofs.«01_k».proof.Proof.Reference
public import proofs.«01_k».proof.Proof.RowsValue
public import Idealize.ShloMosaic.Lib.ReduceAll

@[expose] public section

noncomputable section

namespace Cert.Meet

open Idealize.ShloMosaic Cert.KernelIdeal.Hand Cert.ReferenceIdeal.Hand

/-- An array whose absolute values all compare below +∞ is finite. -/
theorem finite_of_abs {s : Shape} (x : FVec Ideal s .f32)
    (h : ∀ i, Ideal.cmp .olt (max (x i) (-(x i))) (Ideal.ofBits .f32 0x7F800000#32) = 1#1) : Finite x := by
  have ht : Ideal.ofBits .f32 0x7F800000#32 = ⊤ := by simp [Ideal.ofBits, Ideal.ieee]
  refine ⟨fun i => EReal.toReal (x i), funext fun i => ?_⟩
  have hi := h i
  rw [ht] at hi
  have hl : max (x i : EReal) (-(x i : EReal)) < ⊤ := by
    by_contra hn
    simp [Ideal.cmp, hn] at hi
  have h1 : (x i : EReal) ≠ ⊤ := fun e => by simp [e] at hl
  have h2 : (x i : EReal) ≠ ⊥ := fun e => by simp [e] at hl
  exact (EReal.coe_toReal h1 h2).symm

/-- Ids of which each is at most the next never decrease. -/
theorem ordered_of_next (v : IVec Cert.KernelIdeal.S10000 32)
    (h : ∀ i (hi : i + 1 < 10000), (v (ValueIdx.ix1 ⟨i, by omega⟩)).toInt ≤ (v (ValueIdx.ix1 ⟨i + 1, hi⟩)).toInt) : Ordered v := by
  have step : ∀ n i (hi : i + n < 10000), (v (ValueIdx.ix1 ⟨i, by omega⟩)).toInt ≤ (v (ValueIdx.ix1 ⟨i + n, hi⟩)).toInt := by
    intro n
    induction n with
    | zero => exact fun i hi => le_rfl
    | succ n ih => exact fun i hi => (ih i (by omega)).trans (h (i + n) hi)
  intro i j hij
  have := step (j.val - i.val) i.val (by have := j.isLt; have : i.val ≤ j.val := hij; omega)
  have e : i.val + (j.val - i.val) = j.val := Nat.add_sub_cancel' hij
  simpa only [e] using this

/-- What the precondition gives of the arrays it names. -/
structure Given (x : FVec Ideal Cert.KernelIdeal.S10000x3 .f32) (v : IVec Cert.KernelIdeal.S10000 32)
    (w : FVec Ideal Cert.KernelIdeal.S3x128 .f32) (α : FVec Ideal Cert.KernelIdeal.S3 .f32)
    (w0 : FVec Ideal Cert.KernelIdeal.S128x128 .f32) : Prop where
  shut : Shut α
  ordered : Ordered v
  ranged : Ranged v
  points : Finite x
  weights : Finite w
  readouts : Finite w0

open Cert.Pre_inputs in
/-- The precondition, read conjunct by conjunct. -/
theorem given_of [Cert.Pre_inputs.Facts] (arg0 : FVec Ideal S10000x3 .f32) (arg1 : IVec S10000 32) (arg2 : FVec Ideal S3x128 .f32) (arg3 : FVec Ideal S128 .f32) (arg4 : FVec Ideal S3x256x128 .f32) (arg5 : FVec Ideal S3x128 .f32) (arg6 : FVec Ideal S3x128x128 .f32) (arg7 : FVec Ideal S3x128 .f32) (arg8 : FVec Ideal S3x128x128 .f32) (arg9 : FVec Ideal S3x128 .f32) (arg10 : FVec Ideal S3x128 .f32) (arg11 : FVec Ideal S3x128 .f32) (arg12 : FVec Ideal S3x128x128 .f32) (arg13 : FVec Ideal S3x128 .f32) (arg14 : FVec Ideal S3 .f32) (arg15 : FVec Ideal S128x128 .f32) (arg16 : FVec Ideal S128 .f32) (arg17 : FVec Ideal S128x64 .f32) (arg18 : FVec Ideal S64 .f32) (arg19 : FVec Ideal S64x32 .f32) (arg20 : FVec Ideal S32 .f32) (arg21 : FVec Ideal S32x512 .f32) (arg22 : FVec Ideal S512 .f32)
    (h : (Cert.Pre_inputs.fn (F := Ideal) arg0 arg1 arg2 arg3 arg4 arg5 arg6 arg7 arg8 arg9 arg10 arg11 arg12 arg13 arg14 arg15 arg16 arg17 arg18 arg19 arg20 arg21 arg22) ValueIdx.ix0 = 1#1) : Given arg0 arg1 arg2 arg14 arg15 := by
  haveI : Subsingleton S_.Idx := ⟨fun a b => funext fun i => i.elim0⟩
  obtain ⟨h, hR⟩ := IntOp.andi_eq_one.1 h
  obtain ⟨h, hW⟩ := IntOp.andi_eq_one.1 h
  obtain ⟨h, hX⟩ := IntOp.andi_eq_one.1 h
  obtain ⟨h, hB⟩ := IntOp.andi_eq_one.1 h
  obtain ⟨hA, hO⟩ := IntOp.andi_eq_one.1 h
  have z : Ideal.ofBits .f32 0x00000000#32 = 0 := by simp [Ideal.ofBits, Ideal.ieee]
  refine ⟨fun j => ?_, ordered_of_next _ fun i hi => ?_, fun i => ?_, finite_of_abs _ fun i => Host.reduce_andi_all _ _ _ _ _ hX i,
    finite_of_abs _ fun i => Host.reduce_andi_all _ _ _ _ _ hW i, finite_of_abs _ fun i => Host.reduce_andi_all _ _ _ _ _ hR i⟩
  · have e : Ideal.cmp .oeq (arg14 j) (Ideal.ofBits .f32 0x00000000#32) = 1#1 := Host.reduce_andi_all _ _ _ _ _ hA j
    rw [z] at e
    by_contra hn
    have hn' : ¬(arg14 j : EReal) = 0 := hn
    simp [Ideal.cmp, hn'] at e
  · have e := Host.reduce_andi_all _ _ _ _ _ hO (ValueIdx.ix1 (⟨i, by omega⟩ : Fin 9999))
    have e' : IntOp.cmpi .sle (arg1 (ValueIdx.ix1 ⟨i, by omega⟩)) (arg1 (ValueIdx.ix1 ⟨i + 1, hi⟩)) = 1#1 := by
      refine Eq.trans (congrArg₂ (IntOp.cmpi .sle) (congrArg arg1 ?_) (congrArg arg1 ?_)) e
      · funext a
        match a with
        | ⟨0, _⟩ => exact Fin.ext (Nat.zero_add i).symm
      · funext a
        match a with
        | ⟨0, _⟩ => exact Fin.ext (Nat.add_comm i 1)
    exact IntOp.cmpi_sle.1 e'
  · obtain ⟨e1, e2⟩ := IntOp.andi_eq_one.1 (Host.reduce_andi_all _ _ _ _ _ hB (ValueIdx.ix1 i))
    exact ⟨IntOp.cmpi_sge.1 e1, IntOp.cmpi_slt.1 e2⟩

end Cert.Meet

end
-- ==== Proof.Equal.lean ====
/-
  The equation: on operands the precondition admits, the kernel's function and the reference's are equal over the extended reals.
-/
module

public import proofs.«01_k».proof.Proof.Layers
public import proofs.«01_k».proof.Proof.GroupMax
public import proofs.«01_k».proof.Proof.Given

@[expose] public section

noncomputable section

namespace Cert.Meet

open Cert.KernelIdeal
open Idealize.ShloMosaic Cert.KernelIdeal.Hand Cert.ReferenceIdeal.Hand

/-- The kernel's function of its operands is the network's. -/
theorem fwd_eq_net {x : FVec Ideal S10000x3 .f32} {v : IVec S10000 32} {w : FVec Ideal S3x128 .f32} {α : FVec Ideal S3 .f32}
    {w0 : FVec Ideal S128x128 .f32} (h : Given x v w α w0) (b b0 : FVec Ideal S128 .f32) (w1 : FVec Ideal S128x64 .f32)
    (b1 : FVec Ideal S64 .f32) (w2 : FVec Ideal S64x32 .f32) (b2 : FVec Ideal S32 .f32) (w3 : FVec Ideal S32x512 .f32)
    (b3 : FVec Ideal S512 .f32) (ht : S10000x3.Transposes [1, 0] S3x10000) :
    fwd (transpose S3x10000 [1, 0] x ht) v w b w0 b0 w1 b1 w2 b2 w3 b3 = net x v w b w0 b0 w1 b1 w2 b2 w3 b3 := by
  have e : rows (transpose S3x10000 [1, 0] x ht) w b w0 b0 = readout (lift x w b) w0 b0 := by
    funext j
    rw [ValueIdx.eq_ix2 j]
    exact rows_eq h.points h.weights h.readouts b b0 ht (j 0) (j 1)
  unfold fwd net
  rw [e, stack_eq h.ordered h.ranged, head_eq]

end Cert.Meet

end
-- ==== Proof.lean ====
/-
  The certificate: the five claims about the kernel that skips the layers a zero gate switches off, each from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameText
public import proofs.«01_k».proof.Proof.Ends
public import proofs.«01_k».proof.Proof.Frames
public import proofs.«01_k».proof.Proof.Equal

@[expose] public section

noncomputable section

namespace Cert.Proof

open Idealize.ShloMosaic Idealize.SL.Sem

/-- The kernel as printed ends on its own, keeps its operands and leaves no count behind. -/
theorem kernel_frame : Cert.quiescent_Kernel (hKernel := Cert.Kernel.Gen.facts) :=
  fun m g _ => Cert.Kernel.Hand.run_of m g _ (Cert.KernelIdeal.Hand.quiet (F := Bits) m g)

/-- So does its idealised form. -/
theorem ideal_frame : Cert.quiescent_KernelIdeal (hKernelIdeal := Cert.KernelIdeal.Gen.facts) :=
  fun m g _ => Cert.KernelIdeal.Hand.quiet (F := Ideal) m g

/-- So does the reference. -/
theorem reference_frame : Cert.quiescent_ReferenceIdeal (hReferenceIdeal := Cert.ReferenceIdeal.Gen.facts) :=
  fun m g _ => θ_run_mono (Cert.ReferenceIdeal.Value.run m g)
    fun r h => ⟨fun c => (h c).2, Cert.ReferenceIdeal.Hand.no_counts r.2⟩

/-- On operands the precondition admits, the idealised kernel and the idealised reference end with the same result. -/
theorem value : Cert.algebraic_KernelIdeal_ReferenceIdeal_pre_inputs (hKernelIdeal := Cert.KernelIdeal.Gen.facts)
    (hReferenceIdeal := Cert.ReferenceIdeal.Gen.facts) (hPre_inputs := Cert.Pre_inputs.Hand.facts) := by
  intro m g m' g' hpre hagree
  haveI := Cert.Pre_inputs.Hand.facts
  have given : ∀ c : Dev Cert.KernelIdeal.nD,
      Cert.Meet.Given (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)) :=
    fun c => Cert.Meet.given_of _ _ _ _ _ _ _ _ _ _ _ _ _ _ _ _ _ _ _ _ _ _ _ (congrFun (hpre c) ValueIdx.ix0)
  refine ⟨Cert.KernelIdeal.Hand.result m,
    θ_run_mono (θ_run_and (Cert.KernelIdeal.Hand.ends m g) (Cert.KernelIdeal.Hand.quiet m g)) fun r h c => ⟨h.1 c, h.2.1 c⟩, ?_⟩
  have shut : ∀ c : Dev Cert.ReferenceIdeal.nD, Cert.ReferenceIdeal.Hand.Shut
      (m' ((c.tc : Thread Cert.ReferenceIdeal.nD Cert.ReferenceIdeal.τ).loc Cert.ReferenceIdeal.main_arg14)) := fun c => by
    obtain ⟨_, _, _, _, _, _, _, _, _, _, _, _, _, _, h14, _⟩ := hagree c
    rw [h14]
    exact (given c).shut
  refine θ_run_mono (θ_run_and (Cert.ReferenceIdeal.Hand.ends m' g' shut) (Cert.ReferenceIdeal.Value.run m' g'))
    fun r h c => ⟨(h.1 c).trans ?_, (h.2 c).2⟩
  obtain ⟨h0, h1, h2, h3, _, _, _, _, _, _, _, _, _, _, _, h15, h16, h17, h18, h19, h20, h21, h22⟩ := hagree c
  unfold Cert.ReferenceIdeal.Hand.netOf Cert.KernelIdeal.Hand.result
  rw [h0, h1, h2, h3, h15, h16, h17, h18, h19, h20, h21, h22]
  exact (Cert.Meet.fwd_eq_net (given c) _ _ _ _ _ _ _ _ _).symm

/-- The five claims. -/
theorem claim : Cert.Claim :=
  ⟨Cert.Kernel.Gen.facts, Cert.KernelIdeal.Gen.facts, Cert.ReferenceIdeal.Gen.facts, Cert.Pre_inputs.Hand.facts,
    kernel_frame, ideal_frame, fun m g _ => ideal_frame m g trivial, reference_frame,
    fun m g _ => reference_frame m g trivial, trivial, value⟩

end Cert.Proof

end
